-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩
abbrev S2x512x8x64 : Shape := ⟨4, ![2, 512, 8, 64]⟩
abbrev S2x8x512x64 : Shape := ⟨4, ![2, 8, 512, 64]⟩
abbrev S1024x768 : Shape := ⟨2, ![1024, 768]⟩
abbrev S1024x512 : Shape := ⟨2, ![1024, 512]⟩
abbrev S384x768 : Shape := ⟨2, ![384, 768]⟩
abbrev S320x768 : Shape := ⟨2, ![320, 768]⟩
abbrev S6 : Shape := ⟨1, ![6]⟩
abbrev S512x512 : Shape := ⟨2, ![512, 512]⟩
abbrev S512x64 : Shape := ⟨2, ![512, 64]⟩
abbrev S1x1x512x64 : Shape := ⟨4, ![1, 1, 512, 64]⟩
abbrev S512 : Shape := ⟨1, ![512]⟩
abbrev S512x1 : Shape := ⟨2, ![512, 1]⟩
abbrev S1 : Shape := ⟨1, ![1]⟩
abbrev S192x768 : Shape := ⟨2, ![192, 768]⟩
abbrev S160x768 : Shape := ⟨2, ![160, 768]⟩
abbrev S96x768 : Shape := ⟨2, ![96, 768]⟩
abbrev S80x768 : Shape := ⟨2, ![80, 768]⟩
abbrev S48x768 : Shape := ⟨2, ![48, 768]⟩
abbrev S40x768 : Shape := ⟨2, ![40, 768]⟩

abbrev nBuf : Space → Nat
  | .hbm => 38
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x64x64, .f32⟩
  | .hbm, ⟨3, _⟩ => ⟨S2x512x64x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x8x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x8x64, .f32⟩
  | .hbm, ⟨33, _⟩ => ⟨S2x8x512x64, .f32⟩
  | .hbm, ⟨34, _⟩ => ⟨S2x8x512x64, .f32⟩
  | .hbm, ⟨35, _⟩ => ⟨S1024x768, .f32⟩
  | .hbm, ⟨36, _⟩ => ⟨S1024x768, .f32⟩
  | .hbm, ⟨37, _⟩ => ⟨S2x512x768, .f32⟩
  | .local _ .vmem, ⟨0, _⟩ => ⟨S1024x768, .f32⟩
  | .local _ .vmem, ⟨1, _⟩ => ⟨S768x512, .f32⟩
  | .local _ .vmem, ⟨2, _⟩ => ⟨S2x8x512x64, .f32⟩
  | .local _ .vmem, ⟨3, _⟩ => ⟨S2x8x512x64, .f32⟩
  | .local _ .vmem, ⟨4, _⟩ => ⟨S512x768, .f32⟩
  | .local _ .vmem, ⟨5, _⟩ => ⟨S1024x768, .f32⟩
  | .local _ .vmem, ⟨6, _⟩ => ⟨S1024x512, .f32⟩
  | .local _ .vmem, ⟨7, _⟩ => ⟨S384x768, .f32⟩
  | .local _ .vmem, ⟨8, _⟩ => ⟨S320x768, .f32⟩
  | .local _ .vmem, ⟨9, _⟩ => ⟨S320x768, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v21 : BitVec 32 := Scalar.addi v2 c1_i32_13
  let c2_i32_20 : BitVec 32 := 2#32
  let c2_i32_14 : BitVec 32 := 2#32
  let c0_i32_15 : BitVec 32 := 0#32
  let v22 : BitVec 1 := Scalar.cmpi .eq c2_i32_14 c0_i32_15
  let c1_i32_16 : BitVec 32 := 1#32
  let v23 : BitVec 32 := Scalar.select v22 c1_i32_16 c2_i32_14
  let v24 : BitVec 32 := Scalar.remsi v2 v23
  let c0_i32_18 : BitVec 32 := 0#32
  let v26 : BitVec 1 := Scalar.cmpi .slt v24 c0_i32_18
  let c0_i32_19 : BitVec 32 := 0#32
  let v27 : BitVec 1 := Scalar.cmpi .slt v23 c0_i32_19
  let v28 : BitVec 1 := Scalar.xori v26 v27
  let c0_i32_17 : BitVec 32 := 0#32
  let v25 : BitVec 1 := Scalar.cmpi .ne v24 c0_i32_17
  let v29 : BitVec 1 := Scalar.andi v28 v25
  let v30 : BitVec 32 := Scalar.addi v24 v23
  let v31 : BitVec 32 := Scalar.select v29 v30 v24
  let v32 : BitVec 32 := Scalar.muli c2_i32_20 v31
  let v33 : BitVec 32 := Scalar.subi v21 v32
  let c1_i32_37 : BitVec 32 := 1#32
  let v66 : BitVec 32 := Scalar.muli v33 c1_i32_37
  let v67 : BitVec 32 := Scalar.addi c0_i32_38 v66
  v67.toNat
def k0_dev2 (d0 : Dev nD) : Nat :=
  let c0_i32_41 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_22 : BitVec 32 := 0#32
  let v35 : BitVec 1 := Scalar.cmpi .sgt v2 c0_i32_22
  let v36 : BitVec 32 := Scalar.extui v35
  let c0_i32_23 : BitVec 32 := 0#32
  let v37 : BitVec 1 := Scalar.cmpi .slt v2 c0_i32_23
  let v38 : BitVec 32 := Scalar.extui v37
  let v39 : BitVec 32 := Scalar.subi v36 v38
  let c4_i32_21 : BitVec 32 := 4#32
  let c0_i32_24 : BitVec 32 := 0#32
  let v40 : BitVec 1 := Scalar.cmpi .sgt c4_i32_21 c0_i32_24
  let v41 : BitVec 32 := Scalar.extui v40
  let c0_i32_25 : BitVec 32 := 0#32
  let v42 : BitVec 1 := Scalar.cmpi .slt c4_i32_21 c0_i32_25
  let v43 : BitVec 32 := Scalar.extui v42
  let v44 : BitVec 32 := Scalar.subi v41 v43
  let v45 : BitVec 1 := Scalar.cmpi .ne v39 v44
  let v46 : BitVec 32 := Scalar.remsi v2 c4_i32_21
  let c0_i32_26 : BitVec 32 := 0#32
  let v47 : BitVec 1 := Scalar.cmpi .ne v46 c0_i32_26
  let v48 : BitVec 1 := Scalar.andi v45 v47
  let v34 : BitVec 32 := Scalar.divsi v2 c4_i32_21
  let c1_i32_27 : BitVec 32 := 1#32
  let v49 : BitVec 32 := Scalar.subi v34 c1_i32_27
  let v50 : BitVec 32 := Scalar.select v48 v49 v34
  let v51 : BitVec 32 := Scalar.muli c4_i32_28 v50
  let c3_i32 : BitVec 32 := 3#32
  let v52 : BitVec 32 := Scalar.addi v51 c3_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v53 : BitVec 32 := Scalar.subi v52 v12
  let c1_i32_40 : BitVec 32 := 1#32
  let v68 : BitVec 32 := Scalar.muli v53 c1_i32_40
  let v69 : BitVec 32 := Scalar.addi c0_i32_41 v68
  v69.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v54 : BitVec 32 := Scalar.addi v2 c4_i32_29
  let c8_i32_30 : BitVec 32 := 8#32
  let c0_i32_31 : BitVec 32 := 0#32
  let v55 : BitVec 1 := Scalar.cmpi .eq c8_i32_30 c0_i32_31
  let c1_i32_32 : BitVec 32 := 1#32
  let v56 : BitVec 32 := Scalar.select v55 c1_i32_32 c8_i32_30
  let v57 : BitVec 32 := Scalar.remsi v54 v56
  let c0_i32_34 : BitVec 32 := 0#32
  let v59 : BitVec 1 := Scalar.cmpi .slt v57 c0_i32_34
  let c0_i32_35 : BitVec 32 := 0#32
  let v60 : BitVec 1 := Scalar.cmpi .slt v56 c0_i32_35
  let v61 : BitVec 1 := Scalar.xori v59 v60
  let c0_i32_33 : BitVec 32 := 0#32
  let v58 : BitVec 1 := Scalar.cmpi .ne v57 c0_i32_33
  let v62 : BitVec 1 := Scalar.andi v61 v58
  let v63 : BitVec 32 := Scalar.addi v57 v56
  let v64 : BitVec 32 := Scalar.select v62 v63 v57
  let c1_i32_43 : BitVec 32 := 1#32
  let v70 : BitVec 32 := Scalar.muli v64 c1_i32_43
  let v71 : BitVec 32 := Scalar.addi c0_i32_44 v70
  v71.toNat
def k0_off1 (d0 : Dev nD) : Fin 2 → Nat :=
  let c0_i32_311 : BitVec 32 := 0#32
  let c1_i32_310 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let v501 : BitVec 32 := Scalar.subi c1_i32_310 v16
  let c192_i32 : BitVec 32 := 192#32
  let v502 : BitVec 32 := Scalar.muli v501 c192_i32
  let v503 : BitVec 32 := Scalar.addi c0_i32_311 v502
  let c0_i32_320 : BitVec 32 := 0#32
  ![v503.toNat, 0]
def k0_dev4 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v21 : BitVec 32 := Scalar.addi v2 c1_i32_13
  let c2_i32_20 : BitVec 32 := 2#32
  let c2_i32_14 : BitVec 32 := 2#32
  let c0_i32_15 : BitVec 32 := 0#32
  let v22 : BitVec 1 := Scalar.cmpi .eq c2_i32_14 c0_i32_15
  let c1_i32_16 : BitVec 32 := 1#32
  let v23 : BitVec 32 := Scalar.select v22 c1_i32_16 c2_i32_14
  let v24 : BitVec 32 := Scalar.remsi v2 v23
  let c0_i32_18 : BitVec 32 := 0#32
  let v26 : BitVec 1 := Scalar.cmpi .slt v24 c0_i32_18
  let c0_i32_19 : BitVec 32 := 0#32
  let v27 : BitVec 1 := Scalar.cmpi .slt v23 c0_i32_19
  let v28 : BitVec 1 := Scalar.xori v26 v27
  let c0_i32_17 : BitVec 32 := 0#32
  let v25 : BitVec 1 := Scalar.cmpi .ne v24 c0_i32_17
  let v29 : BitVec 1 := Scalar.andi v28 v25
  let v30 : BitVec 32 := Scalar.addi v24 v23
  let v31 : BitVec 32 := Scalar.select v29 v30 v24
  let v32 : BitVec 32 := Scalar.muli c2_i32_20 v31
  let v33 : BitVec 32 := Scalar.subi v21 v32
  let c1_i32_316 : BitVec 32 := 1#32
  let v506 : BitVec 32 := Scalar.muli v33 c1_i32_316
  let v507 : BitVec 32 := Scalar.addi c0_i32_317 v506
  v507.toNat
def k0_off2 (d0 : Dev nD) : Fin 2 → Nat :=
  let c384_i32 : BitVec 32 := 384#32
  let c1_i32_321 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let v514 : BitVec 32 := Scalar.subi c1_i32_321 v18
  let c160_i32 : BitVec 32 := 160#32
  let v515 : BitVec 32 := Scalar.muli v514 c160_i32
  let v516 : BitVec 32 := Scalar.addi c384_i32 v515
  let c0_i32_330 : BitVec 32 := 0#32
  ![v516.toNat, 0]
def k0_dev5 (d0 : Dev nD) : Nat :=
  let c0_i32_327 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_22 : BitVec 32 := 0#32
  let v35 : BitVec 1 := Scalar.cmpi .sgt v2 c0_i32_22
  let v36 : BitVec 32 := Scalar.extui v35
  let c0_i32_23 : BitVec 32 := 0#32
  let v37 : BitVec 1 := Scalar.cmpi .slt v2 c0_i32_23
  let v38 : BitVec 32 := Scalar.extui v37
  let v39 : BitVec 32 := Scalar.subi v36 v38
  let c4_i32_21 : BitVec 32 := 4#32
  let c0_i32_24 : BitVec 32 := 0#32
  let v40 : BitVec 1 := Scalar.cmpi .sgt c4_i32_21 c0_i32_24
  let v41 : BitVec 32 := Scalar.extui v40
  let c0_i32_25 : BitVec 32 := 0#32
  let v42 : BitVec 1 := Scalar.cmpi .slt c4_i32_21 c0_i32_25
  let v43 : BitVec 32 := Scalar.extui v42
  let v44 : BitVec 32 := Scalar.subi v41 v43
  let v45 : BitVec 1 := Scalar.cmpi .ne v39 v44
  let v46 : BitVec 32 := Scalar.remsi v2 c4_i32_21
  let c0_i32_26 : BitVec 32 := 0#32
  let v47 : BitVec 1 := Scalar.cmpi .ne v46 c0_i32_26
  let v48 : BitVec 1 := Scalar.andi v45 v47
  let v34 : BitVec 32 := Scalar.divsi v2 c4_i32_21
  let c1_i32_27 : BitVec 32 := 1#32
  let v49 : BitVec 32 := Scalar.subi v34 c1_i32_27
  let v50 : BitVec 32 := Scalar.select v48 v49 v34
  let v51 : BitVec 32 := Scalar.muli c4_i32_28 v50
  let c3_i32 : BitVec 32 := 3#32
  let v52 : BitVec 32 := Scalar.addi v51 c3_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v53 : BitVec 32 := Scalar.subi v52 v12
  let c1_i32_326 : BitVec 32 := 1#32
  let v519 : BitVec 32 := Scalar.muli v53 c1_i32_326
  let v520 : BitVec 32 := Scalar.addi c0_i32_327 v519
  v520.toNat
def k0_off3 (d0 : Dev nD) : Fin 2 → Nat :=
  let c704_i32 : BitVec 32 := 704#32
  let c1_i32_331 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let v527 : BitVec 32 := Scalar.subi c1_i32_331 v20
  let c160_i32_332 : BitVec 32 := 160#32
  let v528 : BitVec 32 := Scalar.muli v527 c160_i32_332
  let v529 : BitVec 32 := Scalar.addi c704_i32 v528
  let c0_i32_341 : BitVec 32 := 0#32
  ![v529.toNat, 0]
def k0_dev6 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v54 : BitVec 32 := Scalar.addi v2 c4_i32_29
  let c8_i32_30 : BitVec 32 := 8#32
  let c0_i32_31 : BitVec 32 := 0#32
  let v55 : BitVec 1 := Scalar.cmpi .eq c8_i32_30 c0_i32_31
  let c1_i32_32 : BitVec 32 := 1#32
  let v56 : BitVec 32 := Scalar.select v55 c1_i32_32 c8_i32_30
  let v57 : BitVec 32 := Scalar.remsi v54 v56
  let c0_i32_34 : BitVec 32 := 0#32
  let v59 : BitVec 1 := Scalar.cmpi .slt v57 c0_i32_34
  let c0_i32_35 : BitVec 32 := 0#32
  let v60 : BitVec 1 := Scalar.cmpi .slt v56 c0_i32_35
  let v61 : BitVec 1 := Scalar.xori v59 v60
  let c0_i32_33 : BitVec 32 := 0#32
  let v58 : BitVec 1 := Scalar.cmpi .ne v57 c0_i32_33
  let v62 : BitVec 1 := Scalar.andi v61 v58
  let v63 : BitVec 32 := Scalar.addi v57 v56
  let v64 : BitVec 32 := Scalar.select v62 v63 v57
  let c1_i32_337 : BitVec 32 := 1#32
  let v532 : BitVec 32 := Scalar.muli v64 c1_i32_337
  let v533 : BitVec 32 := Scalar.addi c0_i32_338 v532
  v533.toNat
def k0_off4 (d0 : Dev nD) : Fin 2 → Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_312 : BitVec 32 := 192#32
  let v504 : BitVec 32 := Scalar.muli v16 c192_i32_312
  let v505 : BitVec 32 := Scalar.addi c0_i32_313 v504
  let v550 : Index := Scalar.indexCast v505
  let c0_355 : Index := 0#32
  ![v550.toNat, 0]
def k0_off5 (d0 : Dev nD) : Fin 2 → Nat :=
  let c384_i32_323 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c160_i32_322 : BitVec 32 := 160#32
  let v517 : BitVec 32 := Scalar.muli v18 c160_i32_322
  let v518 : BitVec 32 := Scalar.addi c384_i32_323 v517
  let v567 : Index := Scalar.indexCast v518
  let c0_372 : Index := 0#32
  ![v567.toNat, 0]
def k0_off6 (d0 : Dev nD) : Fin 2 → Nat :=
  let c704_i32_334 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c160_i32_333 : BitVec 32 := 160#32
  let v530 : BitVec 32 := Scalar.muli v20 c160_i32_333
  let v531 : BitVec 32 := Scalar.addi c704_i32_334 v530
  let v584 : Index := Scalar.indexCast v531
  let c0_389 : Index := 0#32
  ![v584.toNat, 0]
def k0_off7 (d0 : Dev nD) : Fin 2 → Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_312 : BitVec 32 := 192#32
  let v504 : BitVec 32 := Scalar.muli v16 c192_i32_312
  let v505 : BitVec 32 := Scalar.addi c0_i32_313 v504
  let c1_i32_393 : BitVec 32 := 1#32
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let v591 : BitVec 32 := Scalar.subi c1_i32_393 v18
  let c96_i32 : BitVec 32 := 96#32
  let v592 : BitVec 32 := Scalar.muli v591 c96_i32
  let v593 : BitVec 32 := Scalar.addi v505 v592
  let c0_i32_401 : BitVec 32 := 0#32
  ![v593.toNat, 0]
def k0_dev7 (d0 : Dev nD) : Nat :=
  let c0_i32_398 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_22 : BitVec 32 := 0#32
  let v35 : BitVec 1 := Scalar.cmpi .sgt v2 c0_i32_22
  let v36 : BitVec 32 := Scalar.extui v35
  let c0_i32_23 : BitVec 32 := 0#32
  let v37 : BitVec 1 := Scalar.cmpi .slt v2 c0_i32_23
  let v38 : BitVec 32 := Scalar.extui v37
  let v39 : BitVec 32 := Scalar.subi v36 v38
  let c4_i32_21 : BitVec 32 := 4#32
  let c0_i32_24 : BitVec 32 := 0#32
  let v40 : BitVec 1 := Scalar.cmpi .sgt c4_i32_21 c0_i32_24
  let v41 : BitVec 32 := Scalar.extui v40
  let c0_i32_25 : BitVec 32 := 0#32
  let v42 : BitVec 1 := Scalar.cmpi .slt c4_i32_21 c0_i32_25
  let v43 : BitVec 32 := Scalar.extui v42
  let v44 : BitVec 32 := Scalar.subi v41 v43
  let v45 : BitVec 1 := Scalar.cmpi .ne v39 v44
  let v46 : BitVec 32 := Scalar.remsi v2 c4_i32_21
  let c0_i32_26 : BitVec 32 := 0#32
  let v47 : BitVec 1 := Scalar.cmpi .ne v46 c0_i32_26
  let v48 : BitVec 1 := Scalar.andi v45 v47
  let v34 : BitVec 32 := Scalar.divsi v2 c4_i32_21
  let c1_i32_27 : BitVec 32 := 1#32
  let v49 : BitVec 32 := Scalar.subi v34 c1_i32_27
  let v50 : BitVec 32 := Scalar.select v48 v49 v34
  let v51 : BitVec 32 := Scalar.muli c4_i32_28 v50
  let c3_i32 : BitVec 32 := 3#32
  let v52 : BitVec 32 := Scalar.addi v51 c3_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v53 : BitVec 32 := Scalar.subi v52 v12
  let c1_i32_397 : BitVec 32 := 1#32
  let v596 : BitVec 32 := Scalar.muli v53 c1_i32_397
  let v597 : BitVec 32 := Scalar.addi c0_i32_398 v596
  v597.toNat
def k0_off8 (d0 : Dev nD) : Fin 2 → Nat :=
  let c384_i32_323 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c160_i32_322 : BitVec 32 := 160#32
  let v517 : BitVec 32 := Scalar.muli v18 c160_i32_322
  let v518 : BitVec 32 := Scalar.addi c384_i32_323 v517
  let c1_i32_402 : BitVec 32 := 1#32
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let v604 : BitVec 32 := Scalar.subi c1_i32_402 v20
  let c80_i32 : BitVec 32 := 80#32
  let v605 : BitVec 32 := Scalar.muli v604 c80_i32
  let v606 : BitVec 32 := Scalar.addi v518 v605
  let c0_i32_410 : BitVec 32 := 0#32
  ![v606.toNat, 0]
def k0_dev8 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v54 : BitVec 32 := Scalar.addi v2 c4_i32_29
  let c8_i32_30 : BitVec 32 := 8#32
  let c0_i32_31 : BitVec 32 := 0#32
  let v55 : BitVec 1 := Scalar.cmpi .eq c8_i32_30 c0_i32_31
  let c1_i32_32 : BitVec 32 := 1#32
  let v56 : BitVec 32 := Scalar.select v55 c1_i32_32 c8_i32_30
  let v57 : BitVec 32 := Scalar.remsi v54 v56
  let c0_i32_34 : BitVec 32 := 0#32
  let v59 : BitVec 1 := Scalar.cmpi .slt v57 c0_i32_34
  let c0_i32_35 : BitVec 32 := 0#32
  let v60 : BitVec 1 := Scalar.cmpi .slt v56 c0_i32_35
  let v61 : BitVec 1 := Scalar.xori v59 v60
  let c0_i32_33 : BitVec 32 := 0#32
  let v58 : BitVec 1 := Scalar.cmpi .ne v57 c0_i32_33
  let v62 : BitVec 1 := Scalar.andi v61 v58
  let v63 : BitVec 32 := Scalar.addi v57 v56
  let v64 : BitVec 32 := Scalar.select v62 v63 v57
  let c1_i32_406 : BitVec 32 := 1#32
  let v609 : BitVec 32 := Scalar.muli v64 c1_i32_406
  let v610 : BitVec 32 := Scalar.addi c0_i32_407 v609
  v610.toNat
def k0_off9 (d0 : Dev nD) : Fin 2 → Nat :=
  let c704_i32_334 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c160_i32_333 : BitVec 32 := 160#32
  let v530 : BitVec 32 := Scalar.muli v20 c160_i32_333
  let v531 : BitVec 32 := Scalar.addi c704_i32_334 v530
  let c1_i32_411 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let v617 : BitVec 32 := Scalar.subi c1_i32_411 v16
  let c80_i32_412 : BitVec 32 := 80#32
  let v618 : BitVec 32 := Scalar.muli v617 c80_i32_412
  let v619 : BitVec 32 := Scalar.addi v531 v618
  let c0_i32_419 : BitVec 32 := 0#32
  ![v619.toNat, 0]
def k0_dev9 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v21 : BitVec 32 := Scalar.addi v2 c1_i32_13
  let c2_i32_20 : BitVec 32 := 2#32
  let c2_i32_14 : BitVec 32 := 2#32
  let c0_i32_15 : BitVec 32 := 0#32
  let v22 : BitVec 1 := Scalar.cmpi .eq c2_i32_14 c0_i32_15
  let c1_i32_16 : BitVec 32 := 1#32
  let v23 : BitVec 32 := Scalar.select v22 c1_i32_16 c2_i32_14
  let v24 : BitVec 32 := Scalar.remsi v2 v23
  let c0_i32_18 : BitVec 32 := 0#32
  let v26 : BitVec 1 := Scalar.cmpi .slt v24 c0_i32_18
  let c0_i32_19 : BitVec 32 := 0#32
  let v27 : BitVec 1 := Scalar.cmpi .slt v23 c0_i32_19
  let v28 : BitVec 1 := Scalar.xori v26 v27
  let c0_i32_17 : BitVec 32 := 0#32
  let v25 : BitVec 1 := Scalar.cmpi .ne v24 c0_i32_17
  let v29 : BitVec 1 := Scalar.andi v28 v25
  let v30 : BitVec 32 := Scalar.addi v24 v23
  let v31 : BitVec 32 := Scalar.select v29 v30 v24
  let v32 : BitVec 32 := Scalar.muli c2_i32_20 v31
  let v33 : BitVec 32 := Scalar.subi v21 v32
  let c1_i32_415 : BitVec 32 := 1#32
  let v622 : BitVec 32 := Scalar.muli v33 c1_i32_415
  let v623 : BitVec 32 := Scalar.addi c0_i32_416 v622
  v623.toNat
def k0_off10 (d0 : Dev nD) : Fin 2 → Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_312 : BitVec 32 := 192#32
  let v504 : BitVec 32 := Scalar.muli v16 c192_i32_312
  let v505 : BitVec 32 := Scalar.addi c0_i32_313 v504
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c96_i32_394 : BitVec 32 := 96#32
  let v594 : BitVec 32 := Scalar.muli v18 c96_i32_394
  let v595 : BitVec 32 := Scalar.addi v505 v594
  let v640 : Index := Scalar.indexCast v595
  let c0_433 : Index := 0#32
  ![v640.toNat, 0]
def k0_off11 (d0 : Dev nD) : Fin 2 → Nat :=
  let c384_i32_323 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c160_i32_322 : BitVec 32 := 160#32
  let v517 : BitVec 32 := Scalar.muli v18 c160_i32_322
  let v518 : BitVec 32 := Scalar.addi c384_i32_323 v517
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c80_i32_403 : BitVec 32 := 80#32
  let v607 : BitVec 32 := Scalar.muli v20 c80_i32_403
  let v608 : BitVec 32 := Scalar.addi v518 v607
  let v657 : Index := Scalar.indexCast v608
  let c0_450 : Index := 0#32
  ![v657.toNat, 0]
def k0_off12 (d0 : Dev nD) : Fin 2 → Nat :=
  let c704_i32_334 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c160_i32_333 : BitVec 32 := 160#32
  let v530 : BitVec 32 := Scalar.muli v20 c160_i32_333
  let v531 : BitVec 32 := Scalar.addi c704_i32_334 v530
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c80_i32_413 : BitVec 32 := 80#32
  let v620 : BitVec 32 := Scalar.muli v16 c80_i32_413
  let v621 : BitVec 32 := Scalar.addi v531 v620
  let v674 : Index := Scalar.indexCast v621
  let c0_466 : Index := 0#32
  ![v674.toNat, 0]
def k0_off13 (d0 : Dev nD) : Fin 2 → Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_312 : BitVec 32 := 192#32
  let v504 : BitVec 32 := Scalar.muli v16 c192_i32_312
  let v505 : BitVec 32 := Scalar.addi c0_i32_313 v504
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c96_i32_394 : BitVec 32 := 96#32
  let v594 : BitVec 32 := Scalar.muli v18 c96_i32_394
  let v595 : BitVec 32 := Scalar.addi v505 v594
  let c1_i32_470 : BitVec 32 := 1#32
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let v681 : BitVec 32 := Scalar.subi c1_i32_470 v20
  let c48_i32 : BitVec 32 := 48#32
  let v682 : BitVec 32 := Scalar.muli v681 c48_i32
  let v683 : BitVec 32 := Scalar.addi v595 v682
  let c0_i32_478 : BitVec 32 := 0#32
  ![v683.toNat, 0]
def k0_dev10 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v54 : BitVec 32 := Scalar.addi v2 c4_i32_29
  let c8_i32_30 : BitVec 32 := 8#32
  let c0_i32_31 : BitVec 32 := 0#32
  let v55 : BitVec 1 := Scalar.cmpi .eq c8_i32_30 c0_i32_31
  let c1_i32_32 : BitVec 32 := 1#32
  let v56 : BitVec 32 := Scalar.select v55 c1_i32_32 c8_i32_30
  let v57 : BitVec 32 := Scalar.remsi v54 v56
  let c0_i32_34 : BitVec 32 := 0#32
  let v59 : BitVec 1 := Scalar.cmpi .slt v57 c0_i32_34
  let c0_i32_35 : BitVec 32 := 0#32
  let v60 : BitVec 1 := Scalar.cmpi .slt v56 c0_i32_35
  let v61 : BitVec 1 := Scalar.xori v59 v60
  let c0_i32_33 : BitVec 32 := 0#32
  let v58 : BitVec 1 := Scalar.cmpi .ne v57 c0_i32_33
  let v62 : BitVec 1 := Scalar.andi v61 v58
  let v63 : BitVec 32 := Scalar.addi v57 v56
  let v64 : BitVec 32 := Scalar.select v62 v63 v57
  let c1_i32_474 : BitVec 32 := 1#32
  let v686 : BitVec 32 := Scalar.muli v64 c1_i32_474
  let v687 : BitVec 32 := Scalar.addi c0_i32_475 v686
  v687.toNat
def k0_off14 (d0 : Dev nD) : Fin 2 → Nat :=
  let c384_i32_323 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c160_i32_322 : BitVec 32 := 160#32
  let v517 : BitVec 32 := Scalar.muli v18 c160_i32_322
  let v518 : BitVec 32 := Scalar.addi c384_i32_323 v517
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c80_i32_403 : BitVec 32 := 80#32
  let v607 : BitVec 32 := Scalar.muli v20 c80_i32_403
  let v608 : BitVec 32 := Scalar.addi v518 v607
  let c1_i32_479 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let v694 : BitVec 32 := Scalar.subi c1_i32_479 v16
  let c40_i32 : BitVec 32 := 40#32
  let v695 : BitVec 32 := Scalar.muli v694 c40_i32
  let v696 : BitVec 32 := Scalar.addi v608 v695
  let c0_i32_487 : BitVec 32 := 0#32
  ![v696.toNat, 0]
def k0_dev11 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v21 : BitVec 32 := Scalar.addi v2 c1_i32_13
  let c2_i32_20 : BitVec 32 := 2#32
  let c2_i32_14 : BitVec 32 := 2#32
  let c0_i32_15 : BitVec 32 := 0#32
  let v22 : BitVec 1 := Scalar.cmpi .eq c2_i32_14 c0_i32_15
  let c1_i32_16 : BitVec 32 := 1#32
  let v23 : BitVec 32 := Scalar.select v22 c1_i32_16 c2_i32_14
  let v24 : BitVec 32 := Scalar.remsi v2 v23
  let c0_i32_18 : BitVec 32 := 0#32
  let v26 : BitVec 1 := Scalar.cmpi .slt v24 c0_i32_18
  let c0_i32_19 : BitVec 32 := 0#32
  let v27 : BitVec 1 := Scalar.cmpi .slt v23 c0_i32_19
  let v28 : BitVec 1 := Scalar.xori v26 v27
  let c0_i32_17 : BitVec 32 := 0#32
  let v25 : BitVec 1 := Scalar.cmpi .ne v24 c0_i32_17
  let v29 : BitVec 1 := Scalar.andi v28 v25
  let v30 : BitVec 32 := Scalar.addi v24 v23
  let v31 : BitVec 32 := Scalar.select v29 v30 v24
  let v32 : BitVec 32 := Scalar.muli c2_i32_20 v31
  let v33 : BitVec 32 := Scalar.subi v21 v32
  let c1_i32_483 : BitVec 32 := 1#32
  let v699 : BitVec 32 := Scalar.muli v33 c1_i32_483
  let v700 : BitVec 32 := Scalar.addi c0_i32_484 v699
  v700.toNat
def k0_off15 (d0 : Dev nD) : Fin 2 → Nat :=
  let c704_i32_334 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c160_i32_333 : BitVec 32 := 160#32
  let v530 : BitVec 32 := Scalar.muli v20 c160_i32_333
  let v531 : BitVec 32 := Scalar.addi c704_i32_334 v530
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c80_i32_413 : BitVec 32 := 80#32
  let v620 : BitVec 32 := Scalar.muli v16 c80_i32_413
  let v621 : BitVec 32 := Scalar.addi v531 v620
  let c1_i32_488 : BitVec 32 := 1#32
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let v707 : BitVec 32 := Scalar.subi c1_i32_488 v18
  let c40_i32_489 : BitVec 32 := 40#32
  let v708 : BitVec 32 := Scalar.muli v707 c40_i32_489
  let v709 : BitVec 32 := Scalar.addi v621 v708
  let c0_i32_497 : BitVec 32 := 0#32
  ![v709.toNat, 0]
def k0_dev12 (d0 : Dev nD) : Nat :=
  let c0_i32_494 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_22 : BitVec 32 := 0#32
  let v35 : BitVec 1 := Scalar.cmpi .sgt v2 c0_i32_22
  let v36 : BitVec 32 := Scalar.extui v35
  let c0_i32_23 : BitVec 32 := 0#32
  let v37 : BitVec 1 := Scalar.cmpi .slt v2 c0_i32_23
  let v38 : BitVec 32 := Scalar.extui v37
  let v39 : BitVec 32 := Scalar.subi v36 v38
  let c4_i32_21 : BitVec 32 := 4#32
  let c0_i32_24 : BitVec 32 := 0#32
  let v40 : BitVec 1 := Scalar.cmpi .sgt c4_i32_21 c0_i32_24
  let v41 : BitVec 32 := Scalar.extui v40
  let c0_i32_25 : BitVec 32 := 0#32
  let v42 : BitVec 1 := Scalar.cmpi .slt c4_i32_21 c0_i32_25
  let v43 : BitVec 32 := Scalar.extui v42
  let v44 : BitVec 32 := Scalar.subi v41 v43
  let v45 : BitVec 1 := Scalar.cmpi .ne v39 v44
  let v46 : BitVec 32 := Scalar.remsi v2 c4_i32_21
  let c0_i32_26 : BitVec 32 := 0#32
  let v47 : BitVec 1 := Scalar.cmpi .ne v46 c0_i32_26
  let v48 : BitVec 1 := Scalar.andi v45 v47
  let v34 : BitVec 32 := Scalar.divsi v2 c4_i32_21
  let c1_i32_27 : BitVec 32 := 1#32
  let v49 : BitVec 32 := Scalar.subi v34 c1_i32_27
  let v50 : BitVec 32 := Scalar.select v48 v49 v34
  let v51 : BitVec 32 := Scalar.muli c4_i32_28 v50
  let c3_i32 : BitVec 32 := 3#32
  let v52 : BitVec 32 := Scalar.addi v51 c3_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v53 : BitVec 32 := Scalar.subi v52 v12
  let c1_i32_493 : BitVec 32 := 1#32
  let v712 : BitVec 32 := Scalar.muli v53 c1_i32_493
  let v713 : BitVec 32 := Scalar.addi c0_i32_494 v712
  v713.toNat
def k0_off16 (d0 : Dev nD) : Fin 2 → Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_312 : BitVec 32 := 192#32
  let v504 : BitVec 32 := Scalar.muli v16 c192_i32_312
  let v505 : BitVec 32 := Scalar.addi c0_i32_313 v504
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c96_i32_394 : BitVec 32 := 96#32
  let v594 : BitVec 32 := Scalar.muli v18 c96_i32_394
  let v595 : BitVec 32 := Scalar.addi v505 v594
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c48_i32_471 : BitVec 32 := 48#32
  let v684 : BitVec 32 := Scalar.muli v20 c48_i32_471
  let v685 : BitVec 32 := Scalar.addi v595 v684
  let v730 : Index := Scalar.indexCast v685
  let c0_511 : Index := 0#32
  ![v730.toNat, 0]
def k0_off17 (d0 : Dev nD) : Fin 2 → Nat :=
  let c384_i32_323 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c160_i32_322 : BitVec 32 := 160#32
  let v517 : BitVec 32 := Scalar.muli v18 c160_i32_322
  let v518 : BitVec 32 := Scalar.addi c384_i32_323 v517
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c80_i32_403 : BitVec 32 := 80#32
  let v607 : BitVec 32 := Scalar.muli v20 c80_i32_403
  let v608 : BitVec 32 := Scalar.addi v518 v607
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c40_i32_480 : BitVec 32 := 40#32
  let v697 : BitVec 32 := Scalar.muli v16 c40_i32_480
  let v698 : BitVec 32 := Scalar.addi v608 v697
  let v747 : Index := Scalar.indexCast v698
  let c0_528 : Index := 0#32
  ![v747.toNat, 0]
def k0_off18 (d0 : Dev nD) : Fin 2 → Nat :=
  let c704_i32_334 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c160_i32_333 : BitVec 32 := 160#32
  let v530 : BitVec 32 := Scalar.muli v20 c160_i32_333
  let v531 : BitVec 32 := Scalar.addi c704_i32_334 v530
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c80_i32_413 : BitVec 32 := 80#32
  let v620 : BitVec 32 := Scalar.muli v16 c80_i32_413
  let v621 : BitVec 32 := Scalar.addi v531 v620
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c40_i32_490 : BitVec 32 := 40#32
  let v710 : BitVec 32 := Scalar.muli v18 c40_i32_490
  let v711 : BitVec 32 := Scalar.addi v621 v710
  let v764 : Index := Scalar.indexCast v711
  let c0_545 : Index := 0#32
  ![v764.toNat, 0]
def k0_off19 (d0 : Dev nD) : Fin 2 → Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_312 : BitVec 32 := 192#32
  let v504 : BitVec 32 := Scalar.muli v16 c192_i32_312
  let v505 : BitVec 32 := Scalar.addi c0_i32_313 v504
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c96_i32_394 : BitVec 32 := 96#32
  let v594 : BitVec 32 := Scalar.muli v18 c96_i32_394
  let v595 : BitVec 32 := Scalar.addi v505 v594
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c48_i32_471 : BitVec 32 := 48#32
  let v684 : BitVec 32 := Scalar.muli v20 c48_i32_471
  let v685 : BitVec 32 := Scalar.addi v595 v684
  let c0_i32_553 : BitVec 32 := 0#32
  ![v685.toNat, 0]
def k0_dev13 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v54 : BitVec 32 := Scalar.addi v2 c4_i32_29
  let c8_i32_30 : BitVec 32 := 8#32
  let c0_i32_31 : BitVec 32 := 0#32
  let v55 : BitVec 1 := Scalar.cmpi .eq c8_i32_30 c0_i32_31
  let c1_i32_32 : BitVec 32 := 1#32
  let v56 : BitVec 32 := Scalar.select v55 c1_i32_32 c8_i32_30
  let v57 : BitVec 32 := Scalar.remsi v54 v56
  let c0_i32_34 : BitVec 32 := 0#32
  let v59 : BitVec 1 := Scalar.cmpi .slt v57 c0_i32_34
  let c0_i32_35 : BitVec 32 := 0#32
  let v60 : BitVec 1 := Scalar.cmpi .slt v56 c0_i32_35
  let v61 : BitVec 1 := Scalar.xori v59 v60
  let c0_i32_33 : BitVec 32 := 0#32
  let v58 : BitVec 1 := Scalar.cmpi .ne v57 c0_i32_33
  let v62 : BitVec 1 := Scalar.andi v61 v58
  let v63 : BitVec 32 := Scalar.addi v57 v56
  let v64 : BitVec 32 := Scalar.select v62 v63 v57
  let c1_i32_551 : BitVec 32 := 1#32
  let v771 : BitVec 32 := Scalar.muli v64 c1_i32_551
  let v772 : BitVec 32 := Scalar.addi c0_i32_552 v771
  v772.toNat
def k0_off20 (d0 : Dev nD) : Fin 2 → Nat :=
  let c384_i32_323 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c160_i32_322 : BitVec 32 := 160#32
  let v517 : BitVec 32 := Scalar.muli v18 c160_i32_322
  let v518 : BitVec 32 := Scalar.addi c384_i32_323 v517
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c80_i32_403 : BitVec 32 := 80#32
  let v607 : BitVec 32 := Scalar.muli v20 c80_i32_403
  let v608 : BitVec 32 := Scalar.addi v518 v607
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c40_i32_480 : BitVec 32 := 40#32
  let v697 : BitVec 32 := Scalar.muli v16 c40_i32_480
  let v698 : BitVec 32 := Scalar.addi v608 v697
  let c0_i32_560 : BitVec 32 := 0#32
  ![v698.toNat, 0]
def k0_dev14 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v21 : BitVec 32 := Scalar.addi v2 c1_i32_13
  let c2_i32_20 : BitVec 32 := 2#32
  let c2_i32_14 : BitVec 32 := 2#32
  let c0_i32_15 : BitVec 32 := 0#32
  let v22 : BitVec 1 := Scalar.cmpi .eq c2_i32_14 c0_i32_15
  let c1_i32_16 : BitVec 32 := 1#32
  let v23 : BitVec 32 := Scalar.select v22 c1_i32_16 c2_i32_14
  let v24 : BitVec 32 := Scalar.remsi v2 v23
  let c0_i32_18 : BitVec 32 := 0#32
  let v26 : BitVec 1 := Scalar.cmpi .slt v24 c0_i32_18
  let c0_i32_19 : BitVec 32 := 0#32
  let v27 : BitVec 1 := Scalar.cmpi .slt v23 c0_i32_19
  let v28 : BitVec 1 := Scalar.xori v26 v27
  let c0_i32_17 : BitVec 32 := 0#32
  let v25 : BitVec 1 := Scalar.cmpi .ne v24 c0_i32_17
  let v29 : BitVec 1 := Scalar.andi v28 v25
  let v30 : BitVec 32 := Scalar.addi v24 v23
  let v31 : BitVec 32 := Scalar.select v29 v30 v24
  let v32 : BitVec 32 := Scalar.muli c2_i32_20 v31
  let v33 : BitVec 32 := Scalar.subi v21 v32
  let c1_i32_558 : BitVec 32 := 1#32
  let v781 : BitVec 32 := Scalar.muli v33 c1_i32_558
  let v782 : BitVec 32 := Scalar.addi c0_i32_559 v781
  v782.toNat
def k0_off21 (d0 : Dev nD) : Fin 2 → Nat :=
  let c704_i32_334 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c160_i32_333 : BitVec 32 := 160#32
  let v530 : BitVec 32 := Scalar.muli v20 c160_i32_333
  let v531 : BitVec 32 := Scalar.addi c704_i32_334 v530
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c80_i32_413 : BitVec 32 := 80#32
  let v620 : BitVec 32 := Scalar.muli v16 c80_i32_413
  let v621 : BitVec 32 := Scalar.addi v531 v620
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c40_i32_490 : BitVec 32 := 40#32
  let v710 : BitVec 32 := Scalar.muli v18 c40_i32_490
  let v711 : BitVec 32 := Scalar.addi v621 v710
  let c0_i32_567 : BitVec 32 := 0#32
  ![v711.toNat, 0]
def k0_dev15 (d0 : Dev nD) : Nat :=
  let c0_i32_566 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_22 : BitVec 32 := 0#32
  let v35 : BitVec 1 := Scalar.cmpi .sgt v2 c0_i32_22
  let v36 : BitVec 32 := Scalar.extui v35
  let c0_i32_23 : BitVec 32 := 0#32
  let v37 : BitVec 1 := Scalar.cmpi .slt v2 c0_i32_23
  let v38 : BitVec 32 := Scalar.extui v37
  let v39 : BitVec 32 := Scalar.subi v36 v38
  let c4_i32_21 : BitVec 32 := 4#32
  let c0_i32_24 : BitVec 32 := 0#32
  let v40 : BitVec 1 := Scalar.cmpi .sgt c4_i32_21 c0_i32_24
  let v41 : BitVec 32 := Scalar.extui v40
  let c0_i32_25 : BitVec 32 := 0#32
  let v42 : BitVec 1 := Scalar.cmpi .slt c4_i32_21 c0_i32_25
  let v43 : BitVec 32 := Scalar.extui v42
  let v44 : BitVec 32 := Scalar.subi v41 v43
  let v45 : BitVec 1 := Scalar.cmpi .ne v39 v44
  let v46 : BitVec 32 := Scalar.remsi v2 c4_i32_21
  let c0_i32_26 : BitVec 32 := 0#32
  let v47 : BitVec 1 := Scalar.cmpi .ne v46 c0_i32_26
  let v48 : BitVec 1 := Scalar.andi v45 v47
  let v34 : BitVec 32 := Scalar.divsi v2 c4_i32_21
  let c1_i32_27 : BitVec 32 := 1#32
  let v49 : BitVec 32 := Scalar.subi v34 c1_i32_27
  let v50 : BitVec 32 := Scalar.select v48 v49 v34
  let v51 : BitVec 32 := Scalar.muli c4_i32_28 v50
  let c3_i32 : BitVec 32 := 3#32
  let v52 : BitVec 32 := Scalar.addi v51 c3_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v53 : BitVec 32 := Scalar.subi v52 v12
  let c1_i32_565 : BitVec 32 := 1#32
  let v791 : BitVec 32 := Scalar.muli v53 c1_i32_565
  let v792 : BitVec 32 := Scalar.addi c0_i32_566 v791
  v792.toNat
def k0_off22 (d0 : Dev nD) : Fin 2 → Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_312 : BitVec 32 := 192#32
  let v504 : BitVec 32 := Scalar.muli v16 c192_i32_312
  let v505 : BitVec 32 := Scalar.addi c0_i32_313 v504
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c96_i32_394 : BitVec 32 := 96#32
  let v594 : BitVec 32 := Scalar.muli v18 c96_i32_394
  let v595 : BitVec 32 := Scalar.addi v505 v594
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c48_i32_471 : BitVec 32 := 48#32
  let v684 : BitVec 32 := Scalar.muli v20 c48_i32_471
  let v685 : BitVec 32 := Scalar.addi v595 v684
  let c48_i32_555 : BitVec 32 := 48#32
  let v779 : BitVec 32 := Scalar.muli v20 c48_i32_555
  let v780 : BitVec 32 := Scalar.subi v685 v779
  let c0_i32_607 : BitVec 32 := 0#32
  ![v780.toNat, 0]
def k0_dev16 (d0 : Dev nD) : Nat :=
  let c0_i32_606 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_22 : BitVec 32 := 0#32
  let v35 : BitVec 1 := Scalar.cmpi .sgt v2 c0_i32_22
  let v36 : BitVec 32 := Scalar.extui v35
  let c0_i32_23 : BitVec 32 := 0#32
  let v37 : BitVec 1 := Scalar.cmpi .slt v2 c0_i32_23
  let v38 : BitVec 32 := Scalar.extui v37
  let v39 : BitVec 32 := Scalar.subi v36 v38
  let c4_i32_21 : BitVec 32 := 4#32
  let c0_i32_24 : BitVec 32 := 0#32
  let v40 : BitVec 1 := Scalar.cmpi .sgt c4_i32_21 c0_i32_24
  let v41 : BitVec 32 := Scalar.extui v40
  let c0_i32_25 : BitVec 32 := 0#32
  let v42 : BitVec 1 := Scalar.cmpi .slt c4_i32_21 c0_i32_25
  let v43 : BitVec 32 := Scalar.extui v42
  let v44 : BitVec 32 := Scalar.subi v41 v43
  let v45 : BitVec 1 := Scalar.cmpi .ne v39 v44
  let v46 : BitVec 32 := Scalar.remsi v2 c4_i32_21
  let c0_i32_26 : BitVec 32 := 0#32
  let v47 : BitVec 1 := Scalar.cmpi .ne v46 c0_i32_26
  let v48 : BitVec 1 := Scalar.andi v45 v47
  let v34 : BitVec 32 := Scalar.divsi v2 c4_i32_21
  let c1_i32_27 : BitVec 32 := 1#32
  let v49 : BitVec 32 := Scalar.subi v34 c1_i32_27
  let v50 : BitVec 32 := Scalar.select v48 v49 v34
  let v51 : BitVec 32 := Scalar.muli c4_i32_28 v50
  let c3_i32 : BitVec 32 := 3#32
  let v52 : BitVec 32 := Scalar.addi v51 c3_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v53 : BitVec 32 := Scalar.subi v52 v12
  let c1_i32_605 : BitVec 32 := 1#32
  let v831 : BitVec 32 := Scalar.muli v53 c1_i32_605
  let v832 : BitVec 32 := Scalar.addi c0_i32_606 v831
  v832.toNat
def k0_off23 (d0 : Dev nD) : Fin 2 → Nat :=
  let c384_i32_323 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c160_i32_322 : BitVec 32 := 160#32
  let v517 : BitVec 32 := Scalar.muli v18 c160_i32_322
  let v518 : BitVec 32 := Scalar.addi c384_i32_323 v517
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c80_i32_403 : BitVec 32 := 80#32
  let v607 : BitVec 32 := Scalar.muli v20 c80_i32_403
  let v608 : BitVec 32 := Scalar.addi v518 v607
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c40_i32_480 : BitVec 32 := 40#32
  let v697 : BitVec 32 := Scalar.muli v16 c40_i32_480
  let v698 : BitVec 32 := Scalar.addi v608 v697
  let c40_i32_562 : BitVec 32 := 40#32
  let v789 : BitVec 32 := Scalar.muli v16 c40_i32_562
  let v790 : BitVec 32 := Scalar.subi v698 v789
  let c0_i32_614 : BitVec 32 := 0#32
  ![v790.toNat, 0]
def k0_dev17 (d0 : Dev nD) : Nat :=
  let c0_i32_613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v54 : BitVec 32 := Scalar.addi v2 c4_i32_29
  let c8_i32_30 : BitVec 32 := 8#32
  let c0_i32_31 : BitVec 32 := 0#32
  let v55 : BitVec 1 := Scalar.cmpi .eq c8_i32_30 c0_i32_31
  let c1_i32_32 : BitVec 32 := 1#32
  let v56 : BitVec 32 := Scalar.select v55 c1_i32_32 c8_i32_30
  let v57 : BitVec 32 := Scalar.remsi v54 v56
  let c0_i32_34 : BitVec 32 := 0#32
  let v59 : BitVec 1 := Scalar.cmpi .slt v57 c0_i32_34
  let c0_i32_35 : BitVec 32 := 0#32
  let v60 : BitVec 1 := Scalar.cmpi .slt v56 c0_i32_35
  let v61 : BitVec 1 := Scalar.xori v59 v60
  let c0_i32_33 : BitVec 32 := 0#32
  let v58 : BitVec 1 := Scalar.cmpi .ne v57 c0_i32_33
  let v62 : BitVec 1 := Scalar.andi v61 v58
  let v63 : BitVec 32 := Scalar.addi v57 v56
  let v64 : BitVec 32 := Scalar.select v62 v63 v57
  let c1_i32_612 : BitVec 32 := 1#32
  let v841 : BitVec 32 := Scalar.muli v64 c1_i32_612
  let v842 : BitVec 32 := Scalar.addi c0_i32_613 v841
  v842.toNat
def k0_off24 (d0 : Dev nD) : Fin 2 → Nat :=
  let c704_i32_334 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c160_i32_333 : BitVec 32 := 160#32
  let v530 : BitVec 32 := Scalar.muli v20 c160_i32_333
  let v531 : BitVec 32 := Scalar.addi c704_i32_334 v530
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c80_i32_413 : BitVec 32 := 80#32
  let v620 : BitVec 32 := Scalar.muli v16 c80_i32_413
  let v621 : BitVec 32 := Scalar.addi v531 v620
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c40_i32_490 : BitVec 32 := 40#32
  let v710 : BitVec 32 := Scalar.muli v18 c40_i32_490
  let v711 : BitVec 32 := Scalar.addi v621 v710
  let c40_i32_569 : BitVec 32 := 40#32
  let v799 : BitVec 32 := Scalar.muli v18 c40_i32_569
  let v800 : BitVec 32 := Scalar.subi v711 v799
  let c0_i32_621 : BitVec 32 := 0#32
  ![v800.toNat, 0]
def k0_dev18 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v21 : BitVec 32 := Scalar.addi v2 c1_i32_13
  let c2_i32_20 : BitVec 32 := 2#32
  let c2_i32_14 : BitVec 32 := 2#32
  let c0_i32_15 : BitVec 32 := 0#32
  let v22 : BitVec 1 := Scalar.cmpi .eq c2_i32_14 c0_i32_15
  let c1_i32_16 : BitVec 32 := 1#32
  let v23 : BitVec 32 := Scalar.select v22 c1_i32_16 c2_i32_14
  let v24 : BitVec 32 := Scalar.remsi v2 v23
  let c0_i32_18 : BitVec 32 := 0#32
  let v26 : BitVec 1 := Scalar.cmpi .slt v24 c0_i32_18
  let c0_i32_19 : BitVec 32 := 0#32
  let v27 : BitVec 1 := Scalar.cmpi .slt v23 c0_i32_19
  let v28 : BitVec 1 := Scalar.xori v26 v27
  let c0_i32_17 : BitVec 32 := 0#32
  let v25 : BitVec 1 := Scalar.cmpi .ne v24 c0_i32_17
  let v29 : BitVec 1 := Scalar.andi v28 v25
  let v30 : BitVec 32 := Scalar.addi v24 v23
  let v31 : BitVec 32 := Scalar.select v29 v30 v24
  let v32 : BitVec 32 := Scalar.muli c2_i32_20 v31
  let v33 : BitVec 32 := Scalar.subi v21 v32
  let c1_i32_619 : BitVec 32 := 1#32
  let v851 : BitVec 32 := Scalar.muli v33 c1_i32_619
  let v852 : BitVec 32 := Scalar.addi c0_i32_620 v851
  v852.toNat
def k0_off25 (d0 : Dev nD) : Fin 2 → Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c192_i32_312 : BitVec 32 := 192#32
  let v504 : BitVec 32 := Scalar.muli v16 c192_i32_312
  let v505 : BitVec 32 := Scalar.addi c0_i32_313 v504
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c96_i32_394 : BitVec 32 := 96#32
  let v594 : BitVec 32 := Scalar.muli v18 c96_i32_394
  let v595 : BitVec 32 := Scalar.addi v505 v594
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c48_i32_471 : BitVec 32 := 48#32
  let v684 : BitVec 32 := Scalar.muli v20 c48_i32_471
  let v685 : BitVec 32 := Scalar.addi v595 v684
  let c48_i32_555 : BitVec 32 := 48#32
  let v779 : BitVec 32 := Scalar.muli v20 c48_i32_555
  let v780 : BitVec 32 := Scalar.subi v685 v779
  let c96_i32_609 : BitVec 32 := 96#32
  let v839 : BitVec 32 := Scalar.muli v18 c96_i32_609
  let v840 : BitVec 32 := Scalar.subi v780 v839
  let c0_i32_661 : BitVec 32 := 0#32
  ![v840.toNat, 0]
def k0_dev19 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v21 : BitVec 32 := Scalar.addi v2 c1_i32_13
  let c2_i32_20 : BitVec 32 := 2#32
  let c2_i32_14 : BitVec 32 := 2#32
  let c0_i32_15 : BitVec 32 := 0#32
  let v22 : BitVec 1 := Scalar.cmpi .eq c2_i32_14 c0_i32_15
  let c1_i32_16 : BitVec 32 := 1#32
  let v23 : BitVec 32 := Scalar.select v22 c1_i32_16 c2_i32_14
  let v24 : BitVec 32 := Scalar.remsi v2 v23
  let c0_i32_18 : BitVec 32 := 0#32
  let v26 : BitVec 1 := Scalar.cmpi .slt v24 c0_i32_18
  let c0_i32_19 : BitVec 32 := 0#32
  let v27 : BitVec 1 := Scalar.cmpi .slt v23 c0_i32_19
  let v28 : BitVec 1 := Scalar.xori v26 v27
  let c0_i32_17 : BitVec 32 := 0#32
  let v25 : BitVec 1 := Scalar.cmpi .ne v24 c0_i32_17
  let v29 : BitVec 1 := Scalar.andi v28 v25
  let v30 : BitVec 32 := Scalar.addi v24 v23
  let v31 : BitVec 32 := Scalar.select v29 v30 v24
  let v32 : BitVec 32 := Scalar.muli c2_i32_20 v31
  let v33 : BitVec 32 := Scalar.subi v21 v32
  let c1_i32_659 : BitVec 32 := 1#32
  let v891 : BitVec 32 := Scalar.muli v33 c1_i32_659
  let v892 : BitVec 32 := Scalar.addi c0_i32_660 v891
  v892.toNat
def k0_off26 (d0 : Dev nD) : Fin 2 → Nat :=
  let c384_i32_323 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c160_i32_322 : BitVec 32 := 160#32
  let v517 : BitVec 32 := Scalar.muli v18 c160_i32_322
  let v518 : BitVec 32 := Scalar.addi c384_i32_323 v517
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c80_i32_403 : BitVec 32 := 80#32
  let v607 : BitVec 32 := Scalar.muli v20 c80_i32_403
  let v608 : BitVec 32 := Scalar.addi v518 v607
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c40_i32_480 : BitVec 32 := 40#32
  let v697 : BitVec 32 := Scalar.muli v16 c40_i32_480
  let v698 : BitVec 32 := Scalar.addi v608 v697
  let c40_i32_562 : BitVec 32 := 40#32
  let v789 : BitVec 32 := Scalar.muli v16 c40_i32_562
  let v790 : BitVec 32 := Scalar.subi v698 v789
  let c80_i32_616 : BitVec 32 := 80#32
  let v849 : BitVec 32 := Scalar.muli v20 c80_i32_616
  let v850 : BitVec 32 := Scalar.subi v790 v849
  let c0_i32_667 : BitVec 32 := 0#32
  ![v850.toNat, 0]
def k0_dev20 (d0 : Dev nD) : Nat :=
  let c0_i32_666 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_22 : BitVec 32 := 0#32
  let v35 : BitVec 1 := Scalar.cmpi .sgt v2 c0_i32_22
  let v36 : BitVec 32 := Scalar.extui v35
  let c0_i32_23 : BitVec 32 := 0#32
  let v37 : BitVec 1 := Scalar.cmpi .slt v2 c0_i32_23
  let v38 : BitVec 32 := Scalar.extui v37
  let v39 : BitVec 32 := Scalar.subi v36 v38
  let c4_i32_21 : BitVec 32 := 4#32
  let c0_i32_24 : BitVec 32 := 0#32
  let v40 : BitVec 1 := Scalar.cmpi .sgt c4_i32_21 c0_i32_24
  let v41 : BitVec 32 := Scalar.extui v40
  let c0_i32_25 : BitVec 32 := 0#32
  let v42 : BitVec 1 := Scalar.cmpi .slt c4_i32_21 c0_i32_25
  let v43 : BitVec 32 := Scalar.extui v42
  let v44 : BitVec 32 := Scalar.subi v41 v43
  let v45 : BitVec 1 := Scalar.cmpi .ne v39 v44
  let v46 : BitVec 32 := Scalar.remsi v2 c4_i32_21
  let c0_i32_26 : BitVec 32 := 0#32
  let v47 : BitVec 1 := Scalar.cmpi .ne v46 c0_i32_26
  let v48 : BitVec 1 := Scalar.andi v45 v47
  let v34 : BitVec 32 := Scalar.divsi v2 c4_i32_21
  let c1_i32_27 : BitVec 32 := 1#32
  let v49 : BitVec 32 := Scalar.subi v34 c1_i32_27
  let v50 : BitVec 32 := Scalar.select v48 v49 v34
  let v51 : BitVec 32 := Scalar.muli c4_i32_28 v50
  let c3_i32 : BitVec 32 := 3#32
  let v52 : BitVec 32 := Scalar.addi v51 c3_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v53 : BitVec 32 := Scalar.subi v52 v12
  let c1_i32_665 : BitVec 32 := 1#32
  let v899 : BitVec 32 := Scalar.muli v53 c1_i32_665
  let v900 : BitVec 32 := Scalar.addi c0_i32_666 v899
  v900.toNat
def k0_off27 (d0 : Dev nD) : Fin 2 → Nat :=
  let c704_i32_334 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v19 : BitVec 1 := Scalar.cmpi .sge v2 c4_i32_10
  let c1_i32_11 : BitVec 32 := 1#32
  let c0_i32_12 : BitVec 32 := 0#32
  let v20 : BitVec 32 := Scalar.select v19 c1_i32_11 c0_i32_12
  let c160_i32_333 : BitVec 32 := 160#32
  let v530 : BitVec 32 := Scalar.muli v20 c160_i32_333
  let v531 : BitVec 32 := Scalar.addi c704_i32_334 v530
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c80_i32_413 : BitVec 32 := 80#32
  let v620 : BitVec 32 := Scalar.muli v16 c80_i32_413
  let v621 : BitVec 32 := Scalar.addi v531 v620
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c40_i32_490 : BitVec 32 := 40#32
  let v710 : BitVec 32 := Scalar.muli v18 c40_i32_490
  let v711 : BitVec 32 := Scalar.addi v621 v710
  let c40_i32_569 : BitVec 32 := 40#32
  let v799 : BitVec 32 := Scalar.muli v18 c40_i32_569
  let v800 : BitVec 32 := Scalar.subi v711 v799
  let c80_i32_623 : BitVec 32 := 80#32
  let v859 : BitVec 32 := Scalar.muli v16 c80_i32_623
  let v860 : BitVec 32 := Scalar.subi v800 v859
  let c0_i32_673 : BitVec 32 := 0#32
  ![v860.toNat, 0]
def k0_dev21 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v54 : BitVec 32 := Scalar.addi v2 c4_i32_29
  let c8_i32_30 : BitVec 32 := 8#32
  let c0_i32_31 : BitVec 32 := 0#32
  let v55 : BitVec 1 := Scalar.cmpi .eq c8_i32_30 c0_i32_31
  let c1_i32_32 : BitVec 32 := 1#32
  let v56 : BitVec 32 := Scalar.select v55 c1_i32_32 c8_i32_30
  let v57 : BitVec 32 := Scalar.remsi v54 v56
  let c0_i32_34 : BitVec 32 := 0#32
  let v59 : BitVec 1 := Scalar.cmpi .slt v57 c0_i32_34
  let c0_i32_35 : BitVec 32 := 0#32
  let v60 : BitVec 1 := Scalar.cmpi .slt v56 c0_i32_35
  let v61 : BitVec 1 := Scalar.xori v59 v60
  let c0_i32_33 : BitVec 32 := 0#32
  let v58 : BitVec 1 := Scalar.cmpi .ne v57 c0_i32_33
  let v62 : BitVec 1 := Scalar.andi v61 v58
  let v63 : BitVec 32 := Scalar.addi v57 v56
  let v64 : BitVec 32 := Scalar.select v62 v63 v57
  let c1_i32_671 : BitVec 32 := 1#32
  let v907 : BitVec 32 := Scalar.muli v64 c1_i32_671
  let v908 : BitVec 32 := Scalar.addi c0_i32_672 v907
  v908.toNat
abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S2x512x4096 : Shape := ⟨3, ![2, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x64x512x512 : Shape := ⟨4, ![2, 64, 512, 512]⟩
abbrev S1x1x512x512 : Shape := ⟨4, ![1, 1, 512, 512]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 89
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x4096, .f32⟩
  | .hbm, ⟨2, _⟩ => ⟨S2x512x64x64, .f32⟩
  | .hbm, ⟨3, _⟩ => ⟨S2x512x64x64, .f32⟩
  | .hbm, ⟨4, _⟩ => ⟨S4096x768, .f32⟩
  | .hbm, ⟨5, _⟩ => ⟨S2x512x4096, .f32⟩
  | .hbm, ⟨6, _⟩ => ⟨S2x512x64x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S2x64x512x512, .f32⟩
  | .hbm, ⟨51, _⟩ => ⟨S_, .f32⟩
  | .hbm, ⟨52, _⟩ => ⟨S2x64x512x512, .f32⟩
  | .hbm, ⟨53, _⟩ => ⟨S2x64x512x512, .f32⟩
  | .hbm, ⟨54, _⟩ => ⟨S1x1x512x512, .i1⟩
  | .hbm, ⟨55, _⟩ => ⟨S_, .f32⟩
  | .hbm, ⟨56, _⟩ => ⟨S_, .f32⟩
  | .hbm, ⟨57, _⟩ => ⟨S2x64x512x512, .i1⟩
  | .hbm, ⟨58, _⟩ => ⟨S2x64x512x512, .f32⟩
  | .hbm, ⟨59, _⟩ => ⟨S2x64x512x512, .f32⟩
  | .hbm, ⟨60, _⟩ => ⟨S_, .f32⟩
  | .hbm, ⟨61, _⟩ => ⟨S2x64x512, .f32⟩
  | .hbm, ⟨62, _⟩ => ⟨S2x64x512x1, .f32⟩
  | .hbm, ⟨63, _⟩ => ⟨S2x64x512x512, .f32⟩
  | .hbm, ⟨64, _⟩ => ⟨S2x64x512x512, .f32⟩
  | .hbm, ⟨65, _⟩ => ⟨S2x64x512x512, .f32⟩
  | .hbm, ⟨66, _⟩ => ⟨S_, .i1⟩
  | .hbm, ⟨67, _⟩ => ⟨S512, .i1⟩
  | .hbm, ⟨68, _⟩ => ⟨S1x1x512x1, .i1⟩
  | .hbm, ⟨69, _⟩ => ⟨S_, .f32⟩
  | .hbm, ⟨70, _⟩ => ⟨S2x64x512, .f32⟩
  | .hbm, ⟨71, _⟩ => ⟨S2x64x512x1, .f32⟩
  | .hbm, ⟨72, _⟩ => ⟨S_, .f32⟩
  | .hbm, ⟨73, _⟩ => ⟨S_, .f32⟩
  | .hbm, ⟨74, _⟩ => ⟨S2x64x512x1, .i1⟩
  | .hbm, ⟨75, _⟩ => ⟨S2x64x512x1, .f32⟩
  | .hbm, ⟨76, _⟩ => ⟨S2x64x512x1, .f32⟩
  | .hbm, ⟨77, _⟩ => ⟨S2x64x512x512, .f32⟩
  | .hbm, ⟨78, _⟩ => ⟨S2x64x512x512, .f32⟩
  | .hbm, ⟨79, _⟩ => ⟨S1x1x512x1, .i1⟩
  | .hbm, ⟨80, _⟩ => ⟨S_, .f32⟩
  | .hbm, ⟨81, _⟩ => ⟨S_, .f32⟩
  | .hbm, ⟨82, _⟩ => ⟨S2x64x512x512, .i1⟩
  | .hbm, ⟨83, _⟩ => ⟨S2x64x512x512, .f32⟩
  | .hbm, ⟨84, _⟩ => ⟨S2x64x512x512, .f32⟩
  | .hbm, ⟨85, _⟩ => ⟨S2x64x64x512, .f32⟩
  | .hbm, ⟨86, _⟩ => ⟨S2x512x64x64, .f32⟩
  | .hbm, ⟨87, _⟩ => ⟨S2x512x4096, .f32⟩
  | .hbm, ⟨88, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Geo.lean ====
/-
# The eight devices as a cube, and the rows each exchange moves

Device `c` has three bits; exchanging over dimension `d` pairs it with the device that differs from it in exactly that bit.
The 1024 rows of the partial product are three parts of 384, 320 and 320 rows; part `p` halves over the dimensions
`p`, `p + 1`, `p + 2` (mod 3), and the rows come back together over the same dimensions in the opposite order.
Everything here is arithmetic on device numbers and row numbers.
-/
module

public import proofs.«01_k».proof.Proof.Gen.KernelIdeal.Skeleton

@[expose] public section

noncomputable section

namespace Cert.KernelIdeal.Cube

open Idealize.ShloMosaic Idealize.ShloMosaic.TcCoe
open Cert.KernelIdeal Cert.KernelIdeal.Gen

/-- The bit of device `c` that dimension `d` flips. -/
def bit (d : Fin 3) (c : Dev nD) : ℕ :=
  match d with
  | 0 => if c.val % 4 = 1 ∨ c.val % 4 = 2 then 1 else 0
  | 1 => c.val % 4 / 2
  | 2 => c.val / 4

/-- The device across dimension `d`. -/
def mate (d : Fin 3) (c : Dev nD) : Dev nD :=
  match d with
  | 0 => ⟨(c.val + 1 - 2 * (c.val % 2)) % 8, Nat.mod_lt _ (by decide)⟩
  | 1 => ⟨(4 * (c.val / 4) + 3 - c.val % 4) % 8, Nat.mod_lt _ (by decide)⟩
  | 2 => ⟨(c.val + 4) % 8, Nat.mod_lt _ (by decide)⟩

theorem mate_mate (d : Fin 3) (c : Dev nD) : mate d (mate d c) = c := by revert d c; decide

/-- Crossing dimension `d`, as a permutation of the devices. -/
def across (d : Fin 3) : Dev nD ≃ Dev nD := ⟨mate d, mate d, mate_mate d, mate_mate d⟩

/-- An eighth of part `p`, in rows. -/
def unit (p : Fin 3) : ℕ := if p = 0 then 48 else 40

/-- The first row of part `p`. -/
def base (p : Fin 3) : ℕ := match p with | 0 => 0 | 1 => 384 | 2 => 704

/-- The dimension part `p` halves over in round `k`. -/
def dm (k : ℕ) (p : Fin 3) : Fin 3 := ⟨(p.val + k) % 3, Nat.mod_lt _ (by decide)⟩

/-- Rows exchanged for part `p` in round `k`: four, two, one eighths. -/
def hg (k : ℕ) (p : Fin 3) : ℕ := (match k with | 0 => 4 | 1 => 2 | _ => 1) * unit p

/-- The first row of what device `c` holds of part `p` before round `k`. -/
def cu : ℕ → Fin 3 → Dev nD → ℕ
  | 0, p, _ => base p
  | k + 1, p, c => cu k p c + bit (dm k p) c * hg k p

/-- The first row of what device `c` sends of part `p` in round `k`. -/
def ot (k : ℕ) (p : Fin 3) (c : Dev nD) : ℕ := cu k p c + (1 - bit (dm k p) c) * hg k p

/-- Where part `p`'s landing buffer takes round `k`: the first half in rounds 0 and 2, from its middle in round 1. -/
def slotOff (k : ℕ) (p : Fin 3) : ℕ := if k % 2 = 0 then 0 else 4 * unit p

/-- What a device sends is what its mate keeps. -/
theorem ot_eq (k : ℕ) (hk : k < 3) (p : Fin 3) (c : Dev nD) : ot k p c = cu (k + 1) p (mate (dm k p) c) := by
  obtain rfl | rfl | rfl : k = 0 ∨ k = 1 ∨ k = 2 := by omega
  all_goals (revert p c; decide)

theorem ot_mate (k : ℕ) (hk : k < 3) (p : Fin 3) (c : Dev nD) : ot k p (mate (dm k p) c) = cu (k + 1) p c := by
  rw [ot_eq k hk, mate_mate]

/-- What is held splits into the kept half and the sent half, in the order the bit says. -/
theorem halves (k : ℕ) (hk : k < 3) (p : Fin 3) (c : Dev nD) :
    (cu (k + 1) p c = cu k p c ∧ ot k p c = cu k p c + hg k p) ∨ (ot k p c = cu k p c ∧ cu (k + 1) p c = cu k p c + hg k p) := by
  obtain rfl | rfl | rfl : k = 0 ∨ k = 1 ∨ k = 2 := by omega
  all_goals (revert p c; decide)

theorem cu_mate (k : ℕ) (hk : k < 3) (p : Fin 3) (c : Dev nD) : cu k p (mate (dm k p) c) = cu k p c := by
  obtain rfl | rfl | rfl : k = 0 ∨ k = 1 ∨ k = 2 := by omega
  all_goals (revert p c; decide)

/-- The part row `r` lies in. -/
def part (r : ℕ) : Fin 3 := if r < 384 then 0 else if r < 704 then 1 else 2

/-- The device that ends up summing the `q`-th eighth of part `p`. -/
def owner (p : Fin 3) (q : ℕ) : Dev nD :=
  ((List.finRange 8).find? fun c : Fin 8 => cu 3 p c = base p + q * unit p).getD 0

theorem owner_cu (p : Fin 3) (c : Dev nD) : owner p ((cu 3 p c - base p) / unit p) = c := by revert p c; decide

theorem cu3_eighth (p : Fin 3) (c : Dev nD) :
    cu 3 p c = base p + (cu 3 p c - base p) / unit p * unit p ∧ 0 < unit p := by revert p c; decide

/-- Every row of the eighth `c` is left with is a row `c` owns. -/
theorem owner_of_mem (p : Fin 3) (c : Dev nD) {r : ℕ} (h₁ : cu 3 p c ≤ r) (h₂ : r < cu 3 p c + unit p) :
    owner p ((r - base p) / unit p) = c := by
  obtain ⟨h, hu⟩ := cu3_eighth p c
  have e : (r - base p) / unit p = (cu 3 p c - base p) / unit p := by
    generalize (cu 3 p c - base p) / unit p = q at h ⊢
    rw [h] at h₁ h₂
    exact Nat.div_eq_of_lt_le (by omega) (by rw [Nat.succ_mul]; omega)
  rw [e, owner_cu]

/-- A row the mate owns at the end of a round is in the mate's kept half, and so on: the range facts the landings need. -/
theorem cu_bounds (p : Fin 3) (c : Dev nD) : base p ≤ cu 3 p c ∧ cu 3 p c + unit p ≤ base p + 8 * unit p := by
  revert p c; decide

theorem part_of_mem (p : Fin 3) {r : ℕ} (h₁ : base p ≤ r) (h₂ : r < base p + 8 * unit p) : part r = p := by
  unfold part
  fin_cases p <;> simp only [base, unit] at h₁ h₂ <;> (repeat' split) <;> first | rfl | (exfalso; simp at h₁ h₂; omega)

end Cert.KernelIdeal.Cube

end
-- ==== Proof.Blk.lean ====
/-
# Bands of rows, held at contents given by row and column

Every buffer the exchange touches is a table of 768 columns. `blk m c a n g` is device `c`'s right to the `n` rows of `m`
from row `a`, holding `g r j` at row `r`, column `j`. The lemmas here cut and glue bands, and say what a slice reads and what
a write through a slice leaves, once for every buffer and every band.
-/
module

public import proofs.«01_k».proof.Proof.Geo
public import Idealize.ShloMosaic.Lib.Pipeline.Kit
public import Idealize.ShloMosaic.Lib.Tactic

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline library's copy and the exchange protocol's, whose duties are named by a dimension -/

abbrev UX : Type := URounds (GSem nD τ sig) (Fin 3)
abbrev UU : Type := UR sig nD τ × UX

local notation "𝕄" => MT nD τ sig ℕ (Elt F) ℕ UU ℕ

abbrev EP : Emb (UR sig nD τ) (MT nD τ sig ℕ (Elt F) ℕ UU ℕ) := embL
abbrev ER : Emb UX (MT nD τ sig ℕ (Elt F) ℕ UU ℕ) := embR

/-! ## Bands -/

/-- A table of `N` rows of 768. -/
abbrev Rows (N : ℕ) : Shape := ⟨2, ![N, 768]⟩

/-- Contents by row and column. -/
abbrev Tab (F : FTy → Type) : Type := ℕ → ℕ → Elt F .f32

def band (N a n : ℕ) : Finset (Rows N).Idx := Finset.univ.filter fun i => a ≤ (i 0).val ∧ (i 0).val < a + n

theorem mem_band {N a n : ℕ} {i : (Rows N).Idx} : i ∈ band N a n ↔ a ≤ (i 0).val ∧ (i 0).val < a + n := by
  simp [band]

theorem band_all (N : ℕ) : band N 0 N = Finset.univ := by
  ext i
  simp only [mem_band, Finset.mem_univ, iff_true]
  have := (i 0).isLt
  exact ⟨Nat.zero_le _, by simpa using this⟩

theorem band_add (N a n n' : ℕ) : band N a (n + n') = band N a n ∪ band N (a + n) n' := by
  ext i; simp only [Finset.mem_union, mem_band]; omega

theorem band_disj (N a n n' : ℕ) : Disjoint (band N a n) (band N (a + n) n') := by
  rw [Finset.disjoint_left]; intro i h h'
  rw [mem_band] at h h'; omega

/-- The table as a function on the multi-indices of a buffer of `N` rows. -/
def fill {N : ℕ} (g : Tab F) : (Rows N).Idx → Elt F .f32 := fun i => g (i 0).val (i 1).val

section Bands

variable {N : ℕ} (m : Memref sig .tc .vmem (Rows N) .f32) (c : Dev nD)

/-- Device `c`'s `n` rows of `m` from row `a`, holding `g`. -/
def blk (a n : ℕ) (g : Tab F) : sProp 𝕄 :=
  m.view.loc (c : Thread nD τ) ↦[m.view.setOn (band N a n)]{fullShare} m.view.rep (fill g)

instance blk_storable (a n : ℕ) (g : Tab F) : BI.Storable (upEmb : UEmb _ 𝕄) (blk m c a n g) := by unfold blk; infer_instance

/-- The same at contents not chosen. -/
def blkAny (a n : ℕ) : sProp 𝕄 := iprop(∃ g : Tab F, blk m c a n g)

instance blkAny_storable (a n : ℕ) : BI.Storable (upEmb : UEmb _ 𝕄) (blkAny (F := F) m c a n) := by unfold blkAny; infer_instance

theorem blk_any (a n : ℕ) (g : Tab F) : blk m c a n g ⊢ blkAny m c a n := by
  unfold blkAny; iintro H; iexists g; iexact H

theorem blk_congr {a n : ℕ} {g g' : Tab F} (h : ∀ r j, a ≤ r → r < a + n → g r j = g' r j) :
    blk m c a n g = blk m c a n g' := by
  unfold blk
  refine pointsTo_congr fun i hi => ?_
  obtain ⟨x, hx, rfl⟩ := Finset.mem_map.mp hi
  rw [mem_band] at hx
  rw [View.rep_emb, View.rep_emb]
  exact congrArg _ (h _ _ hx.1 hx.2)

/-- Rows of any contents are a band at the table they spell. -/
theorem blk_of (a n : ℕ) (f : Buf (Elt F) (m.view.loc (c : Thread nD τ))) (g : Tab F)
    (h : ∀ x ∈ band N a n, m.view.read (Elt F) f x = fill g x) :
    (m.view.loc (c : Thread nD τ) ↦[m.view.setOn (band N a n)]{fullShare} f : sProp 𝕄) = blk m c a n g := by
  unfold blk
  refine pointsTo_congr fun i hi => ?_
  obtain ⟨x, hx, rfl⟩ := Finset.mem_map.mp hi
  rw [View.rep_emb, ← h x hx, View.read_apply, cast_cast, cast_eq]

/-- The table a buffer's contents spell. -/
def tabOf (f : Buf (Elt F) (m.view.loc (c : Thread nD τ))) : Tab F := fun r j =>
  if h : r < N ∧ j < 768 then m.view.read (Elt F) f (fun a => match a with | ⟨0, _⟩ => ⟨r, h.1⟩ | ⟨1, _⟩ => ⟨j, h.2⟩) else Classical.choice (Elt.nonempty F .f32)

theorem fill_tabOf (f : Buf (Elt F) (m.view.loc (c : Thread nD τ))) : fill (tabOf m c f) = m.view.read (Elt F) f := by
  funext x
  have h0 : (x 0).val < N := (x 0).isLt
  have h1 : (x 1).val < 768 := (x 1).isLt
  unfold fill tabOf
  rw [dif_pos ⟨h0, h1⟩]
  refine congrArg _ (funext fun a => ?_)
  match a with
  | ⟨0, _⟩ => rfl
  | ⟨1, _⟩ => rfl

theorem any_of (a n : ℕ) (f : Buf (Elt F) (m.view.loc (c : Thread nD τ))) :
    (m.view.loc (c : Thread nD τ) ↦[m.view.setOn (band N a n)]{fullShare} f : sProp 𝕄) ⊢ blkAny m c a n := by
  rw [blk_of m c a n f (tabOf m c f) fun x _ => by rw [fill_tabOf]]
  exact blk_any m c a n _

theorem blk_split (a n n' : ℕ) (g : Tab F) :
    (blk m c a (n + n') g : sProp 𝕄) ⊣⊢ iprop(blk m c a n g ∗ blk m c (a + n) n' g) := by
  unfold blk
  rw [band_add, View.setOn, Finset.map_union]
  exact pointsTo_union ((Finset.disjoint_map _).mpr (band_disj N a n n'))

theorem blk_cut {a b n n' : ℕ} (g : Tab F) (h : b = a + n) :
    (blk m c a (n + n') g : sProp 𝕄) ⊢ iprop(blk m c a n g ∗ blk m c b n' g) := by
  subst h; exact (blk_split m c a n n' g).1

theorem blk_glue {a b n n' : ℕ} (g : Tab F) (h : b = a + n) :
    iprop(blk m c a n g ∗ blk m c b n' g) ⊢ (blk m c a (n + n') g : sProp 𝕄) := by
  subst h; exact (blk_split m c a n n' g).2

/-- Two bands one after the other, at unrelated contents, are one band. -/
theorem any_glue {a b n n' : ℕ} (h : b = a + n) :
    iprop(blkAny m c a n ∗ blkAny m c b n') ⊢ (blkAny (F := F) m c a (n + n') : sProp 𝕄) := by
  subst h
  unfold blkAny
  iintro ⟨⟨%g, H⟩, ⟨%g', H'⟩⟩
  iexists fun r j => if r < a + n then g r j else g' r j
  iapply (blk_split m c a n n' _).2
  isplitl [H]
  · iapply (Entails.of_eq (blk_congr m c (g' := fun r j => if r < a + n then g r j else g' r j)
      fun r j h₁ h₂ => (if_pos h₂).symm)) $$ H
  · iapply (Entails.of_eq (blk_congr m c (g' := fun r j => if r < a + n then g r j else g' r j)
      fun r j h₁ h₂ => (if_neg (by omega)).symm)) $$ H'

/-! ## Slices of whole rows -/

variable {n : ℕ} (off : Fin 2 → ℕ) (inb : ∀ a, off a + (Rows n).size a ≤ (Rows N).size a)

theorem slice_at {a : ℕ} (h0 : off 0 = a) (h1 : off 1 = 0) (x : (Rows n).Idx) :
    (((Rect.unit (s := Rows N) off (Rows n).size inb).emb x 0).val = a + (x 0).val)
      ∧ (((Rect.unit (s := Rows N) off (Rows n).size inb).emb x 1).val = (x 1).val) := by
  subst h0
  constructor
  · rw [Rect.emb_apply]; show off 0 + 1 * _ = _; omega
  · rw [Rect.emb_apply]; show off 1 + 1 * _ = _; omega

theorem rect_band {a : ℕ} (h0 : off 0 = a) (h1 : off 1 = 0) :
    (Rect.unit (s := Rows N) off (Rows n).size inb).set = band N a n := by
  ext i
  rw [mem_band]
  constructor
  · intro hi
    rw [← Rect.map_emb_univ] at hi
    obtain ⟨x, -, rfl⟩ := Finset.mem_map.mp hi
    rw [(slice_at off inb h0 h1 x).1]
    have : (x 0).val < n := (x 0).isLt
    omega
  · rintro ⟨h₁, h₂⟩
    rw [Rect.mem_set_unit]
    intro b
    match b with
    | ⟨0, _⟩ => exact ⟨show off 0 ≤ (i 0).val by omega, show (i 0).val < off 0 + n by omega⟩
    | ⟨1, _⟩ =>
      have : (i 1).val < 768 := (i 1).isLt
      exact ⟨show off 1 ≤ (i 1).val by omega, show (i 1).val < off 1 + 768 by omega⟩

theorem access_set {a : ℕ} (h0 : off 0 = a) (h1 : off 1 = 0) :
    (m.view.slice (Rect.unit (s := Rows N) off (Rows n).size inb)).set = m.view.setOn (band N a n) := by
  rw [View.set_slice, rect_band off inb h0 h1]; rfl

/-- What a slice of whole rows reads off a table. -/
theorem slice_read {a : ℕ} (h0 : off 0 = a) (h1 : off 1 = 0) (g : Tab F) :
    (m.view.slice (Rect.unit (s := Rows N) off (Rows n).size inb)).read (Elt F) (m.view.rep (fill g))
      = (fill (fun r j => g (a + r) j) : (Rows n).Idx → Elt F .f32) := by
  funext x
  show m.view.read (Elt F) (m.view.rep (fill g)) ((Rect.unit (s := Rows N) off (Rows n).size inb).emb x) = _
  rw [View.read_rep]
  unfold fill
  rw [(slice_at off inb h0 h1 x).1, (slice_at off inb h0 h1 x).2]

/-- What a write through a slice of whole rows leaves there. -/
theorem slice_write {a : ℕ} (h0 : off 0 = a) (h1 : off 1 = 0) (f : Buf (Elt F) (m.view.loc (c : Thread nD τ)))
    (w : (Rows n).Idx → Elt F .f32) (g : Tab F) (hw : ∀ x, w x = g (a + (x 0).val) (x 1).val) :
    (m.view.loc (c : Thread nD τ) ↦[(m.view.slice (Rect.unit (s := Rows N) off (Rows n).size inb)).set]{fullShare}
        (m.view.slice (Rect.unit (s := Rows N) off (Rows n).size inb)).write (Elt F) f w Finset.univ : sProp 𝕄)
      = blk m c a n g := by
  rw [access_set m off inb h0 h1]
  refine blk_of m c a n _ g fun x hx => ?_
  rw [← rect_band off inb h0 h1, ← Rect.map_emb_univ] at hx
  obtain ⟨y, -, rfl⟩ := Finset.mem_map.mp hx
  have := View.read_write_of_mem (v := m.view.slice (Rect.unit (s := Rows N) off (Rows n).size inb)) (Val := Elt F) f w (Finset.mem_univ y)
  refine Eq.trans (show _ = _ from this) ?_
  rw [hw]
  unfold fill
  rw [(slice_at off inb h0 h1 y).1, (slice_at off inb h0 h1 y).2]

end Bands

end Cert.KernelIdeal.Cube

end
-- ==== Proof.Off.lean ====
/-
# The kernel's computed row offsets and addressees, in the terms of the exchange

The kernel computes each offset and each addressee from the device's number with shifts and masks. Over the eight devices each is
the row `ot`/`cu` or the device `mate` of the exchange.
-/
module

public import proofs.«01_k».proof.Proof.Geo

@[expose] public section

namespace Cert.KernelIdeal.Cube

open Idealize.ShloMosaic
open Cert.KernelIdeal Cert.KernelIdeal.Gen

theorem off1 (c : Dev nD) : k0_off1 c 0 = ot 0 0 c := by revert c; decide +kernel
theorem col1 (c : Dev nD) : k0_off1 c 1 = 0 := by revert c; decide +kernel
theorem off2 (c : Dev nD) : k0_off2 c 0 = ot 0 1 c := by revert c; decide +kernel
theorem col2 (c : Dev nD) : k0_off2 c 1 = 0 := by revert c; decide +kernel
theorem off3 (c : Dev nD) : k0_off3 c 0 = ot 0 2 c := by revert c; decide +kernel
theorem col3 (c : Dev nD) : k0_off3 c 1 = 0 := by revert c; decide +kernel
theorem off4 (c : Dev nD) : k0_off4 c 0 = cu 1 0 c := by revert c; decide +kernel
theorem col4 (c : Dev nD) : k0_off4 c 1 = 0 := by revert c; decide +kernel
theorem off5 (c : Dev nD) : k0_off5 c 0 = cu 1 1 c := by revert c; decide +kernel
theorem col5 (c : Dev nD) : k0_off5 c 1 = 0 := by revert c; decide +kernel
theorem off6 (c : Dev nD) : k0_off6 c 0 = cu 1 2 c := by revert c; decide +kernel
theorem col6 (c : Dev nD) : k0_off6 c 1 = 0 := by revert c; decide +kernel
theorem off7 (c : Dev nD) : k0_off7 c 0 = ot 1 0 c := by revert c; decide +kernel
theorem col7 (c : Dev nD) : k0_off7 c 1 = 0 := by revert c; decide +kernel
theorem off8 (c : Dev nD) : k0_off8 c 0 = ot 1 1 c := by revert c; decide +kernel
theorem col8 (c : Dev nD) : k0_off8 c 1 = 0 := by revert c; decide +kernel
theorem off9 (c : Dev nD) : k0_off9 c 0 = ot 1 2 c := by revert c; decide +kernel
theorem col9 (c : Dev nD) : k0_off9 c 1 = 0 := by revert c; decide +kernel
theorem off10 (c : Dev nD) : k0_off10 c 0 = cu 2 0 c := by revert c; decide +kernel
theorem col10 (c : Dev nD) : k0_off10 c 1 = 0 := by revert c; decide +kernel
theorem off11 (c : Dev nD) : k0_off11 c 0 = cu 2 1 c := by revert c; decide +kernel
theorem col11 (c : Dev nD) : k0_off11 c 1 = 0 := by revert c; decide +kernel
theorem off12 (c : Dev nD) : k0_off12 c 0 = cu 2 2 c := by revert c; decide +kernel
theorem col12 (c : Dev nD) : k0_off12 c 1 = 0 := by revert c; decide +kernel
theorem off13 (c : Dev nD) : k0_off13 c 0 = ot 2 0 c := by revert c; decide +kernel
theorem col13 (c : Dev nD) : k0_off13 c 1 = 0 := by revert c; decide +kernel
theorem off14 (c : Dev nD) : k0_off14 c 0 = ot 2 1 c := by revert c; decide +kernel
theorem col14 (c : Dev nD) : k0_off14 c 1 = 0 := by revert c; decide +kernel
theorem off15 (c : Dev nD) : k0_off15 c 0 = ot 2 2 c := by revert c; decide +kernel
theorem col15 (c : Dev nD) : k0_off15 c 1 = 0 := by revert c; decide +kernel
theorem off16 (c : Dev nD) : k0_off16 c 0 = cu 3 0 c := by revert c; decide +kernel
theorem col16 (c : Dev nD) : k0_off16 c 1 = 0 := by revert c; decide +kernel
theorem off17 (c : Dev nD) : k0_off17 c 0 = cu 3 1 c := by revert c; decide +kernel
theorem col17 (c : Dev nD) : k0_off17 c 1 = 0 := by revert c; decide +kernel
theorem off18 (c : Dev nD) : k0_off18 c 0 = cu 3 2 c := by revert c; decide +kernel
theorem col18 (c : Dev nD) : k0_off18 c 1 = 0 := by revert c; decide +kernel
theorem off19 (c : Dev nD) : k0_off19 c 0 = cu 3 0 c := by revert c; decide +kernel
theorem col19 (c : Dev nD) : k0_off19 c 1 = 0 := by revert c; decide +kernel
theorem off20 (c : Dev nD) : k0_off20 c 0 = cu 3 1 c := by revert c; decide +kernel
theorem col20 (c : Dev nD) : k0_off20 c 1 = 0 := by revert c; decide +kernel
theorem off21 (c : Dev nD) : k0_off21 c 0 = cu 3 2 c := by revert c; decide +kernel
theorem col21 (c : Dev nD) : k0_off21 c 1 = 0 := by revert c; decide +kernel
theorem off22 (c : Dev nD) : k0_off22 c 0 = cu 2 0 c := by revert c; decide +kernel
theorem col22 (c : Dev nD) : k0_off22 c 1 = 0 := by revert c; decide +kernel
theorem off23 (c : Dev nD) : k0_off23 c 0 = cu 2 1 c := by revert c; decide +kernel
theorem col23 (c : Dev nD) : k0_off23 c 1 = 0 := by revert c; decide +kernel
theorem off24 (c : Dev nD) : k0_off24 c 0 = cu 2 2 c := by revert c; decide +kernel
theorem col24 (c : Dev nD) : k0_off24 c 1 = 0 := by revert c; decide +kernel
theorem off25 (c : Dev nD) : k0_off25 c 0 = cu 1 0 c := by revert c; decide +kernel
theorem col25 (c : Dev nD) : k0_off25 c 1 = 0 := by revert c; decide +kernel
theorem off26 (c : Dev nD) : k0_off26 c 0 = cu 1 1 c := by revert c; decide +kernel
theorem col26 (c : Dev nD) : k0_off26 c 1 = 0 := by revert c; decide +kernel
theorem off27 (c : Dev nD) : k0_off27 c 0 = cu 1 2 c := by revert c; decide +kernel
theorem col27 (c : Dev nD) : k0_off27 c 1 = 0 := by revert c; decide +kernel

theorem dev1 (c : Dev nD) : (⟨k0_dev1 c, k0_dev1_lt c⟩ : Dev nD) = mate 0 c := by revert c; decide +kernel
theorem dev2 (c : Dev nD) : (⟨k0_dev2 c, k0_dev2_lt c⟩ : Dev nD) = mate 1 c := by revert c; decide +kernel
theorem dev3 (c : Dev nD) : (⟨k0_dev3 c, k0_dev3_lt c⟩ : Dev nD) = mate 2 c := by revert c; decide +kernel
theorem dev4 (c : Dev nD) : (⟨k0_dev4 c, k0_dev4_lt c⟩ : Dev nD) = mate (dm 0 0) c := by revert c; decide +kernel
theorem dev5 (c : Dev nD) : (⟨k0_dev5 c, k0_dev5_lt c⟩ : Dev nD) = mate (dm 0 1) c := by revert c; decide +kernel
theorem dev6 (c : Dev nD) : (⟨k0_dev6 c, k0_dev6_lt c⟩ : Dev nD) = mate (dm 0 2) c := by revert c; decide +kernel
theorem dev7 (c : Dev nD) : (⟨k0_dev7 c, k0_dev7_lt c⟩ : Dev nD) = mate (dm 1 0) c := by revert c; decide +kernel
theorem dev8 (c : Dev nD) : (⟨k0_dev8 c, k0_dev8_lt c⟩ : Dev nD) = mate (dm 1 1) c := by revert c; decide +kernel
theorem dev9 (c : Dev nD) : (⟨k0_dev9 c, k0_dev9_lt c⟩ : Dev nD) = mate (dm 1 2) c := by revert c; decide +kernel
theorem dev10 (c : Dev nD) : (⟨k0_dev10 c, k0_dev10_lt c⟩ : Dev nD) = mate (dm 2 0) c := by revert c; decide +kernel
theorem dev11 (c : Dev nD) : (⟨k0_dev11 c, k0_dev11_lt c⟩ : Dev nD) = mate (dm 2 1) c := by revert c; decide +kernel
theorem dev12 (c : Dev nD) : (⟨k0_dev12 c, k0_dev12_lt c⟩ : Dev nD) = mate (dm 2 2) c := by revert c; decide +kernel
theorem dev13 (c : Dev nD) : (⟨k0_dev13 c, k0_dev13_lt c⟩ : Dev nD) = mate (dm 2 0) c := by revert c; decide +kernel
theorem dev14 (c : Dev nD) : (⟨k0_dev14 c, k0_dev14_lt c⟩ : Dev nD) = mate (dm 2 1) c := by revert c; decide +kernel
theorem dev15 (c : Dev nD) : (⟨k0_dev15 c, k0_dev15_lt c⟩ : Dev nD) = mate (dm 2 2) c := by revert c; decide +kernel
theorem dev16 (c : Dev nD) : (⟨k0_dev16 c, k0_dev16_lt c⟩ : Dev nD) = mate (dm 1 0) c := by revert c; decide +kernel
theorem dev17 (c : Dev nD) : (⟨k0_dev17 c, k0_dev17_lt c⟩ : Dev nD) = mate (dm 1 1) c := by revert c; decide +kernel
theorem dev18 (c : Dev nD) : (⟨k0_dev18 c, k0_dev18_lt c⟩ : Dev nD) = mate (dm 1 2) c := by revert c; decide +kernel
theorem dev19 (c : Dev nD) : (⟨k0_dev19 c, k0_dev19_lt c⟩ : Dev nD) = mate (dm 0 0) c := by revert c; decide +kernel
theorem dev20 (c : Dev nD) : (⟨k0_dev20 c, k0_dev20_lt c⟩ : Dev nD) = mate (dm 0 1) c := by revert c; decide +kernel
theorem dev21 (c : Dev nD) : (⟨k0_dev21 c, k0_dev21_lt c⟩ : Dev nD) = mate (dm 0 2) c := by revert c; decide +kernel

end Cert.KernelIdeal.Cube
-- ==== Proof.Sched.lean ====
/-
# The exchange as a schedule of rounds

Six steps: rounds 0, 1, 2 of the halving, then rounds 2, 1, 0 of the gathering. At step `s` each of the three parts has one copy
leaving the device and one arriving, to and from the same mate, on semaphore `s % 2` of the part, in that semaphore's round
`s / 2`. What a copy's arrival hands over is its rows, the sender's own rows it was made from (which the gathering will write), and
the room for the next step's copy back.
-/
module

public import proofs.«01_k».proof.Proof.Blk
public import proofs.«01_k».proof.Proof.Off

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Steps -/

/-- The round step `s` belongs to. -/
def ks (s : ℕ) : ℕ := if s < 3 then s else 5 - s

/-- Whom device `c` exchanges part `p` with at step `s`. -/
def peer (s : ℕ) (p : Fin 3) (c : Dev nD) : Dev nD := mate (dm (ks s) p) c

/-- The part that at step `s + 1` meets the mate part `p` meets at step `s`. -/
def nx (s : ℕ) (p : Fin 3) : Fin 3 := if s < 2 then p + 2 else if s = 2 then p else p + 1

theorem peer_peer (s : ℕ) (p : Fin 3) (c : Dev nD) : peer s p (peer s p c) = c := mate_mate _ _

theorem peer_nx {s : ℕ} (hs : s < 5) (p : Fin 3) (c : Dev nD) : peer (s + 1) (nx s p) c = peer s p c := by
  have : s = 0 ∨ s = 1 ∨ s = 2 ∨ s = 3 ∨ s = 4 := by omega
  rcases this with h | h | h | h | h <;> subst h <;> revert p c <;> decide +kernel

def across' (s : ℕ) (p : Fin 3) : Dev nD ≃ Dev nD := across (dm (ks s) p)

/-- Rows exchanged for part `p` at step `s`. -/
def rows (s : ℕ) (p : Fin 3) : ℕ := hg (ks s) p

theorem unit_pos (p : Fin 3) : 0 < unit p := by unfold unit; split <;> decide
theorem hg_pos (k : ℕ) (p : Fin 3) : 0 < hg k p := by
  unfold hg; refine Nat.mul_pos ?_ (unit_pos p); split <;> decide

/-- What a copy of part `p` at step `s` pays: 96 for each row. -/
def amt (s : ℕ) (p : Fin 3) : ℕ := 96 * rows s p
theorem amt_pos (s : ℕ) (p : Fin 3) : 0 < amt s p := Nat.mul_pos (by decide) (hg_pos _ _)

/-! ## Cells -/

abbrev barS : Sem sig := (SemArray.scalar (sig.barrier 0 rfl) : Sems sig S_).sem
def sendS (p : Fin 3) (s : ℕ) : DmaSem sig := ⟨6 + 2 * p.val + s % 2, by have := p.isLt; show _ < 18; omega⟩
def recvS (p : Fin 3) (s : ℕ) : DmaSem sig := ⟨12 + 2 * p.val + s % 2, by have := p.isLt; show _ < 18; omega⟩

abbrev barCell (c : Dev nD) : GSem nD τ sig := ((c : Thread nD τ), .reg barS)
abbrev sendCell (c : Dev nD) (p : Fin 3) (s : ℕ) : GSem nD τ sig := ((c : Thread nD τ), .dma (sendS p s))
abbrev recvCell (c : Dev nD) (p : Fin 3) (s : ℕ) : GSem nD τ sig := ((c : Thread nD τ), .dma (recvS p s))

theorem sendS_add2 (p : Fin 3) (s : ℕ) : sendS p (s + 2) = sendS p s := by unfold sendS; simp
theorem recvS_add2 (p : Fin 3) (s : ℕ) : recvS p (s + 2) = recvS p s := by unfold recvS; simp

/-! ## Contents -/

/-- The output buffer, and the landing buffers of the three parts. -/
abbrev outM : Memref sig .tc .vmem (Rows 1024) .f32 := Memref.whole cc0_stg5_0
abbrev cM0 : Memref sig .tc .vmem (Rows 384) .f32 := Memref.whole cc0_scratch1
abbrev cM1 : Memref sig .tc .vmem (Rows 320) .f32 := Memref.whole cc0_scratch2
abbrev cM2 : Memref sig .tc .vmem (Rows 320) .f32 := Memref.whole cc0_scratch3

/-- Rows of part `p`'s landing buffer. -/
def comm (p : Fin 3) (c : Dev nD) (a n : ℕ) (g : Tab F) : sProp 𝕄 :=
  match p with
  | 0 => blk cM0 c a n g
  | 1 => blk cM1 c a n g
  | 2 => blk cM2 c a n g

def commAny (p : Fin 3) (c : Dev nD) (a n : ℕ) : sProp 𝕄 :=
  match p with
  | 0 => blkAny cM0 c a n
  | 1 => blkAny cM1 c a n
  | 2 => blkAny cM2 c a n

instance comm_storable (p : Fin 3) (c : Dev nD) (a n : ℕ) (g : Tab F) : BI.Storable (upEmb : UEmb _ 𝕄) (comm p c a n g) := by
  unfold comm; split <;> infer_instance
instance commAny_storable (p : Fin 3) (c : Dev nD) (a n : ℕ) : BI.Storable (upEmb : UEmb _ 𝕄) (commAny (F := F) p c a n) := by
  unfold commAny; split <;> infer_instance

theorem comm_any (p : Fin 3) (c : Dev nD) (a n : ℕ) (g : Tab F) : comm p c a n g ⊢ commAny p c a n := by
  match p with
  | 0 => exact blk_any _ _ _ _ _
  | 1 => exact blk_any _ _ _ _ _
  | 2 => exact blk_any _ _ _ _ _

theorem commAny_glue (p : Fin 3) (c : Dev nD) {a b n n' : ℕ} (h : b = a + n) :
    iprop(commAny p c a n ∗ commAny p c b n') ⊢ (commAny (F := F) p c a (n + n') : sProp 𝕄) := by
  match p with
  | 0 => exact any_glue _ _ h
  | 1 => exact any_glue _ _ h
  | 2 => exact any_glue _ _ h

theorem blkAny_cut {N : ℕ} (m : Memref sig .tc .vmem (Rows N) .f32) (c : Dev nD) {a b n n' : ℕ} (h : b = a + n) :
    (blkAny (F := F) m c a (n + n') : sProp 𝕄) ⊢ iprop(blkAny m c a n ∗ blkAny m c b n') := by
  unfold blkAny
  iintro ⟨%g, H⟩
  ihave H := (blk_cut m c g h) $$ H
  icases H with ⟨H, H'⟩
  isplitl [H]
  · iexists g; iexact H
  · iexists g; iexact H'

theorem commAny_cut (p : Fin 3) (c : Dev nD) {a b n n' : ℕ} (h : b = a + n) :
    (commAny (F := F) p c a (n + n') : sProp 𝕄) ⊢ iprop(commAny p c a n ∗ commAny p c b n') := by
  match p with
  | 0 => exact blkAny_cut _ _ h
  | 1 => exact blkAny_cut _ _ h
  | 2 => exact blkAny_cut _ _ h

/-- What a device's rows of part `p` hold before round `k`, `A0 c` being device `c`'s own addend. -/
def A (A0 : Dev nD → Tab F) : ℕ → Fin 3 → Dev nD → Tab F
  | 0, _, c => A0 c
  | k + 1, p, c => fun r j => FloatOps.addf (A A0 k p c r j) (A A0 k p (mate (dm k p) c) r j)

/-- Part `p` reduced: each eighth from the device that owns it after the halving. -/
def Rp (A0 : Dev nD → Tab F) (p : Fin 3) : Tab F := fun r j => A A0 3 p (owner p ((r - base p) / unit p)) r j

/-! ## Payloads -/

/-- What device `c` needs beside its own rows to start the copy of part `p` at step `s`: that its mate's semaphore has come to the
    step's round and, in the halving, room in the mate's landing buffer. -/
def ready (s : ℕ) (p : Fin 3) (c : Dev nD) : sProp 𝕄 :=
  iprop(reached ER (recvCell (peer s p c) p s) (s / 2)
    ∗ if s < 3 then commAny p (peer s p c) (slotOff s p) (hg s p) else iprop(emp))

/-- The mate's rows that the copy of round `k` left, which the gathering's round `k` will write. -/
def back (k : ℕ) (p : Fin 3) (c : Dev nD) : sProp 𝕄 := blkAny outM (mate (dm k p) c) (cu (k + 1) p c) (hg k p)

/-- What a copy of part `p` at step `s` leaves on the device `c` it arrives at. -/
def landed (A0 : Dev nD → Tab F) (s : ℕ) (p : Fin 3) (c : Dev nD) : sProp 𝕄 :=
  if s < 3 then
    iprop(comm p c (slotOff s p) (hg s p) (fun r j => A A0 s p (mate (dm s p) c) (r - slotOff s p + cu (s + 1) p c) j) ∗ back s p c)
  else blk outM c (cu (5 - s + 1) p (mate (dm (5 - s) p) c)) (hg (5 - s) p) (Rp A0 p)

def recvPay (A0 : Dev nD → Tab F) (s : ℕ) (p : Fin 3) (c : Dev nD) : sProp 𝕄 :=
  iprop(landed A0 s p c ∗ if s < 5 then ready (s + 1) (nx s p) c else iprop(emp))

/-- What the end of its own copy gives a device back: in the gathering, the rows it was made from. -/
def sendPay (A0 : Dev nD → Tab F) (s : ℕ) (p : Fin 3) (c : Dev nD) : sProp 𝕄 :=
  if s < 3 then iprop(emp) else blk outM c (cu (5 - s + 1) p c) (hg (5 - s) p) (Rp A0 p)

instance ready_storable (s : ℕ) (p : Fin 3) (c : Dev nD) : BI.Storable (upEmb : UEmb _ 𝕄) (ready (F := F) s p c) := by
  unfold ready; split <;> infer_instance
instance landed_storable (A0 : Dev nD → Tab F) (s : ℕ) (p : Fin 3) (c : Dev nD) : BI.Storable (upEmb : UEmb _ 𝕄) (landed A0 s p c) := by
  unfold landed back; split <;> infer_instance
instance recvPay_storable (A0 : Dev nD → Tab F) (s : ℕ) (p : Fin 3) (c : Dev nD) : BI.Storable (upEmb : UEmb _ 𝕄) (recvPay A0 s p c) := by
  unfold recvPay; split <;> infer_instance
instance sendPay_storable (A0 : Dev nD → Tab F) (s : ℕ) (p : Fin 3) (c : Dev nD) : BI.Storable (upEmb : UEmb _ 𝕄) (sendPay A0 s p c) := by
  unfold sendPay; split <;> infer_instance

/-! ## The schedule -/

/-- The part and the step a semaphore number and a round belong to. -/
def prt (q : ℕ) : Fin 3 := ⟨q / 2 % 3, Nat.mod_lt _ (by decide)⟩
def stp (q r : ℕ) : ℕ := 2 * r + q % 2

theorem prt_send (p : Fin 3) (s : ℕ) : prt (6 + 2 * p.val + s % 2) = p := by
  have := p.isLt; apply Fin.ext; show (6 + 2 * p.val + s % 2) / 2 % 3 = p.val; omega
theorem prt_recv (p : Fin 3) (s : ℕ) : prt (12 + 2 * p.val + s % 2) = p := by
  have := p.isLt; apply Fin.ext; show (12 + 2 * p.val + s % 2) / 2 % 3 = p.val; omega
theorem stp_send (p : Fin 3) (s : ℕ) : stp (6 + 2 * p.val + s % 2) (s / 2) = s := by unfold stp; omega
theorem stp_recv (p : Fin 3) (s : ℕ) : stp (12 + 2 * p.val + s % 2) (s / 2) = s := by unfold stp; omega

/-- The duties of a semaphore's round: the barrier has three in its round 0, one for each dimension; each exchange semaphore one in
    each of its rounds 0, 1, 2. -/
def duties (g : GSem nD τ sig) (r : ℕ) : Finset (Fin 3) :=
  if g.1.2 = .tc then
    match g.2 with
    | .reg _ => if r = 0 then Finset.univ else ∅
    | .dma q => if 6 ≤ q.val ∧ r < 3 then {0} else ∅
  else ∅

def amount (g : GSem nD τ sig) (r : ℕ) (_ : Fin 3) : ℕ :=
  match g.2 with
  | .reg _ => 1
  | .dma q => amt (stp q.val r) (prt q.val)

def payload (A0 : Dev nD → Tab F) (g : GSem nD τ sig) (r : ℕ) (d : Fin 3) : sProp 𝕄 :=
  match g.2 with
  | .reg _ => ready 0 d g.1.1
  | .dma q => if 12 ≤ q.val then recvPay A0 (stp q.val r) (prt q.val) g.1.1 else sendPay A0 (stp q.val r) (prt q.val) g.1.1

def sched (A0 : Dev nD → Tab F) : Rounds.Schedule (GSem nD τ sig) (Fin 3) 𝕄 where
  duties := duties
  amount := amount
  payload := payload A0
  unitless _ := False
  amount_pos g r d _ := by
    unfold amount
    split
    · exact Nat.one_pos
    · exact amt_pos _ _

instance sched_storable (A0 : Dev nD → Tab F) (g : GSem nD τ sig) (r : ℕ) (d : Fin 3) :
    BI.Storable (upEmb : UEmb _ 𝕄) ((sched A0).payload g r d) := by
  show BI.Storable upEmb (payload A0 g r d)
  unfold payload
  split
  · infer_instance
  · split <;> infer_instance

section Tables

variable (A0 : Dev nD → Tab F) (c : Dev nD) (p : Fin 3) (s : ℕ)

theorem duties_bar : (sched A0).duties (barCell c) 0 = Finset.univ := rfl
theorem duties_send (hs : s < 6) : (sched A0).duties (sendCell c p s) (s / 2) = {0} := by
  show (if 6 ≤ 6 + 2 * p.val + s % 2 ∧ s / 2 < 3 then _ else _) = _
  exact if_pos ⟨by omega, by omega⟩
theorem duties_recv (hs : s < 6) : (sched A0).duties (recvCell c p s) (s / 2) = {0} := by
  show (if 6 ≤ 12 + 2 * p.val + s % 2 ∧ s / 2 < 3 then _ else _) = _
  exact if_pos ⟨by omega, by omega⟩
theorem duties_bar_later (r : ℕ) (h : 1 ≤ r) : (sched A0).duties (barCell c) r = ∅ := by
  show (if r = 0 then _ else _) = _
  exact if_neg (by omega)
theorem duties_dma_later (q : DmaSem sig) (r : ℕ) (h : 3 ≤ r) : (sched A0).duties ((c : Thread nD τ), .dma q) r = ∅ := by
  show (if 6 ≤ q.val ∧ r < 3 then _ else _) = _
  exact if_neg (by omega)

theorem amount_bar (d : Fin 3) : (sched A0).amount (barCell c) 0 d = 1 := rfl
theorem amount_send (d : Fin 3) : (sched A0).amount (sendCell c p s) (s / 2) d = amt s p := by
  show amt (stp (6 + 2 * p.val + s % 2) (s / 2)) (prt (6 + 2 * p.val + s % 2)) = _
  rw [prt_send, stp_send]
theorem amount_recv (d : Fin 3) : (sched A0).amount (recvCell c p s) (s / 2) d = amt s p := by
  show amt (stp (12 + 2 * p.val + s % 2) (s / 2)) (prt (12 + 2 * p.val + s % 2)) = _
  rw [prt_recv, stp_recv]

theorem payload_bar (d : Fin 3) : (sched A0).payload (barCell c) 0 d = ready 0 d c := rfl
theorem payload_send (d : Fin 3) : (sched A0).payload (sendCell c p s) (s / 2) d = sendPay A0 s p c := by
  show (if 12 ≤ 6 + 2 * p.val + s % 2 then recvPay A0 (stp (6 + 2 * p.val + s % 2) (s / 2)) (prt (6 + 2 * p.val + s % 2)) c
    else sendPay A0 (stp (6 + 2 * p.val + s % 2) (s / 2)) (prt (6 + 2 * p.val + s % 2)) c) = _
  rw [prt_send, stp_send, if_neg (by omega)]
theorem payload_recv (d : Fin 3) : (sched A0).payload (recvCell c p s) (s / 2) d = recvPay A0 s p c := by
  show (if 12 ≤ 12 + 2 * p.val + s % 2 then recvPay A0 (stp (12 + 2 * p.val + s % 2) (s / 2)) (prt (12 + 2 * p.val + s % 2)) c
    else sendPay A0 (stp (12 + 2 * p.val + s % 2) (s / 2)) (prt (12 + 2 * p.val + s % 2)) c) = _
  rw [prt_recv, stp_recv, if_pos (by omega)]

theorem expect_bar : (sched A0).expect (barCell c) 0 = 3 := by
  unfold Schedule.expect Schedule.amountOf; rw [duties_bar]; rfl
theorem expect_send (hs : s < 6) : (sched A0).expect (sendCell c p s) (s / 2) = amt s p := by
  unfold Schedule.expect Schedule.amountOf; rw [duties_send A0 c p s hs, Finset.sum_singleton, amount_send]
theorem expect_recv (hs : s < 6) : (sched A0).expect (recvCell c p s) (s / 2) = amt s p := by
  unfold Schedule.expect Schedule.amountOf; rw [duties_recv A0 c p s hs, Finset.sum_singleton, amount_recv]

theorem rest_bar : bigSep ((sched A0).duties (barCell c) 0 \ ∅) (fun d => (sched A0).payload (barCell c) 0 d)
    = (bigSep Finset.univ fun d => ready (F := F) 0 d c) := by
  rw [Finset.sdiff_empty, duties_bar]; rfl
theorem rest_send (hs : s < 6) : bigSep ((sched A0).duties (sendCell c p s) (s / 2) \ ∅) (fun d => (sched A0).payload (sendCell c p s) (s / 2) d)
    = sendPay A0 s p c := by
  rw [Finset.sdiff_empty, duties_send A0 c p s hs, bigSep_singleton, payload_send]
theorem rest_recv (hs : s < 6) : bigSep ((sched A0).duties (recvCell c p s) (s / 2) \ ∅) (fun d => (sched A0).payload (recvCell c p s) (s / 2) d)
    = recvPay A0 s p c := by
  rw [Finset.sdiff_empty, duties_recv A0 c p s hs, bigSep_singleton, payload_recv]

end Tables

/-! ## What a device owes, and the order of the waits -/

/-- The credit the `i`-th copy a device starts will pay. -/
def due (c : Dev nD) (i : ℕ) : CellTallies nD τ sig ℕ :=
  tallyAt (recvCell (peer (i / 3) (prt (2 * i)) c) (prt (2 * i)) (i / 3)) (2 + i / 3) (amt (i / 3) (prt (2 * i)))

/-- What a device still owes when it has started `n` copies. -/
def owed (n : ℕ) (c : Dev nD) : CellTallies nD τ sig ℕ := ∑ i ∈ Finset.Ico n 18, due c i

theorem owed_step {n : ℕ} (hn : n < 18) (c : Dev nD) : owed n c = owed (n + 1) c + due c n := by
  unfold owed
  rw [show Finset.Ico n 18 = insert n (Finset.Ico (n + 1) 18) by ext i; simp only [Finset.mem_insert, Finset.mem_Ico]; omega,
    Finset.sum_insert (by simp), add_comm]
theorem owed_done (c : Dev nD) : owed 18 c = 0 := by unfold owed; rw [Finset.Ico_self, Finset.sum_empty]

/-- At launch: every copy, and one unit to each mate's barrier. -/
def O₀ (c : Dev nD) : CellTallies nD τ sig ℕ := owed 0 c + ∑ d : Fin 3, tallyAt (barCell (mate d c)) 1 1

def L (g : GSem nD τ sig) : Finset ℕ := if g.1.2 = .tc then Finset.range 8 else ∅
/-- A wait's rank is the index of what it waits for: pipeline copies 0, barrier 1, step `s` at `2 + s`. -/
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 8 := if_pos rfl

theorem owed_pos {n : ℕ} {c : Dev nD} {g : GSem nD τ sig} {u : ℕ} (h : 0 < owed n c g u) :
    u ∈ L g ∧ 2 + n / 3 ≤ u := by
  unfold owed at h
  have h' : 0 < ∑ i ∈ Finset.Ico n 18, due c i g u := by
    simpa [Finset.sum_apply] using h
  obtain ⟨i, hi, hpos⟩ := Finset.exists_ne_zero_of_sum_ne_zero (Nat.pos_iff_ne_zero.mp h')
  rw [Finset.mem_Ico] at hi
  unfold due at hpos
  rw [tallyAt_apply] at hpos
  by_cases hg : g = recvCell (peer (i / 3) (prt (2 * i)) c) (prt (2 * i)) (i / 3) ∧ u = 2 + i / 3
  · rw [hg.1, hg.2, L_tc]
    exact ⟨Finset.mem_range.mpr (by omega), by omega⟩
  · rw [if_neg hg] at hpos; exact absurd rfl hpos

theorem mayWait (c : Dev nD) (sm : SemLoc sig) (i n : ℕ) (h : i < 2 + n / 3) (hi : i < 8) :
    (levAts L lv : sProp 𝕄) ⊢ MayWait (c : Thread nD τ) sm i (owed n c) :=
  MayOwe.of_cut (L := L) (lev := lv) i
    (fun q hq => by rw [Finset.mem_singleton.mp hq, L_tc]; exact Finset.mem_range.mpr hi)
    (fun g u hg => (owed_pos hg).1)
    (fun q hq => by rw [Finset.mem_singleton.mp hq]; exact le_refl i)
    (fun g u hg => lt_of_lt_of_le h (owed_pos hg).2)

end Cert.KernelIdeal.Cube

end
-- ==== Proof.State.lean ====
/-
# What a device holds between the operations of the exchange

`B s p c` is what device `c` holds for part `p` before step `s`. Within a step it becomes `M1` (copy started), `M2` (own copy done),
`M3` (the mate's copy arrived) and, in the halving, `M4` (added). `B` is a local part, the room the device will hand over with its
copy, and the room it has been handed; `turn` passes from the three parts' ends of step `s` to their starts of step `s + 1`.
-/
module

public import proofs.«01_k».proof.Proof.Sched

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## All the cells' invariants -/

/-- The exchange's own semaphores. -/
abbrev osem : Fin 12 → SemLoc sig := fun k => .dma ⟨6 + k.val, by have := k.isLt; show _ < 18; omega⟩
theorem osem_inj : Function.Injective osem := by decide
theorem osem_ne_bar : ∀ k : Fin 12, osem k ≠ .reg barS := fun k h => by cases h

def barEmb : Dev nD ↪ GSem nD τ sig := ⟨fun c => barCell c, fun _ _ h => congrArg (fun g : GSem nD τ sig => g.1.1) h⟩
def scEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem sc_mem (c : Dev nD) (k : Fin 12) : ((c : Thread nD τ), osem k) ∈ (barCells ∪ scCells : Finset (GSem nD τ sig)) :=
  Finset.mem_union_right _ (Finset.mem_map_of_mem scEmb (Finset.mem_univ (c, k)))
theorem send_mem (c : Dev nD) (p : Fin 3) (s : ℕ) : sendCell c p s ∈ (barCells ∪ scCells : Finset (GSem nD τ sig)) := by
  have := p.isLt
  have h := sc_mem c ⟨2 * p.val + s % 2, by omega⟩
  have e : sendS p s = ⟨6 + (2 * p.val + s % 2), by show _ < 18; omega⟩ := Fin.ext (by show 6 + 2 * p.val + s % 2 = 6 + (2 * p.val + s % 2); omega)
  unfold sendCell; rw [e]; exact h
theorem recv_mem (c : Dev nD) (p : Fin 3) (s : ℕ) : recvCell c p s ∈ (barCells ∪ scCells : Finset (GSem nD τ sig)) := by
  have := p.isLt
  have h := sc_mem c ⟨6 + 2 * p.val + s % 2, by omega⟩
  have e : recvS p s = ⟨6 + (6 + 2 * p.val + s % 2), by show _ < 18; omega⟩ := Fin.ext (by show 12 + 2 * p.val + s % 2 = 6 + (6 + 2 * p.val + s % 2); omega)
  unfold recvCell; rw [e]; exact h

section Inv

variable (A0 : Dev nD → Tab F) (K : GSem nD τ sig → ℕ)

def invs : sProp 𝕄 := bigSep (barCells ∪ scCells) fun g => cellInv ER (sched A0) (K g) g
instance invs_persistent : BI.Persistent (invs A0 K) := by unfold invs; infer_instance
theorem inv_bar (c : Dev nD) : invs A0 K ⊢ cellInv ER (sched A0) (K (barCell c)) (barCell c) := bigSep_elim (bar_mem c)
theorem inv_send (c : Dev nD) (p : Fin 3) (s : ℕ) : invs A0 K ⊢ cellInv ER (sched A0) (K (sendCell c p s)) (sendCell c p s) :=
  bigSep_elim (send_mem c p s)
theorem inv_recv (c : Dev nD) (p : Fin 3) (s : ℕ) : invs A0 K ⊢ cellInv ER (sched A0) (K (recvCell c p s)) (recvCell c p s) :=
  bigSep_elim (recv_mem c p s)

end Inv

/-! ## Widths -/

/-- Rows of part `p` a device holds before round `k`. -/
def wd (k : ℕ) (p : Fin 3) : ℕ := 2 ^ (3 - k) * unit p

theorem hg_wd {k : ℕ} (hk : k < 3) (p : Fin 3) : hg k p = wd (k + 1) p := by
  have : k = 0 ∨ k = 1 ∨ k = 2 := by omega
  rcases this with h | h | h <;> subst h <;> rfl
theorem wd_two {k : ℕ} (hk : k < 3) (p : Fin 3) : wd k p = hg k p + hg k p := by
  have : k = 0 ∨ k = 1 ∨ k = 2 := by omega
  rcases this with h | h | h <;> subst h <;> revert p <;> decide

/-! ## The pieces -/

section Pieces

variable (A0 : Dev nD → Tab F) (s : ℕ) (p : Fin 3) (c : Dev nD)

/-- Whatever is owed after `n` copies, with any record of waits. -/
def OW (n : ℕ) : sProp 𝕄 := iprop(∃ W, owes (c : Thread nD τ) (owed n c) W)

/-- Positions on the two send semaphores of a part, and that their rounds are reached. -/
def posS : sProp 𝕄 :=
  iprop(atPos ER (sendCell c p s) (s / 2) ∅ 0 ∗ atPos ER (sendCell c p (s + 1)) ((s + 1) / 2) ∅ 0
    ∗ reached ER (sendCell c p s) (s / 2) ∗ reached ER (sendCell c p (s + 1)) ((s + 1) / 2))
def posR : sProp 𝕄 :=
  iprop(atPos ER (recvCell c p s) (s / 2) ∅ 0 ∗ atPos ER (recvCell c p (s + 1)) ((s + 1) / 2) ∅ 0)

/-- The rights step `s` spends: to pay the mate's semaphore and its own, and the promise that the mate's copy comes. -/
def one : sProp 𝕄 :=
  iprop(dutyTok ER (recvCell (peer s p c) p s) (s / 2) 0 ∗ dutyTok ER (sendCell c p s) (s / 2) 0
    ∗ cred (tallyAt (recvCell c p s) (2 + s) (amt s p)))
/-- Those of the last `n` steps. -/
def tk (p : Fin 3) (c : Dev nD) : ℕ → sProp 𝕄
  | 0 => iprop(emp)
  | n + 1 => iprop(one (5 - n) p c ∗ tk p c n)

/-- What the device will hand over with its copy at step `s`. -/
def give : sProp 𝕄 := if s < 5 then ready (s + 1) (nx s p) (peer s p c) else iprop(emp)
/-- What it makes that from. -/
def evid : sProp 𝕄 :=
  iprop(reached ER (recvCell c p (s + 1)) ((s + 1) / 2) ∗ (if s + 1 < 3 then commAny p c (slotOff (s + 1) p) (hg (s + 1) p) else iprop(emp)))

/-- The mates' rows the gathering will write, of rounds below `n`. -/
def backs (p : Fin 3) (c : Dev nD) : ℕ → sProp 𝕄
  | 0 => iprop(emp)
  | n + 1 => iprop(back n p c ∗ backs p c n)

/-- Rows of the landing buffer that have come to rest. -/
def lo (p : Fin 3) (c : Dev nD) : ℕ → sProp 𝕄
  | 0 => commAny p c (6 * unit p) (2 * unit p)
  | 1 => iprop(commAny p c (6 * unit p) (2 * unit p) ∗ commAny p c (unit p) (3 * unit p))
  | 2 => iprop(commAny p c (unit p) (3 * unit p) ∗ commAny p c (4 * unit p) (4 * unit p))
  | _ => commAny p c 0 (8 * unit p)

theorem lo_zero : (lo p c 0 : sProp 𝕄) = commAny p c (6 * unit p) (2 * unit p) := rfl
theorem lo_one : (lo p c 1 : sProp 𝕄) = iprop(commAny p c (6 * unit p) (2 * unit p) ∗ commAny p c (unit p) (3 * unit p)) := rfl
theorem lo_two : (lo p c 2 : sProp 𝕄) = iprop(commAny p c (unit p) (3 * unit p) ∗ commAny p c (4 * unit p) (4 * unit p)) := rfl
theorem lo_all {s : ℕ} (h : 3 ≤ s) : (lo p c s : sProp 𝕄) = commAny p c 0 (8 * unit p) := by
  obtain ⟨n, rfl⟩ := Nat.exists_eq_add_of_le h
  rw [Nat.add_comm]; rfl

/-- The device's own rows of the part. -/
def mine : sProp 𝕄 :=
  if s < 3 then blk outM c (cu s p c) (wd s p) (A A0 s p c) else blk outM c (cu (6 - s) p c) (wd (6 - s) p) (Rp A0 p)

def bk (s : ℕ) : ℕ := if s < 3 then s else 6 - s

/-- What stays on the device. -/
def loc : sProp 𝕄 :=
  iprop(posS s p c ∗ posR s p c ∗ tk p c (6 - s) ∗ backs p c (bk s) ∗ lo p c s ∗ mine A0 s p c)

def B : sProp 𝕄 := iprop(loc A0 s p c ∗ give s p c ∗ ready s p c)

def sendC : sProp 𝕄 := cred (tallyAt (sendCell c p s) 0 (amt s p))
def recvC : sProp 𝕄 := cred (tallyAt (recvCell c p s) (2 + s) (amt s p))

/-- The rows kept in the halving's round `s`, holding `g`. -/
def kept (g : Tab F) : sProp 𝕄 := blk outM c (cu (s + 1) p c) (hg s p) g
/-- The rows sent in the gathering's step `s`. -/
def lent : sProp 𝕄 := blk outM c (cu (6 - s) p c) (wd (6 - s) p) (Rp A0 p)

/-- Halving. -/
def H1 : sProp 𝕄 :=
  iprop(posS s p c ∗ posR s p c ∗ tk p c (5 - s) ∗ backs p c s ∗ lo p c s ∗ kept s p c (A A0 s p c) ∗ sendC s p c ∗ recvC s p c)
def H2 : sProp 𝕄 :=
  iprop(posS (s + 1) p c ∗ posR s p c ∗ tk p c (5 - s) ∗ backs p c s ∗ lo p c s ∗ kept s p c (A A0 s p c) ∗ recvC s p c)
/-- What both kinds of step have gathered once the mate's copy is in. -/
def got : sProp 𝕄 :=
  iprop(reached ER (recvCell c p (s + 2)) ((s + 2) / 2) ∗ (if s < 5 then ready (s + 1) (nx s p) c else iprop(emp)))
def H3 : sProp 𝕄 :=
  iprop(posS (s + 1) p c ∗ posR (s + 1) p c ∗ tk p c (5 - s) ∗ backs p c (s + 1) ∗ lo p c s ∗ kept s p c (A A0 s p c) ∗ got s p c
    ∗ comm p c (slotOff s p) (hg s p) (fun r j => A A0 s p (mate (dm s p) c) (r - slotOff s p + cu (s + 1) p c) j))
def H4 : sProp 𝕄 :=
  iprop(posS (s + 1) p c ∗ posR (s + 1) p c ∗ tk p c (5 - s) ∗ backs p c (s + 1) ∗ lo p c s ∗ kept s p c (A A0 (s + 1) p c) ∗ got s p c
    ∗ commAny p c (slotOff s p) (hg s p))

/-- Gathering. -/
def G1 : sProp 𝕄 :=
  iprop(posS s p c ∗ posR s p c ∗ tk p c (5 - s) ∗ backs p c (5 - s) ∗ lo p c s ∗ sendC s p c ∗ recvC s p c)
def G2 : sProp 𝕄 :=
  iprop(posS (s + 1) p c ∗ posR s p c ∗ tk p c (5 - s) ∗ backs p c (5 - s) ∗ lo p c s ∗ lent A0 s p c ∗ recvC s p c)
def G3 : sProp 𝕄 :=
  iprop(posS (s + 1) p c ∗ posR (s + 1) p c ∗ tk p c (5 - s) ∗ backs p c (5 - s) ∗ lo p c s ∗ mine A0 (s + 1) p c ∗ got s p c)

end Pieces

/-! ## Turning to the next step -/

theorem tk_take {s : ℕ} (hs : s < 6) (p : Fin 3) (c : Dev nD) : (tk p c (6 - s) : sProp 𝕄) = iprop(one s p c ∗ tk p c (5 - s)) := by
  obtain ⟨n, hn, rfl⟩ : ∃ n, n < 6 ∧ s = 5 - n := ⟨5 - s, by omega, by omega⟩
  rw [show 6 - (5 - n) = n + 1 by omega, show 5 - (5 - n) = n by omega]; rfl

theorem give_intro {s : ℕ} (hs : s < 5) (q : Fin 3) (c : Dev nD) : evid s (nx s q) c ⊢ (give s q c : sProp 𝕄) := by
  unfold evid give ready
  rw [if_pos hs, peer_nx hs, peer_peer]
theorem give_last (q : Fin 3) (c : Dev nD) : (give 5 q c : sProp 𝕄) = iprop(emp) := if_neg (by decide)

theorem reached_s2 (s : ℕ) (p : Fin 3) (c : Dev nD) :
    (reached ER (recvCell c p s) (s / 2 + 1) : sProp 𝕄) = reached ER (recvCell c p (s + 2)) ((s + 2) / 2) := by
  rw [recvCell, recvCell, recvS_add2, show (s + 2) / 2 = s / 2 + 1 by omega]
theorem posS_next (s : ℕ) (p : Fin 3) (c : Dev nD) :
    (posS (s + 1) p c : sProp 𝕄) = iprop(atPos ER (sendCell c p (s + 1)) ((s + 1) / 2) ∅ 0 ∗ atPos ER (sendCell c p s) (s / 2 + 1) ∅ 0
      ∗ reached ER (sendCell c p (s + 1)) ((s + 1) / 2) ∗ reached ER (sendCell c p s) (s / 2 + 1)) := by
  unfold posS
  rw [sendCell, sendCell, sendCell, show s + 1 + 1 = s + 2 from rfl, sendS_add2, show (s + 2) / 2 = s / 2 + 1 by omega]
theorem posR_next (s : ℕ) (p : Fin 3) (c : Dev nD) :
    (posR (s + 1) p c : sProp 𝕄) = iprop(atPos ER (recvCell c p (s + 1)) ((s + 1) / 2) ∅ 0 ∗ atPos ER (recvCell c p s) (s / 2 + 1) ∅ 0) := by
  unfold posR
  rw [recvCell, recvCell, recvCell, show s + 1 + 1 = s + 2 from rfl, recvS_add2, show (s + 2) / 2 = s / 2 + 1 by omega]

/-- The end of a halving step: the landing buffer's freed rows go where the next step needs them. -/
theorem turnH {s : ℕ} (hs : s < 3) (A0 : Dev nD → Tab F) (p : Fin 3) (c : Dev nD) :
    H4 A0 s p c ⊢ iprop(loc A0 (s + 1) p c ∗ evid (s + 1) p c ∗ ready (s + 1) (nx s p) c) := by
  have : s = 0 ∨ s = 1 ∨ s = 2 := by omega
  rcases this with h | h | h <;> subst h
  · unfold H4 loc evid got
    iintro ⟨HS, HR, HT, HB, HL, HK, ⟨Hr, Hy⟩, HC⟩
    ihave HC := (show (commAny (F := F) p c (slotOff 0 p) (hg 0 p) : sProp 𝕄) ⊢ iprop(commAny p c 0 (unit p) ∗ commAny p c (unit p) (3 * unit p)) by
      rw [show slotOff 0 p = 0 from rfl, show hg 0 p = unit p + 3 * unit p by show 4 * unit p = _; omega]
      exact commAny_cut p c (by omega)) $$ HC
    icases HC with ⟨HC0, HC1⟩
    isplitl [HS HR HT HB HL HK HC1]
    · isplitl [HS]; · iexact HS
      isplitl [HR]; · iexact HR
      isplitl [HT]; · iexact HT
      isplitl [HB]; · iexact HB
      isplitl [HL HC1]
      · iapply (Entails.of_eq (lo_one (F := F) p c).symm)
        isplitl [HL]; · iapply (Entails.of_eq (lo_zero (F := F) p c)) $$ HL
        iexact HC1
      unfold mine kept; rw [if_pos (by decide), hg_wd (by decide)]; iexact HK
    isplitl [Hr HC0]
    · isplitl [Hr]; · iexact Hr
      rw [if_pos (by decide), show slotOff (0 + 1 + 1) p = 0 from rfl, show hg (0 + 1 + 1) p = unit p from Nat.one_mul _]
      iexact HC0
    · iapply (Entails.of_eq (if_pos (by decide))) $$ Hy
  · unfold H4 loc evid got
    iintro ⟨HS, HR, HT, HB, HL, HK, ⟨Hr, Hy⟩, HC⟩
    ihave HL := (Entails.of_eq (lo_one (F := F) p c)) $$ HL
    icases HL with ⟨HL, HL'⟩
    isplitl [HS HR HT HB HL HL' HK HC]
    · isplitl [HS]; · iexact HS
      isplitl [HR]; · iexact HR
      isplitl [HT]; · iexact HT
      isplitl [HB]; · iexact HB
      isplitl [HL HL' HC]
      · rw [lo_two]
        isplitl [HL']; · iexact HL'
        rw [show 4 * unit p = 2 * unit p + 2 * unit p by omega]
        iapply (commAny_glue (F := F) p c (a := 2 * unit p + 2 * unit p) (b := 6 * unit p) (by omega))
        isplitl [HC]
        · rw [show slotOff 1 p = 2 * unit p + 2 * unit p by show 4 * unit p = _; omega, show hg 1 p = 2 * unit p from rfl]; iexact HC
        · iexact HL
      unfold mine kept; rw [if_pos (by decide), hg_wd (by decide)]; iexact HK
    isplitl [Hr]
    · isplitl [Hr]; · iexact Hr
      rw [if_neg (by decide)]; iempintro
    · iapply (Entails.of_eq (if_pos (by decide))) $$ Hy
  · unfold H4 loc evid got
    iintro ⟨HS, HR, HT, HB, HL, HK, ⟨Hr, Hy⟩, HC⟩
    ihave HL := (Entails.of_eq (lo_two (F := F) p c)) $$ HL
    icases HL with ⟨HL, HL'⟩
    isplitl [HS HR HT HB HL HL' HK HC]
    · isplitl [HS]; · iexact HS
      isplitl [HR]; · iexact HR
      isplitl [HT]; · iexact HT
      isplitl [HB]; · iexact HB
      isplitl [HL HL' HC]
      · rw [lo_all p c (by decide), show 8 * unit p = (unit p + 3 * unit p) + 4 * unit p by omega]
        iapply (commAny_glue (F := F) p c (a := 0) (b := 4 * unit p) (by omega))
        isplitr [HL']
        · iapply (commAny_glue (F := F) p c (a := 0) (b := unit p) (by omega))
          isplitl [HC]
          · rw [show slotOff 2 p = 0 from rfl, show hg 2 p = unit p from Nat.one_mul _]; iexact HC
          · iexact HL
        · iexact HL'
      iapply (Entails.of_eq (show (kept 2 p c (A A0 (2 + 1) p c) : sProp 𝕄) = mine A0 (2 + 1) p c from ?_)) $$ HK
      unfold mine kept
      rw [if_neg (by decide), hg_wd (by decide)]
      refine blk_congr _ _ fun r j h₁ h₂ => ?_
      unfold Rp
      rw [owner_of_mem p c h₁ (by rw [show wd (2 + 1) p = unit p from Nat.one_mul _] at h₂; exact h₂)]
    isplitl [Hr]
    · isplitl [Hr]; · iexact Hr
      rw [if_neg (by decide)]; iempintro
    · iapply (Entails.of_eq (if_pos (by decide))) $$ Hy

theorem turnG {s : ℕ} (h3 : 3 ≤ s) (hs : s < 5) (A0 : Dev nD → Tab F) (p : Fin 3) (c : Dev nD) :
    G3 A0 s p c ⊢ iprop(loc A0 (s + 1) p c ∗ evid (s + 1) p c ∗ ready (s + 1) (nx s p) c) := by
  have : s = 3 ∨ s = 4 := by omega
  rcases this with h | h <;> subst h <;>
  · unfold G3 loc evid got
    rw [if_pos (by decide), if_neg (by decide)]
    iintro ⟨HS, HR, HT, HB, HL, HK, ⟨Hr, Hy⟩⟩
    isplitr [Hr Hy]
    · isplitl [HS]; · iexact HS
      isplitl [HR]; · iexact HR
      isplitl [HT]; · iexact HT
      isplitl [HB]; · iexact HB
      isplitl [HL]; · iexact HL
      iexact HK
    isplitl [Hr]
    · isplitl [Hr]; · iexact Hr
      iempintro
    · iexact Hy

/-- A family over the three parts, met in the order of `nx`. -/
theorem rotate (s : ℕ) (X : Fin 3 → sProp 𝕄) : iprop(X (nx s 0) ∗ X (nx s 1) ∗ X (nx s 2)) ⊢ iprop(X 0 ∗ X 1 ∗ X 2) := by
  unfold nx
  split
  · show iprop(X 2 ∗ X 0 ∗ X 1) ⊢ _
    iintro ⟨H2, H0, H1⟩
    isplitl [H0]; · iexact H0
    isplitl [H1] <;> iassumption
  · split
    · exact .rfl
    · show iprop(X 1 ∗ X 2 ∗ X 0) ⊢ _
      iintro ⟨H1, H2, H0⟩
      isplitl [H0]; · iexact H0
      isplitl [H1] <;> iassumption

theorem rotate' (s : ℕ) (X : Fin 3 → sProp 𝕄) : iprop(X 0 ∗ X 1 ∗ X 2) ⊢ iprop(X (nx s 0) ∗ X (nx s 1) ∗ X (nx s 2)) := by
  unfold nx
  split
  · show _ ⊢ iprop(X 2 ∗ X 0 ∗ X 1)
    iintro ⟨H0, H1, H2⟩
    isplitl [H2]; · iexact H2
    isplitl [H0] <;> iassumption
  · split
    · exact .rfl
    · show _ ⊢ iprop(X 1 ∗ X 2 ∗ X 0)
      iintro ⟨H0, H1, H2⟩
      isplitl [H1]; · iexact H1
      isplitl [H2] <;> iassumption

theorem giveAll {s : ℕ} (hs : s < 6) (c : Dev nD) :
    iprop(evid s 0 c ∗ evid s 1 c ∗ evid s 2 c) ⊢ (iprop(give s 0 c ∗ give s 1 c ∗ give s 2 c) : sProp 𝕄) := by
  by_cases h : s < 5
  · refine (rotate' s fun q => evid s q c).trans ?_
    exact BIClass.sep_mono (give_intro h 0 c) (BIClass.sep_mono (give_intro h 1 c) (give_intro h 2 c))
  · obtain rfl : s = 5 := by omega
    rw [give_last, give_last, give_last]
    iintro -
    isplitr; · iempintro
    isplitr <;> iempintro

theorem assemble {s : ℕ} (hs : s < 5) (A0 : Dev nD → Tab F) (c : Dev nD) (X : Fin 3 → sProp 𝕄)
    (hX : ∀ p, X p ⊢ iprop(loc A0 (s + 1) p c ∗ evid (s + 1) p c ∗ ready (s + 1) (nx s p) c)) :
    iprop(X 0 ∗ X 1 ∗ X 2) ⊢ iprop(B A0 (s + 1) 0 c ∗ B A0 (s + 1) 1 c ∗ B A0 (s + 1) 2 c) := by
  refine (BIClass.sep_mono (hX 0) (BIClass.sep_mono (hX 1) (hX 2))).trans ?_
  unfold B
  iintro ⟨⟨L0, E0, Y0⟩, ⟨L1, E1, Y1⟩, ⟨L2, E2, Y2⟩⟩
  ihave HY := (rotate s fun q => (ready (s + 1) q c : sProp 𝕄)) $$ [Y0 Y1 Y2]
  · isplitl [Y0]; · iexact Y0
    isplitl [Y1] <;> iassumption
  ihave HE := (giveAll (F := F) (s := s + 1) (by omega) c) $$ [E0 E1 E2]
  · isplitl [E0]; · iexact E0
    isplitl [E1] <;> iassumption
  icases HY with ⟨Y0, Y1, Y2⟩
  icases HE with ⟨E0, E1, E2⟩
  isplitl [L0 E0 Y0]
  · isplitl [L0]; · iexact L0
    isplitl [E0] <;> iassumption
  isplitl [L1 E1 Y1]
  · isplitl [L1]; · iexact L1
    isplitl [E1] <;> iassumption
  isplitl [L2]; · iexact L2
  isplitl [E2] <;> iassumption

end Cert.KernelIdeal.Cube

end
-- ==== Proof.Ops.lean ====
/-
# The operations of the exchange, once for every step and part

Each theorem takes a device's holdings for one part across one operation: starting a copy, waiting for its end, waiting for the
mate's, adding what arrived. The operation's views enter through the rows they cover.
-/
module

public import proofs.«01_k».proof.Proof.State

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

abbrev 𝒱₀ : Variants := Variants.none

/-- Running `e` on device `c`'s core to `Q`. -/
abbrev WP {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

theorem blk_slice {N n a : ℕ} (m : Memref sig .tc .vmem (Rows N) .f32) (c : Dev nD) (off : Fin 2 → ℕ)
    (inb : ∀ a, off a + (Rows n).size a ≤ (Rows N).size a) (hu) (h0 : off 0 = a) (h1 : off 1 = 0) (g : Tab F) :
    (blk m c a n g : sProp 𝕄)
      = ((m.slice (Rect.unit (s := Rows N) off (Rows n).size inb) hu).view.loc (c : Thread nD τ)
          ↦[(m.slice (Rect.unit (s := Rows N) off (Rows n).size inb) hu).view.set]{fullShare} m.view.rep (fill g)) := by
  unfold blk
  rw [← access_set m off inb h0 h1]

theorem blk_halves {k : ℕ} (hk : k < 3) (p : Fin 3) (c : Dev nD) (g : Tab F) :
    (blk outM c (cu k p c) (wd k p) g : sProp 𝕄) ⊣⊢ iprop(blk outM c (ot k p c) (hg k p) g ∗ blk outM c (cu (k + 1) p c) (hg k p) g) := by
  rw [wd_two hk]
  rcases halves k hk p c with ⟨h, h'⟩ | ⟨h, h'⟩
  · rw [h, h']
    exact ⟨(blk_split outM c _ _ _ g).1.trans (by iintro ⟨H, H'⟩; isplitl [H'] <;> iassumption),
      (show iprop(_ ∗ _) ⊢ iprop(_ ∗ _) by iintro ⟨H, H'⟩; isplitl [H'] <;> iassumption).trans (blk_split outM c _ _ _ g).2⟩
  · rw [h, h']
    exact blk_split outM c _ _ _ g

section Ops

variable (A0 : Dev nD → Tab F) (K : GSem nD τ sig → ℕ) {s : ℕ} {p : Fin 3} {c : Dev nD} {i : ℕ}

theorem due_at (hs : s < 6) (hi : i = 3 * s + p.val) :
    due c i = tallyAt (recvCell (peer s p c) p s) (2 + s) (amt s p) := by
  subst hi
  have hp := p.isLt
  have e1 : (3 * s + p.val) / 3 = s := by omega
  have e2 : prt (2 * (3 * s + p.val)) = p := Fin.ext (by show 2 * (3 * s + p.val) / 2 % 3 = p.val; omega)
  unfold due; rw [e1, e2]

theorem ks_lt (h : s < 3) : ks s = s := if_pos h
theorem ks_ge (h : 3 ≤ s) : ks s = 5 - s := if_neg (by omega)

/-- The halving's copy is started. -/
theorem sendH (hs : s < 3) (hi : i = 3 * s + p.val) {N n : ℕ} (cm : Memref sig .tc .vmem (Rows N) .f32)
    (hcm : ∀ c a n g, comm (F := F) p c a n g = blk cm c a n g) (hcA : ∀ c a n, commAny (F := F) p c a n = blkAny cm c a n)
    (hn : n = hg s p)
    {off off' : Fin 2 → ℕ} {inb : ∀ a, off a + (Rows n).size a ≤ (Rows 1024).size a} {inb' : ∀ a, off' a + (Rows n).size a ≤ (Rows N).size a}
    {hu hu'} (h0 : off 0 = ot s p c) (h1 : off 1 = 0) (h0' : off' 0 = slotOff s p) (h1' : off' 1 = 0)
    {t : Dev nD} (ht : t = mate (dm s p) c) {sS sR : DmaSem sig} (hsS : sS = sendS p s) (hsR : sR = recvS p s)
    {hsc hsrc hdst hsem} (hN : (cm.slice (Rect.unit (s := Rows N) off' (Rows n).size inb') hu').view.dmaCredit = amt s p)
    {α : Type} {k : PUnit → Prog (TpuEff nD τ sig (Elt F) Λ₀ .tc) α} {Q : α → sProp 𝕄} :
    iprop(invs A0 K ∗ OW c i ∗ B A0 s p c)
      ⊢ iprop(((OW c (i + 1) ∗ H1 A0 s p c) -∗ WP c (k ⟨⟩) Q)
        -∗ WP c (.op (.enqueueDma (outM.slice (Rect.unit (s := Rows 1024) off (Rows n).size inb) hu)
            (.remote (Dev.tc t) (cm.slice (Rect.unit (s := Rows N) off' (Rows n).size inb') hu') (.dma sS) hsc) (.dma sR) hsrc hdst hsem) k) Q) := by
  subst hsS hsR hn
  have hks := ks_lt hs
  have hpe : peer s p c = t := by rw [ht]; unfold peer; rw [hks]
  have hcu : cu (s + 1) p t = ot s p c := by rw [ht, ot_eq s hs]
  have hmt : mate (dm s p) t = c := by rw [ht, mate_mate]
  unfold B loc ready OW
  rw [hpe]
  iintro ⟨#HI, ⟨%W, HO⟩, ⟨HS, HR, HT, HB, HL, HM⟩, HG, #Hre, HC⟩ Hk
  ihave HT := (Entails.of_eq (tk_take (F := F) (show s < 6 by omega) p c)) $$ HT
  unfold one
  icases HT with ⟨⟨HtR, HtS, HcR⟩, HT⟩
  ihave HM := ((Entails.of_eq (show (mine A0 s p c : sProp 𝕄) = _ from if_pos hs)).trans (blk_halves hs p c _).1) $$ HM
  icases HM with ⟨HMo, HMk⟩
  ihave HMo := (Entails.of_eq (blk_slice outM c off inb hu h0 h1 (A A0 s p c))) $$ HMo
  ihave HC := (Entails.of_eq (show (if s < 3 then commAny (F := F) p t (slotOff s p) (hg s p) else iprop(emp)) = blkAny cm t (slotOff s p) (hg s p) by
    rw [if_pos hs, hcA])) $$ HC
  unfold blkAny
  icases HC with ⟨%g', HC⟩
  ihave HC := (Entails.of_eq (blk_slice cm t off' inb' hu' h0' h1' g')) $$ HC
  unfold posS
  icases HS with ⟨Ha0, Ha1, #Hr0, #Hr1⟩
  iapply (Rounds.wp_send_landing_pointsTo_with 𝒱₀ ER (sched A0) (c : Thread nD τ) none (c' := (t : Thread nD τ))
      (sS := .dma (sendS p s)) (sem := .dma (recvS p s)) (q := fullShare) (F := give s p c)
      (fs := outM.view.rep (fill (A A0 s p c))) (fd := cm.view.rep (fill g')) (O₀ := owed i c)
      (κ₁ := K (sendCell c p s)) (κ₂ := K (recvCell t p s)) (r₁ := s / 2) (r₂ := s / 2) (d₁ := 0) (d₂ := 0)
      (by rw [duties_send A0 c p s (by omega)]; exact Finset.mem_singleton_self _)
      (by rw [duties_recv A0 t p s (by omega)]; exact Finset.mem_singleton_self _)
      (2 + s) 0 (amt s p) hN (amount_send A0 c p s 0) (amount_recv A0 t p s 0) (owed (i + 1) c)
      (by rw [owed_step (show i < 18 by have := p.isLt; omega), due_at (show s < 6 by omega) hi, hpe]) (W := W)
      (by rw [payload_send]; unfold sendPay; rw [if_pos hs])
      (by
        rw [payload_recv]; unfold recvPay landed back give
        rw [if_pos hs, hmt, hcu, hpe, hcm]
        iintro ⟨⟨HD, HG⟩, HSrc⟩
        isplitl [HD HSrc]
        · isplitl [HD]
          · iapply (Entails.of_eq (slice_write cm t off' inb' h0' h1' _ _ (fun r j => A A0 s p c (r - slotOff s p + ot s p c) j) fun x => ?_)) $$ HD
            refine (congrFun (slice_read outM off inb h0 h1 (A A0 s p c)) x).trans ?_
            show A A0 s p c (ot s p c + (x 0).val) (x 1).val = A A0 s p c (slotOff s p + (x 0).val - slotOff s p + ot s p c) (x 1).val
            rw [Nat.add_sub_cancel_left, Nat.add_comm]
          · iapply (blk_any outM c _ _ (A A0 s p c))
            iapply (Entails.of_eq (blk_slice outM c off inb hu h0 h1 (A A0 s p c)).symm) $$ HSrc
        · iexact HG)) $$ [HMo HC HG HO HtS HtR]
  · isplitr; · iapply (inv_send A0 K c p s); iexact HI
    isplitr; · iapply (inv_recv A0 K t p s); iexact HI
    isplitl [HMo]; · iexact HMo
    isplitl [HC HG]; · isplitl [HC] <;> iassumption
    isplitl [HO]; · iexact HO
    isplitl [HtS]; · iexact HtS
    isplitr; · iexact Hr0
    isplitl [HtR]; · iapply (Entails.of_eq (by rw [hpe])) $$ HtR
    iexact Hre
  iintro ⟨HcS, HO⟩
  iapply Hk
  isplitl [HO]; · iexists W; iexact HO
  unfold H1 posS kept sendC recvC
  isplitl [Ha0 Ha1]
  · isplitl [Ha0]; · iexact Ha0
    isplitl [Ha1]; · iexact Ha1
    isplitr; · iexact Hr0
    iexact Hr1
  isplitl [HR]; · iexact HR
  isplitl [HT]; · iexact HT
  isplitl [HB]; · iapply (Entails.of_eq (by unfold bk; rw [if_pos hs])) $$ HB
  isplitl [HL]; · iexact HL
  isplitl [HMk]; · iexact HMk
  isplitl [HcS]; · iexact HcS
  iexact HcR

/-- A wait for the end of the device's own copy. -/
theorem waitS (hs : s < 6) (hi : i = 3 * s + 3) {sS : DmaSem sig} (hsS : sS = sendS p s)
    {sp sp' : Space} {sh sh' : Shape} {e e' : EltTy} {src : Memref sig .tc sp' sh' e'} {dst : Memref sig .tc sp sh e} {hsrc hdst}
    (hN : dst.view.dmaCredit = amt s p) {α : Type} {k : PUnit → Prog (TpuEff nD τ sig (Elt F) Λ₀ .tc) α} {Q : α → sProp 𝕄} :
    iprop(invs A0 K ∗ levAts L lv ∗ OW c i ∗ posS s p c ∗ sendC s p c)
      ⊢ iprop(((OW c i ∗ posS (s + 1) p c ∗ sendPay A0 s p c) -∗ WP c (k ⟨⟩) Q)
        -∗ WP c (.op (.waitDma2 sS src dst hsrc hdst) k) Q) := by
  subst hsS
  unfold OW sendC
  iintro ⟨#HI, #HL, ⟨%W, HO⟩, HS, HC⟩ Hk
  unfold posS
  icases HS with ⟨Ha0, Ha1, #Hr0, #Hr1⟩
  iapply (Rounds.wp_wait_rest_token 𝒱₀ ER (sched A0) (c : Thread nD τ) none (κ := K (sendCell c p s))
      (wpE_waitDma2_eq (src := src) (dst := dst) 𝒱₀ (c : Thread nD τ) none Set.univ) (Set.mem_univ _) 0 (O := owed i c) (W := W) (R := s / 2) (m := 0) (T := ∅)
      (by rw [Nat.zero_add, hN]; exact (expect_send A0 c p s hs).symm)) $$ [HC HO Ha0]
  · isplitr; · iapply (inv_send A0 K c p s); iexact HI
    isplitl [HC]; · iapply (Entails.of_eq (by rw [hN])) $$ HC
    isplitl [HO]; · iexact HO
    isplitr; · iapply (mayWait c (.dma (sendS p s)) 0 i (by omega) (by decide)); iexact HL
    iexact Ha0
  iintro ⟨HO, Ha0, #Hr, Hpay⟩
  ihave Hpay := (Entails.of_eq (rest_send A0 c p s hs)) $$ Hpay
  iapply Hk
  isplitl [HO]; · iexists _; iexact HO
  isplitl [Ha0 Ha1]
  · iapply (Entails.of_eq ((posS_next (F := F) s p c).symm.trans (by unfold posS; rfl)))
    isplitl [Ha1]; · iexact Ha1
    isplitl [Ha0]; · iexact Ha0
    isplitr; · iexact Hr1
    iexact Hr
  iexact Hpay

/-- A wait for the mate's copy. -/
theorem waitR (hs : s < 6) (hi : i = 3 * s + 3) {sR : DmaSem sig} (hsR : sR = recvS p s)
    {sp sp' : Space} {sh sh' : Shape} {e e' : EltTy} {src : Memref sig .tc sp' sh' e'} {dst : Memref sig .tc sp sh e} {hsrc hdst}
    (hN : dst.view.dmaCredit = amt s p) {α : Type} {k : PUnit → Prog (TpuEff nD τ sig (Elt F) Λ₀ .tc) α} {Q : α → sProp 𝕄} :
    iprop(invs A0 K ∗ levAts L lv ∗ OW c i ∗ posR s p c ∗ recvC s p c)
      ⊢ iprop(((OW c i ∗ posR (s + 1) p c ∗ got s p c ∗ landed A0 s p c) -∗ WP c (k ⟨⟩) Q)
        -∗ WP c (.op (.waitDma2 sR src dst hsrc hdst) k) Q) := by
  subst hsR
  unfold OW recvC
  iintro ⟨#HI, #HL, ⟨%W, HO⟩, HS, HC⟩ Hk
  unfold posR
  icases HS with ⟨Ha0, Ha1⟩
  iapply (Rounds.wp_wait_rest_token 𝒱₀ ER (sched A0) (c : Thread nD τ) none (κ := K (recvCell c p s))
      (wpE_waitDma2_eq (src := src) (dst := dst) 𝒱₀ (c : Thread nD τ) none Set.univ) (Set.mem_univ _) (2 + s) (O := owed i c) (W := W) (R := s / 2) (m := 0) (T := ∅)
      (by rw [Nat.zero_add, hN]; exact (expect_recv A0 c p s hs).symm)) $$ [HC HO Ha0]
  · isplitr; · iapply (inv_recv A0 K c p s); iexact HI
    isplitl [HC]; · iapply (Entails.of_eq (by rw [hN])) $$ HC
    isplitl [HO]; · iexact HO
    isplitr; · iapply (mayWait c (.dma (recvS p s)) (2 + s) i (by omega) (by omega)); iexact HL
    iexact Ha0
  iintro ⟨HO, Ha0, #Hr, Hpay⟩
  ihave Hpay := ((Entails.of_eq (rest_recv A0 c p s hs)).trans (show recvPay A0 s p c ⊢ iprop(landed A0 s p c ∗ _) from .rfl)) $$ Hpay
  icases Hpay with ⟨Hl, Hy⟩
  iapply Hk
  isplitl [HO]; · iexists _; iexact HO
  isplitl [Ha0 Ha1]
  · iapply (Entails.of_eq ((posR_next (F := F) s p c).symm.trans (by unfold posR; rfl)))
    isplitl [Ha1]; · iexact Ha1
    iexact Ha0
  isplitl [Hy]
  · unfold got
    isplitr; · iapply (Entails.of_eq (reached_s2 (F := F) s p c)); iexact Hr
    iexact Hy
  iexact Hl

theorem waitSH (hs : s < 3) (hi : i = 3 * s + 3) {sS : DmaSem sig} (hsS : sS = sendS p s)
    {sp sp' : Space} {sh sh' : Shape} {e e' : EltTy} {src : Memref sig .tc sp' sh' e'} {dst : Memref sig .tc sp sh e} {hsrc hdst}
    (hN : dst.view.dmaCredit = amt s p) {α : Type} {k : PUnit → Prog (TpuEff nD τ sig (Elt F) Λ₀ .tc) α} {Q : α → sProp 𝕄} :
    iprop(invs A0 K ∗ levAts L lv ∗ OW c i ∗ H1 A0 s p c)
      ⊢ iprop(((OW c i ∗ H2 A0 s p c) -∗ WP c (k ⟨⟩) Q) -∗ WP c (.op (.waitDma2 sS src dst hsrc hdst) k) Q) := by
  unfold H1 H2
  iintro ⟨#HI, #HL, HO, HS, HR, HT, HB, Hl, HK, HcS, HcR⟩ Hk
  iapply (waitS A0 K (s := s) (p := p) (by omega) hi hsS hN) $$ [HO HS HcS]
  · isplitr; · iexact HI
    isplitr; · iexact HL
    isplitl [HO]; · iexact HO
    isplitl [HS] <;> iassumption
  iintro ⟨HO, HS, -⟩
  iapply Hk
  isplitl [HO]; · iexact HO
  isplitl [HS]; · iexact HS
  isplitl [HR]; · iexact HR
  isplitl [HT]; · iexact HT
  isplitl [HB]; · iexact HB
  isplitl [Hl]; · iexact Hl
  isplitl [HK]; · iexact HK
  iexact HcR

theorem waitRH (hs : s < 3) (hi : i = 3 * s + 3) {sR : DmaSem sig} (hsR : sR = recvS p s)
    {sp sp' : Space} {sh sh' : Shape} {e e' : EltTy} {src : Memref sig .tc sp' sh' e'} {dst : Memref sig .tc sp sh e} {hsrc hdst}
    (hN : dst.view.dmaCredit = amt s p) {α : Type} {k : PUnit → Prog (TpuEff nD τ sig (Elt F) Λ₀ .tc) α} {Q : α → sProp 𝕄} :
    iprop(invs A0 K ∗ levAts L lv ∗ OW c i ∗ H2 A0 s p c)
      ⊢ iprop(((OW c i ∗ H3 A0 s p c) -∗ WP c (k ⟨⟩) Q) -∗ WP c (.op (.waitDma2 sR src dst hsrc hdst) k) Q) := by
  unfold H2 H3
  iintro ⟨#HI, #HL, HO, HS, HR, HT, HB, Hl, HK, HcR⟩ Hk
  iapply (waitR A0 K (s := s) (p := p) (by omega) hi hsR hN) $$ [HO HR HcR]
  · isplitr; · iexact HI
    isplitr; · iexact HL
    isplitl [HO]; · iexact HO
    isplitl [HR] <;> iassumption
  iintro ⟨HO, HR, Hg, Hland⟩
  ihave Hland := (Entails.of_eq (show landed A0 s p c = _ from if_pos hs)) $$ Hland
  icases Hland with ⟨HC, Hb⟩
  iapply Hk
  isplitl [HO]; · iexact HO
  isplitl [HS]; · iexact HS
  isplitl [HR]; · iexact HR
  isplitl [HT]; · iexact HT
  isplitl [HB Hb]
  · iapply (Entails.of_eq (show iprop(back s p c ∗ backs p c s) = (backs p c (s + 1) : sProp 𝕄) from rfl))
    isplitl [Hb]; · iexact Hb
    iexact HB
  isplitl [Hl]; · iexact Hl
  isplitl [HK]; · iexact HK
  isplitl [Hg]; · iexact Hg
  iexact HC

theorem waitSG (h3 : 3 ≤ s) (hs : s < 6) (hi : i = 3 * s + 3) {sS : DmaSem sig} (hsS : sS = sendS p s)
    {sp sp' : Space} {sh sh' : Shape} {e e' : EltTy} {src : Memref sig .tc sp' sh' e'} {dst : Memref sig .tc sp sh e} {hsrc hdst}
    (hN : dst.view.dmaCredit = amt s p) {α : Type} {k : PUnit → Prog (TpuEff nD τ sig (Elt F) Λ₀ .tc) α} {Q : α → sProp 𝕄} :
    iprop(invs A0 K ∗ levAts L lv ∗ OW c i ∗ G1 s p c)
      ⊢ iprop(((OW c i ∗ G2 A0 s p c) -∗ WP c (k ⟨⟩) Q) -∗ WP c (.op (.waitDma2 sS src dst hsrc hdst) k) Q) := by
  unfold G1 G2
  iintro ⟨#HI, #HL, HO, HS, HR, HT, HB, Hl, HcS, HcR⟩ Hk
  iapply (waitS A0 K (s := s) (p := p) hs hi hsS hN) $$ [HO HS HcS]
  · isplitr; · iexact HI
    isplitr; · iexact HL
    isplitl [HO]; · iexact HO
    isplitl [HS] <;> iassumption
  iintro ⟨HO, HS, HP⟩
  iapply Hk
  isplitl [HO]; · iexact HO
  isplitl [HS]; · iexact HS
  isplitl [HR]; · iexact HR
  isplitl [HT]; · iexact HT
  isplitl [HB]; · iexact HB
  isplitl [Hl]; · iexact Hl
  isplitl [HP]
  · iapply (Entails.of_eq (show sendPay A0 s p c = lent A0 s p c by
      unfold sendPay lent; rw [if_neg (by omega), hg_wd (by omega), show 5 - s + 1 = 6 - s by omega])) $$ HP
  iexact HcR

theorem waitRG (h3 : 3 ≤ s) (hs : s < 6) (hi : i = 3 * s + 3) {sR : DmaSem sig} (hsR : sR = recvS p s)
    {sp sp' : Space} {sh sh' : Shape} {e e' : EltTy} {src : Memref sig .tc sp' sh' e'} {dst : Memref sig .tc sp sh e} {hsrc hdst}
    (hN : dst.view.dmaCredit = amt s p) {α : Type} {k : PUnit → Prog (TpuEff nD τ sig (Elt F) Λ₀ .tc) α} {Q : α → sProp 𝕄} :
    iprop(invs A0 K ∗ levAts L lv ∗ OW c i ∗ G2 A0 s p c)
      ⊢ iprop(((OW c i ∗ G3 A0 s p c) -∗ WP c (k ⟨⟩) Q) -∗ WP c (.op (.waitDma2 sR src dst hsrc hdst) k) Q) := by
  unfold G2 G3
  iintro ⟨#HI, #HL, HO, HS, HR, HT, HB, Hl, HK, HcR⟩ Hk
  iapply (waitR A0 K (s := s) (p := p) hs hi hsR hN) $$ [HO HR HcR]
  · isplitr; · iexact HI
    isplitr; · iexact HL
    isplitl [HO]; · iexact HO
    isplitl [HR] <;> iassumption
  iintro ⟨HO, HR, Hg, Hland⟩
  iapply Hk
  isplitl [HO]; · iexact HO
  isplitl [HS]; · iexact HS
  isplitl [HR]; · iexact HR
  isplitl [HT]; · iexact HT
  isplitl [HB]; · iexact HB
  isplitl [Hl]; · iexact Hl
  isplitl [HK Hland]
  · iapply (Entails.of_eq (show (blk outM c (cu (5 - s) p c) (wd (5 - s) p) (Rp A0 p) : sProp 𝕄) = mine A0 (s + 1) p c by
      unfold mine; rw [if_neg (by omega), show 6 - (s + 1) = 5 - s by omega]))
    iapply (blk_halves (k := 5 - s) (by omega) p c (Rp A0 p)).2
    isplitl [Hland]
    · iapply (Entails.of_eq (show landed A0 s p c = blk outM c (ot (5 - s) p c) (hg (5 - s) p) (Rp A0 p) by
        unfold landed; rw [if_neg (by omega), ot_eq (5 - s) (by omega)])) $$ Hland
    · iapply (Entails.of_eq (show lent A0 s p c = blk outM c (cu (5 - s + 1) p c) (hg (5 - s) p) (Rp A0 p) by
        unfold lent; rw [hg_wd (by omega), show 5 - s + 1 = 6 - s by omega])) $$ HK
  iexact Hg

set_option maxHeartbeats 1000000 in
/-- The gathering's copy is started. -/
theorem sendG (h3 : 3 ≤ s) (hs : s < 6) (hi : i = 3 * s + p.val) {n : ℕ} (hn : n = hg (5 - s) p)
    {off off' : Fin 2 → ℕ} {inb : ∀ a, off a + (Rows n).size a ≤ (Rows 1024).size a} {inb' : ∀ a, off' a + (Rows n).size a ≤ (Rows 1024).size a}
    {hu hu'} (h0 : off 0 = cu (5 - s + 1) p c) (h1 : off 1 = 0) (h0' : off' 0 = cu (5 - s + 1) p c) (h1' : off' 1 = 0)
    {t : Dev nD} (ht : t = mate (dm (5 - s) p) c) {sS sR : DmaSem sig} (hsS : sS = sendS p s) (hsR : sR = recvS p s)
    {hsc hsrc hdst hsem} (hN : (outM.slice (Rect.unit (s := Rows 1024) off' (Rows n).size inb') hu').view.dmaCredit = amt s p)
    {α : Type} {k : PUnit → Prog (TpuEff nD τ sig (Elt F) Λ₀ .tc) α} {Q : α → sProp 𝕄} :
    iprop(invs A0 K ∗ OW c i ∗ B A0 s p c)
      ⊢ iprop(((OW c (i + 1) ∗ G1 s p c) -∗ WP c (k ⟨⟩) Q)
        -∗ WP c (.op (.enqueueDma (outM.slice (Rect.unit (s := Rows 1024) off (Rows n).size inb) hu)
            (.remote (Dev.tc t) (outM.slice (Rect.unit (s := Rows 1024) off' (Rows n).size inb') hu') (.dma sS) hsc) (.dma sR) hsrc hdst hsem) k) Q) := by
  subst hsS hsR hn
  have hpe : peer s p c = t := by rw [ht]; unfold peer; rw [ks_ge h3]
  have hmt : mate (dm (5 - s) p) t = c := by rw [ht, mate_mate]
  unfold B loc ready OW
  rw [hpe]
  iintro ⟨#HI, ⟨%W, HO⟩, ⟨HS, HR, HT, HB, HL, HM⟩, HG, #Hre, -⟩ Hk
  ihave HT := (Entails.of_eq (tk_take (F := F) hs p c)) $$ HT
  unfold one
  icases HT with ⟨⟨HtR, HtS, HcR⟩, HT⟩
  ihave HM := (Entails.of_eq (show mine A0 s p c = blk outM c (cu (5 - s + 1) p c) (hg (5 - s) p) (Rp A0 p) by
    unfold mine; rw [if_neg (by omega), hg_wd (by omega), show 5 - s + 1 = 6 - s by omega])) $$ HM
  ihave HM := (Entails.of_eq (blk_slice outM c off inb hu h0 h1 (Rp A0 p))) $$ HM
  ihave HB := (Entails.of_eq (show (backs p c (bk s) : sProp 𝕄) = iprop(blkAny outM t (cu (5 - s + 1) p c) (hg (5 - s) p) ∗ backs p c (5 - s)) by
    unfold bk; rw [if_neg (by omega), show 6 - s = 5 - s + 1 by omega, ht]; rfl)) $$ HB
  icases HB with ⟨HD, HB⟩
  unfold blkAny
  icases HD with ⟨%g', HD⟩
  ihave HD := (Entails.of_eq (blk_slice outM t off' inb' hu' h0' h1' g')) $$ HD
  unfold posS
  icases HS with ⟨Ha0, Ha1, #Hr0, #Hr1⟩
  iapply (Rounds.wp_send_pointsTo_with 𝒱₀ ER (sched A0) (c : Thread nD τ) none (c' := (t : Thread nD τ))
      (sS := .dma (sendS p s)) (sem := .dma (recvS p s)) (q := fullShare) (F := give s p c)
      (fs := outM.view.rep (fill (Rp A0 p))) (fd := outM.view.rep (fill g')) (O₀ := owed i c)
      (κ₁ := K (sendCell c p s)) (κ₂ := K (recvCell t p s)) (r₁ := s / 2) (r₂ := s / 2) (d₁ := 0) (d₂ := 0)
      (by rw [duties_send A0 c p s hs]; exact Finset.mem_singleton_self _)
      (by rw [duties_recv A0 t p s hs]; exact Finset.mem_singleton_self _)
      (2 + s) 0 (amt s p) hN (amount_send A0 c p s 0) (amount_recv A0 t p s 0) (owed (i + 1) c)
      (by rw [owed_step (show i < 18 by have := p.isLt; omega), due_at hs hi, hpe]) (W := W)
      (by
        rw [payload_send]; unfold sendPay; rw [if_neg (by omega)]
        exact Entails.of_eq (blk_slice outM c off inb hu h0 h1 (Rp A0 p)).symm)
      (by
        rw [payload_recv]; unfold recvPay landed give
        rw [if_neg (show ¬ s < 3 by omega), hmt, hpe]
        iintro ⟨HD, HG⟩
        isplitl [HD]
        · iapply (Entails.of_eq (slice_write outM t off' inb' h0' h1' _ _ (Rp A0 p) fun x => ?_)) $$ HD
          exact congrFun (slice_read outM off inb h0 h1 (Rp A0 p)) x
        · iexact HG)) $$ [HM HD HG HO HtS HtR]
  · isplitr; · iapply (inv_send A0 K c p s); iexact HI
    isplitr; · iapply (inv_recv A0 K t p s); iexact HI
    isplitl [HM]; · iexact HM
    isplitl [HD HG]; · isplitl [HD] <;> iassumption
    isplitl [HO]; · iexact HO
    isplitl [HtS]; · iexact HtS
    isplitr; · iexact Hr0
    isplitl [HtR]; · iapply (Entails.of_eq (by rw [hpe])) $$ HtR
    iexact Hre
  iintro ⟨HcS, HO⟩
  iapply Hk
  isplitl [HO]; · iexists W; iexact HO
  unfold G1 posS sendC recvC
  isplitl [Ha0 Ha1]
  · isplitl [Ha0]; · iexact Ha0
    isplitl [Ha1]; · iexact Ha1
    isplitr; · iexact Hr0
    iexact Hr1
  isplitl [HR]; · iexact HR
  isplitl [HT]; · iexact HT
  isplitl [HB]; · iexact HB
  isplitl [HL]; · iexact HL
  isplitl [HcS]; · iexact HcS
  iexact HcR

/-- What arrived is added to the rows kept: the two loads, a load whose value is not used, the store. -/
theorem addH (hs : s < 3) {N n : ℕ} (cm : Memref sig .tc .vmem (Rows N) .f32)
    (hcm : ∀ c a n g, comm (F := F) p c a n g = blk cm c a n g) (hn : n = hg s p)
    {off off' : Fin 2 → ℕ} {inb : ∀ a, off a + (Rows n).size a ≤ (Rows 1024).size a} {inb' : ∀ a, off' a + (Rows n).size a ≤ (Rows N).size a}
    (h0 : off 0 = cu (s + 1) p c) (h1 : off 1 = 0) (h0' : off' 0 = slotOff s p) (h1' : off' 1 = 0)
    {pay : ((Rows n).Idx → Elt F .f32) → ((Rows n).Idx → Elt F .f32) → ((Rows n).Idx → Elt F .f32)}
    (hpay : ∀ x y j, pay x y j = FloatOps.addf (x j) (y j))
    {hl₁ hl₂ hl₃ hx hm}
    {α : Type} {k : PUnit → Prog (TpuEff nD τ sig (Elt F) Λ₀ .tc) α} {Q : α → sProp 𝕄} :
    iprop(H3 A0 s p c)
      ⊢ iprop((H4 A0 s p c -∗ WP c (k ⟨⟩) Q)
        -∗ WP c (.op (.load outM (Rect.unit (s := Rows 1024) off (Rows n).size inb).toLoadRect hl₁) fun x =>
          .op (.load cm (Rect.unit (s := Rows N) off' (Rows n).size inb').toLoadRect hl₂) fun y =>
          .op (.load outM (Rect.unit (s := Rows 1024) off (Rows n).size inb).toLoadRect hl₃) fun _ =>
          .op (.store outM (Rect.unit (s := Rows 1024) off (Rows n).size inb) (pay x y) Finset.univ hx hm) k) Q) := by
  subst hn
  have hmt := ot_eq s hs p c
  unfold H3 H4 kept
  rw [hcm]
  iintro ⟨HS, HR, HT, HB, Hl, HK, Hg, HC⟩ Hk
  ihave HK := (Entails.of_eq (show (blk outM c (cu (s + 1) p c) (hg s p) (A A0 s p c) : sProp 𝕄)
      = ((outM.access (Rect.unit (s := Rows 1024) off (Rows (hg s p)).size inb)).loc (c : Thread nD τ)
          ↦[(outM.access (Rect.unit (s := Rows 1024) off (Rows (hg s p)).size inb)).set]{fullShare} outM.view.rep (fill (A A0 s p c)))
      from blk_slice outM c off inb (fun _ => rfl) h0 h1 _)) $$ HK
  ihave HC := (Entails.of_eq (show (blk cm c (slotOff s p) (hg s p) _ : sProp 𝕄)
      = ((cm.access (Rect.unit (s := Rows N) off' (Rows (hg s p)).size inb')).loc (c : Thread nD τ)
          ↦[(cm.access (Rect.unit (s := Rows N) off' (Rows (hg s p)).size inb')).set]{fullShare}
            cm.view.rep (fill (fun r j => A A0 s p (mate (dm s p) c) (r - slotOff s p + cu (s + 1) p c) j)))
      from blk_slice cm c off' inb' (fun _ => rfl) h0' h1' _)) $$ HC
  iapply (wp_load_rect 𝒱₀ (c : Thread nD τ) none Set.univ (Finset.Subset.refl _)) $$ HK; iintro HK
  iapply (wp_load_rect 𝒱₀ (c : Thread nD τ) none Set.univ (Finset.Subset.refl _)) $$ HC; iintro HC
  iapply (wp_load_rect 𝒱₀ (c : Thread nD τ) none Set.univ (Finset.Subset.refl _)) $$ HK; iintro HK
  iapply (wp_store 𝒱₀ (c : Thread nD τ) none Set.univ (by rw [View.setOn_univ])) $$ HK; iintro HK
  iapply Hk
  isplitl [HS]; · iexact HS
  isplitl [HR]; · iexact HR
  isplitl [HT]; · iexact HT
  isplitl [HB]; · iexact HB
  isplitl [Hl]; · iexact Hl
  isplitl [HK]
  · iapply (Entails.of_eq (slice_write outM c off inb h0 h1 _ _ (A A0 (s + 1) p c) fun x => ?_)) $$ HK
    rw [hpay]
    refine congrArg₂ FloatOps.addf ((congrFun (slice_read outM off inb h0 h1 (A A0 s p c)) x).trans rfl)
      ((congrFun (slice_read cm off' inb' h0' h1' _) x).trans ?_)
    show A A0 s p (mate (dm s p) c) (slotOff s p + (x 0).val - slotOff s p + cu (s + 1) p c) (x 1).val = A A0 s p (mate (dm s p) c) (cu (s + 1) p c + (x 0).val) (x 1).val
    rw [Nat.add_sub_cancel_left, Nat.add_comm]
  isplitl [Hg]; · iexact Hg
  iapply (comm_any p c _ _ (fun r j => A A0 s p (mate (dm s p) c) (r - slotOff s p + cu (s + 1) p c) j))
  iapply (Entails.of_eq (show _ = comm p c (slotOff s p) (hg s p) (fun r j => A A0 s p (mate (dm s p) c) (r - slotOff s p + cu (s + 1) p c) j) by
    rw [hcm]; exact (blk_slice cm c off' inb' (fun _ => rfl) h0' h1' _).symm)) $$ HC

end Ops

end Cert.KernelIdeal.Cube

end
-- ==== Proof.Open.lean ====
module

public import proofs.«01_k».proof.Proof.Ops

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

/-! # The opening of the body: a signal to each of the three mates, and the wait for theirs -/

section Bar

variable (A0 : Dev nD → Tab F) (K : GSem nD τ sig → ℕ) (c : Dev nD)

/-- What is owed while `n` of the three signals are still to be sent. -/
def ob (c : Dev nD) : ℕ → CellTallies nD τ sig ℕ
  | 0 => owed 0 c
  | 1 => owed 0 c + tallyAt (barCell (mate 2 c)) 1 1
  | 2 => owed 0 c + tallyAt (barCell (mate 2 c)) 1 1 + tallyAt (barCell (mate 1 c)) 1 1
  | _ => owed 0 c + tallyAt (barCell (mate 2 c)) 1 1 + tallyAt (barCell (mate 1 c)) 1 1 + tallyAt (barCell (mate 0 c)) 1 1

theorem three (Φ : Fin 3 → sProp 𝕄) : bigSep Finset.univ Φ = iprop(Φ 0 ∗ Φ 1 ∗ Φ 2) :=
  bigSep_univ_eq_bigSepL [0, 1, 2] (by decide) (by decide) Φ

theorem ob_three : ob c 3 = O₀ c := by
  unfold O₀
  rw [Fin.sum_univ_three]
  show owed 0 c + tallyAt (barCell (mate 2 c)) 1 1 + tallyAt (barCell (mate 1 c)) 1 1 + tallyAt (barCell (mate 0 c)) 1 1
    = owed 0 c + (tallyAt (barCell (mate 0 c)) 1 1 + tallyAt (barCell (mate 1 c)) 1 1 + tallyAt (barCell (mate 2 c)) 1 1)
  ac_rfl

def OB (n : ℕ) : sProp 𝕄 := iprop(∃ W, owes (c : Thread nD τ) (ob c n) W)

/-- What the signal to the mate in dimension `d` takes. -/
def sg (d : Fin 3) : sProp 𝕄 :=
  iprop(dutyTok ER (barCell (mate d c)) 0 d ∗ reached ER (barCell (mate d c)) 0 ∗ ready 0 d (mate d c))

/-- The wait's own. -/
def bw : sProp 𝕄 := iprop(atPos ER (barCell c) 0 ∅ 0 ∗ cred (tallyAt (barCell c) 1 3))
def bd : sProp 𝕄 := iprop(atPos ER (barCell c) 1 ∅ 0 ∗ ready 0 0 c ∗ ready 0 1 c ∗ ready 0 2 c)

variable {α : Type}

theorem signal {m n : ℕ} (d : Fin 3) (hd : ob c m = ob c n + tallyAt (barCell (mate d c)) 1 1) {t : Dev nD} (ht : t = mate d c) {a : ℤ} (ha : a = 1)
    {k : PUnit → Prog (TpuEff nD τ sig (Elt F) Λ₀ .tc) α} {Q : α → sProp 𝕄} :
    iprop(invs A0 K ∗ OB c m ∗ sg c d)
      ⊢ iprop((OB c n -∗ WP c (k ⟨⟩) Q) -∗ WP c (.op (.semSignal (t, .tc) barS a) k) Q) := by
  subst ht ha
  unfold OB sg
  iintro ⟨#HI, ⟨%W, HO⟩, ⟨Ht, #Hr, HP⟩⟩ Hk
  iapply (Rounds.wp_signal 𝒱₀ ER (sched A0) (c : Thread nD τ) none (dst := (mate d c : Thread nD τ)) (sem := barS) (r := 0) (d := d)
      (κ := K (barCell (mate d c))) (by rw [duties_bar]; exact Finset.mem_univ _) (amount_bar A0 (mate d c) d) 1 (ob c n)
      hd) $$ [HO Ht HP]
  · isplitr; · iapply (inv_bar A0 K (mate d c)); iexact HI
    isplitl [HO]; · iexact HO
    isplitl [Ht]; · iexact Ht
    isplitl [HP]; · iapply (Entails.of_eq (payload_bar A0 (mate d c) d).symm) $$ HP
    iexact Hr
  iintro HO
  iapply Hk
  iexists _; iexact HO

theorem barrierWait {a : ℤ} (ha : a = 3) {k : PUnit → Prog (TpuEff nD τ sig (Elt F) Λ₀ .tc) α} {Q : α → sProp 𝕄} :
    iprop(invs A0 K ∗ levAts L lv ∗ OB c 0 ∗ bw c)
      ⊢ iprop(((OW c 0 ∗ bd c) -∗ WP c (k ⟨⟩) Q) -∗ WP c (.op (.semWait barS a) k) Q) := by
  subst ha
  unfold OB OW bw bd
  iintro ⟨#HI, #HL, ⟨%W, HO⟩, Ha, HC⟩ Hk
  iapply (Rounds.wp_wait_rest_token 𝒱₀ ER (sched A0) (c : Thread nD τ) none (κ := K (barCell c))
      (wpE_semWait_eq 𝒱₀ (c : Thread nD τ) none Set.univ) (Set.mem_univ _) 1 (O := owed 0 c) (W := W) (R := 0) (m := 0) (T := ∅)
      ((Nat.zero_add 3).trans (expect_bar A0 c).symm)) $$ [HC HO Ha]
  · isplitr; · iapply (inv_bar A0 K c); iexact HI
    isplitl [HC]; · iexact HC
    isplitl [HO]; · iexact HO
    isplitr; · iapply (mayWait c (.reg barS) 1 0 (by decide) (by decide)); iexact HL
    iexact Ha
  iintro ⟨HO, Ha, -, Hpay⟩
  ihave Hpay := (Entails.of_eq ((rest_bar A0 c).trans (three fun d => ready (F := F) 0 d c))) $$ Hpay
  iapply Hk
  isplitl [HO]; · iexists _; iexact HO
  isplitl [Ha]; · iexact Ha
  iexact Hpay

end Bar

section Parts

variable (A0 : Dev nD → Tab F) (K : GSem nD τ sig → ℕ) (c : Dev nD) {α : Type}
  {a0 : Memref sig .tc .vmem S1024x768 .f32} {w0 : a0.IsWhole} {a1 : Memref sig .tc .vmem S768x512 .f32} {w1 : a1.IsWhole}
  {a2 : Memref sig .tc .vmem S2x8x512x64 .f32} {w2 : a2.IsWhole} {a3 : Memref sig .tc .vmem S2x8x512x64 .f32} {w3 : a3.IsWhole}
  {a4 : Memref sig .tc .vmem S512x768 .f32} {w4 : a4.IsWhole} {a5 : Memref sig .tc .vmem S1024x768 .f32} {w5 : a5.IsWhole}
  {a6 : Memref sig .tc .vmem S1024x512 .f32} {w6 : a6.IsWhole} {a7 : Memref sig .tc .vmem S384x768 .f32} {w7 : a7.IsWhole}
  {a8 : Memref sig .tc .vmem S320x768 .f32} {w8 : a8.IsWhole} {a9 : Memref sig .tc .vmem S320x768 .f32} {w9 : a9.IsWhole}

theorem run1 {k : _ → Prog (TpuEff nD τ sig (Elt F) Λ₀ .tc) α} {Q : α → sProp 𝕄} (P : sProp 𝕄)
    (hk : ∀ u1 u2 u3 u4 u5 u6 u7, P ⊢ WP c (k ⟨c, u1, u2, u3, u4, u5, u6, u7⟩) Q) :
    P ⊢ WP c (k0_part1 a0 w0 a1 w1 a2 w2 a3 w3 a4 w4 a5 w5 a6 w6 a7 w7 a8 w8 a9 w9 cc0_scratch4 cc0_scratch5 >>= k) Q := by
  rw [k0_part1_eq_skeleton]; unfold k0_part1_skel
  simp only [Prog.lift, Prog.bind_op, Prog.bind_ret, Prog.pure_eq_ret, wp_deviceId]
  exact hk _ _ _ _ _ _ _

theorem run2 {k : _ → Prog (TpuEff nD τ sig (Elt F) Λ₀ .tc) α} {Q : α → sProp 𝕄} (R : sProp 𝕄) (v0 v1 v2 v3 : BitVec 32)
    (hk : ∀ u1 u2 u3, iprop(invs A0 K ∗ levAts L lv ∗ OB c 2 ∗ sg c 1 ∗ sg c 2 ∗ bw c ∗ R) ⊢ WP c (k ⟨u1, u2, u3, SemArray.scalar (sig.barrier 0 rfl)⟩) Q) :
    iprop(invs A0 K ∗ levAts L lv ∗ OB c 3 ∗ sg c 0 ∗ sg c 1 ∗ sg c 2 ∗ bw c ∗ R)
      ⊢ WP c (k0_part2 a0 w0 a1 w1 a2 w2 a3 w3 a4 w4 a5 w5 a6 w6 a7 w7 a8 w8 a9 w9 cc0_scratch4 cc0_scratch5 c v0 v1 v2 v3 >>= k) Q := by
  rw [k0_part2_eq_skeleton]; unfold k0_part2_skel
  simp only [semSignalWord, Prog.lift, Prog.bind_op, Prog.bind_ret, Prog.pure_eq_ret]
  iintro ⟨#HI, #HL, HO, S0, S1, S2, HW, HR⟩
  iapply (signal A0 K c (m := 3) (n := 2) 0 rfl (dev1 c) (by decide)) $$ [HO S0]
  · isplitr; · iexact HI
    isplitl [HO] <;> iassumption
  iintro HO
  iapply (hk _ _ _)
  isplitr; · iexact HI
  isplitr; · iexact HL
  isplitl [HO]; · iexact HO
  isplitl [S1]; · iexact S1
  isplitl [S2]; · iexact S2
  isplitl [HW]; · iexact HW
  iexact HR

theorem run3 {k : _ → Prog (TpuEff nD τ sig (Elt F) Λ₀ .tc) α} {Q : α → sProp 𝕄} (R : sProp 𝕄) (v0 : BitVec 32)
    (hk : iprop(invs A0 K ∗ levAts L lv ∗ OW c 0 ∗ bd c ∗ R)
      ⊢ WP c (k ⟨k0_pay1, iota .tc S512x512 32 [1] iota_S512x512_d1_w32, 64#32, k0_pay2, k0_pay3,
          Scalar.extui (Scalar.cmpi .sgt 64#32 0#32), Scalar.cmpi .slt 64#32 0#32⟩) Q) :
    iprop(invs A0 K ∗ levAts L lv ∗ OB c 2 ∗ sg c 1 ∗ sg c 2 ∗ bw c ∗ R)
      ⊢ WP c (k0_part3 a0 w0 a1 w1 a2 w2 a3 w3 a4 w4 a5 w5 a6 w6 a7 w7 a8 w8 a9 w9 cc0_scratch4 cc0_scratch5 c v0 (SemArray.scalar (sig.barrier 0 rfl)) >>= k) Q := by
  rw [k0_part3_eq_skeleton]; unfold k0_part3_skel
  simp only [semSignalWord, semWaitWord, Prog.lift, Prog.bind_op, Prog.bind_ret, Prog.pure_eq_ret]
  iintro ⟨#HI, #HL, HO, S1, S2, HW, HR⟩
  iapply (signal A0 K c (m := 2) (n := 1) 1 rfl (dev2 c) (by decide)) $$ [HO S1]
  · isplitr; · iexact HI
    isplitl [HO] <;> iassumption
  iintro HO
  iapply (signal A0 K c (m := 1) (n := 0) 2 rfl (dev3 c) (by decide)) $$ [HO S2]
  · isplitr; · iexact HI
    isplitl [HO] <;> iassumption
  iintro HO
  iapply (barrierWait A0 K c (by decide)) $$ [HO HW]
  · isplitr; · iexact HI
    isplitr; · iexact HL
    isplitl [HO] <;> iassumption
  iintro ⟨HO, HB⟩
  iapply hk
  isplitr; · iexact HI
  isplitr; · iexact HL
  isplitl [HO]; · iexact HO
  isplitl [HB]; · iexact HB
  iexact HR

end Parts

end Cert.KernelIdeal.Cube

end
-- ==== Proof.Heads.lean ====
module

public import proofs.«01_k».proof.Proof.Open

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

/-! # The attention heads: sixteen tiles of the context buffer, each stored once -/

abbrev xM : Memref sig .tc .vmem S1024x768 .f32 := Memref.whole cc0_stg0_0
abbrev wM : Memref sig .tc .vmem S768x512 .f32 := Memref.whole cc0_stg1_0
abbrev kM : Memref sig .tc .vmem S2x8x512x64 .f32 := Memref.whole cc0_stg2_0
abbrev vM : Memref sig .tc .vmem S2x8x512x64 .f32 := Memref.whole cc0_stg3_0
abbrev oM : Memref sig .tc .vmem S512x768 .f32 := Memref.whole cc0_stg4_0
abbrev ctxM : Memref sig .tc .vmem S1024x512 .f32 := Memref.whole cc0_scratch0

/-- The block-causal mask, as the body computes it. -/
def maskV : IVec S512x512 1 :=
  k0_pay4 k0_pay1 (iota .tc S512x512 32 [1] iota_S512x512_d1_w32) 64#32 k0_pay2 k0_pay3
    (Scalar.extui (Scalar.cmpi .sgt 64#32 0#32)) (Scalar.cmpi .slt 64#32 0#32)

/-- One head: `M` the mask, the queries the tile of `Q` at `o`, keys `k`, values `v`. -/
def headAt (o : Fin 2 → ℕ) (ho : S1024x512.Slices o S512x64) (M : IVec S512x512 1) (Q : FVec F S1024x512 .f32) (k v : Vec F S1x1x512x64 .f32) :
    FVec F S512x64 .f32 :=
  k0_pay10 (select M (mulf (matmul dot_S512x64_S512x64_S512x512_1_1_0_0_n_n none (extractStridedSlice S512x64 o Q ho)
      (shapeCast S512x64 k shapeCasts_S1x1x512x64_S512x64) (constant S512x512 .f32 0x00000000#32))
    (broadcast S512x512 (Scalar.ofBits .f32 0x3E000000#32))) (broadcast S512x512 (Scalar.ofBits .f32 0xCE6E6B28#32))) v

abbrev tileO (t : ℕ) : Fin 2 → ℕ := ![512 * (t / 8), 64 * (t % 8)]
theorem tile_slices : ∀ t : Fin 16, S1024x512.Slices (tileO t.val) S512x64 := by decide
theorem tile_inb : ∀ t : Fin 16, ∀ a, (tileO t.val) a + S512x64.size a ≤ S1024x512.size a := by decide
theorem key_inb : ∀ t : Fin 16, ∀ a, (![t.val / 8, t.val % 8, 0, 0] : Fin 4 → ℕ) a + S1x1x512x64.size a ≤ S2x8x512x64.size a := by decide

/-- The keys (or values) of tile `t`: batch `t / 8`, head `t % 8`. -/
def keyT (f : S2x8x512x64.Idx → Elt F .f32) (t : Fin 16) : Vec F S1x1x512x64 .f32 :=
  fun x => f ((Rect.unit (s := S2x8x512x64) ![t.val / 8, t.val % 8, 0, 0] S1x1x512x64.size (key_inb t)).emb x)

section Values

variable (fx : S1024x768.Idx → Elt F .f32) (fw : S768x512.Idx → Elt F .f32) (fk fv : S2x8x512x64.Idx → Elt F .f32)

def headT (t : Fin 16) : FVec F S512x64 .f32 := headAt (tileO t.val) (tile_slices t) maskV (k0_pay5 fx fw) (keyT fk t) (keyT fv t)

def tileNo (i : S1024x512.Idx) : ℕ := (i 0).val / 512 * 8 + (i 1).val / 64
theorem tileNo_lt (i : S1024x512.Idx) : tileNo i < 16 := by
  have h0 : (i 0).val < 1024 := (i 0).isLt
  have h1 : (i 1).val < 512 := (i 1).isLt
  unfold tileNo; omega

def inTile (i : S1024x512.Idx) : S512x64.Idx := fun a => match a with
  | ⟨0, _⟩ => ⟨(i 0).val % 512, Nat.mod_lt _ (by decide)⟩
  | ⟨1, _⟩ => ⟨(i 1).val % 64, Nat.mod_lt _ (by decide)⟩

/-- The whole context: each place from the head of its tile. -/
def ctxV : S1024x512.Idx → Elt F .f32 := fun i => headT fx fw fk fv ⟨tileNo i, tileNo_lt i⟩ (inTile i)

/-- The context buffer with the first `n` tiles stored. -/
def ctxIs (c : Dev nD) (n : ℕ) : sProp 𝕄 :=
  iprop(∃ f : S1024x512.Idx → Elt F .f32, ⌜∀ i, tileNo i < n → f i = ctxV fx fw fk fv i⌝ ∗ (ctxM.view.loc (c : Thread nD τ) ↦{fullShare} f))

end Values

section Ops

variable (fx : S1024x768.Idx → Elt F .f32) (fw : S768x512.Idx → Elt F .f32) (fk fv : S2x8x512x64.Idx → Elt F .f32) (c : Dev nD) {α : Type}

theorem store_at (t : Fin 16) {off : Fin 2 → ℕ} {inb : ∀ a, off a + S512x64.size a ≤ S1024x512.size a}
    (h0 : off 0 = 512 * (t.val / 8)) (h1 : off 1 = 64 * (t.val % 8)) {w : S512x64.Idx → Elt F .f32} (hw : w = headT fx fw fk fv t)
    (f : S1024x512.Idx → Elt F .f32) (hf : ∀ i, tileNo i < t.val → f i = ctxV fx fw fk fv i) (i : S1024x512.Idx) (hi : tileNo i < t.val + 1) :
    (ctxM.access (Rect.unit (s := S1024x512) off S512x64.size inb)).write (Elt F) f w Finset.univ i = ctxV fx fw fk fv i := by
  have hi0 : (i 0).val < 1024 := (i 0).isLt
  have hi1 : (i 1).val < 512 := (i 1).isLt
  have ht := t.isLt
  by_cases h : tileNo i = t.val
  · have he : (Rect.unit (s := S1024x512) off S512x64.size inb).emb (inTile i) = i := by
      unfold tileNo at h
      funext a
      refine Fin.ext ((Rect.emb_apply _ _ _).trans ?_)
      match a with
      | ⟨0, _⟩ => show off 0 + 1 * ((i 0).val % 512) = (i 0).val; omega
      | ⟨1, _⟩ => show off 1 + 1 * ((i 1).val % 64) = (i 1).val; omega
    have hwr := View.write_emb_of_mem (v := ctxM.access (Rect.unit (s := S1024x512) off S512x64.size inb)) (Val := Elt F) f w
      (Finset.mem_univ (inTile i))
    have hidx : (ctxM.access (Rect.unit (s := S1024x512) off S512x64.size inb)).emb (inTile i) = i := he
    rw [hidx] at hwr
    refine hwr.trans ?_
    rw [hw]
    show headT fx fw fk fv t (inTile i) = headT fx fw fk fv ⟨tileNo i, tileNo_lt i⟩ (inTile i)
    exact congrArg (fun u => headT fx fw fk fv u (inTile i)) (Fin.ext h.symm)
  · rw [View.write_of_not_mem]
    · exact hf i (by omega)
    · intro hm
      obtain ⟨x, -, hx⟩ := Finset.mem_map.mp hm
      apply h
      have e0 : (i 0).val = off 0 + 1 * (x 0).val := (congrArg (fun j : S1024x512.Idx => (j 0).val) hx.symm).trans (Rect.emb_apply _ _ _)
      have e1 : (i 1).val = off 1 + 1 * (x 1).val := (congrArg (fun j : S1024x512.Idx => (j 1).val) hx.symm).trans (Rect.emb_apply _ _ _)
      have x0 : (x 0).val < 512 := (x 0).isLt
      have x1 : (x 1).val < 64 := (x 1).isLt
      unfold tileNo; omega

/-- A tile is stored. -/
theorem storeTile (n : ℕ) (t : Fin 16) (hn : n = t.val) {off : Fin 2 → ℕ} {inb : ∀ a, off a + S512x64.size a ≤ S1024x512.size a}
    (h0 : off 0 = 512 * (t.val / 8)) (h1 : off 1 = 64 * (t.val % 8)) {w : S512x64.Idx → Elt F .f32} (hw : w = headT fx fw fk fv t) {hx hm}
    {k : PUnit → Prog (TpuEff nD τ sig (Elt F) Λ₀ .tc) α} {Q : α → sProp 𝕄} :
    ctxIs fx fw fk fv c n
      ⊢ iprop((ctxIs fx fw fk fv c (n + 1) -∗ WP c (k ⟨⟩) Q)
        -∗ WP c (.op (.store ctxM (Rect.unit (s := S1024x512) off S512x64.size inb) w Finset.univ hx hm) k) Q) := by
  subst hn
  unfold ctxIs
  iintro ⟨%f, %hf, Hc⟩ Hk
  iapply (wp_store 𝒱₀ (c : Thread nD τ) none Set.univ (m := ctxM) (r := Rect.unit (s := S1024x512) off S512x64.size inb) (S := Finset.univ)
    (Finset.subset_univ _)) $$ Hc
  iintro Hc
  iapply Hk
  iexists (ctxM.access (Rect.unit (s := S1024x512) off S512x64.size inb)).write (Elt F) f w Finset.univ
  isplitr
  · ipureintro
    exact fun i hi => store_at fx fw fk fv t h0 h1 hw f hf i hi
  · iexact Hc

theorem loadTile (n : ℕ) {r : LoadRect S1024x512} {hl} {k : _ → Prog (TpuEff nD τ sig (Elt F) Λ₀ .tc) α} {Q : α → sProp 𝕄} :
    ctxIs fx fw fk fv c n
      ⊢ iprop((∀ x, ctxIs fx fw fk fv c n -∗ WP c (k x) Q) -∗ WP c (.op (.load ctxM r hl) k) Q) := by
  unfold ctxIs
  iintro ⟨%f, %hf, Hc⟩ Hk
  iapply (wp_load 𝒱₀ (c : Thread nD τ) none Set.univ (m := ctxM) (r := r) (S := Finset.univ) (Finset.subset_univ _)) $$ Hc
  iintro Hc
  iapply Hk
  iexists f
  isplitr
  · ipureintro; exact hf
  · iexact Hc

/-- A tile of the keys is loaded. -/
theorem loadKey (m : Memref sig .tc .vmem S2x8x512x64 .f32) (f : Buf (Elt F) (m.view.loc (c : Thread nD τ))) (t : Fin 16) {off : Fin 4 → ℕ}
    {inb : ∀ a, off a + S1x1x512x64.size a ≤ S2x8x512x64.size a} (ho : off = ![t.val / 8, t.val % 8, 0, 0]) {hl}
    {k : _ → Prog (TpuEff nD τ sig (Elt F) Λ₀ .tc) α} {Q : α → sProp 𝕄} :
    (m.view.loc (c : Thread nD τ) ↦{fullShare} f)
      ⊢ iprop(((m.view.loc (c : Thread nD τ) ↦{fullShare} f) -∗ WP c (k (keyT (m.view.read (Elt F) f) t)) Q)
        -∗ WP c (.op (.load m (Rect.unit (s := S2x8x512x64) off S1x1x512x64.size inb).toLoadRect hl) k) Q) := by
  subst ho
  exact wp_load_rect 𝒱₀ (c : Thread nD τ) none Set.univ (m := m) (r := Rect.unit (s := S2x8x512x64) _ S1x1x512x64.size inb) (S := Finset.univ)
    (Finset.subset_univ _)

/-- A whole buffer is loaded. -/
theorem loadAll {s : Shape} {e : EltTy} (m : Memref sig .tc .vmem s e) (f : Buf (Elt F) (m.view.loc (c : Thread nD τ))) {off : Fin s.rank → ℕ}
    {inb : ∀ a, off a + s.size a ≤ s.size a} (ho : ∀ a, off a = 0) {hl}
    {k : _ → Prog (TpuEff nD τ sig (Elt F) Λ₀ .tc) α} {Q : α → sProp 𝕄} :
    (m.view.loc (c : Thread nD τ) ↦{fullShare} f)
      ⊢ iprop(((m.view.loc (c : Thread nD τ) ↦{fullShare} f) -∗ WP c (k (m.view.read (Elt F) f)) Q)
        -∗ WP c (.op (.load m (Rect.unit (s := s) off s.size inb).toLoadRect hl) k) Q) := by
  have he : (m.access (Rect.unit (s := s) off s.size inb)).read (Elt F) f = m.view.read (Elt F) f := by
    funext x
    refine congrArg (m.view.read (Elt F) f) (show (Rect.unit (s := s) off s.size inb).emb x = x from ?_)
    funext a
    refine Fin.ext ((Rect.emb_apply _ _ _).trans ?_)
    show off a + 1 * (x a).val = (x a).val
    rw [ho a]; omega
  rw [← he]
  exact wp_load_rect 𝒱₀ (c : Thread nD τ) none Set.univ (m := m) (r := Rect.unit (s := s) off s.size inb) (S := Finset.univ) (Finset.subset_univ _)

end Ops

end Cert.KernelIdeal.Cube

end
-- ==== Proof.HeadRun.lean ====
module

public import proofs.«01_k».proof.Proof.Heads

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

/-! # The attention phase, part by part -/

section Parts

variable (c : Dev nD) {α : Type}
  (fx : S1024x768.Idx → Elt F .f32) (fw : S768x512.Idx → Elt F .f32) (fk fv : S2x8x512x64.Idx → Elt F .f32)
  {w0 : (xM : Memref sig .tc .vmem S1024x768 .f32).IsWhole} {w1 : (wM : Memref sig .tc .vmem S768x512 .f32).IsWhole}
  {w2 : (kM : Memref sig .tc .vmem S2x8x512x64 .f32).IsWhole} {w3 : (vM : Memref sig .tc .vmem S2x8x512x64 .f32).IsWhole}
  {w4 : (oM : Memref sig .tc .vmem S512x768 .f32).IsWhole} {a5 : Memref sig .tc .vmem S1024x768 .f32} {w5 : a5.IsWhole}
  {w6 : (ctxM : Memref sig .tc .vmem S1024x512 .f32).IsWhole} {a7 : Memref sig .tc .vmem S384x768 .f32} {w7 : a7.IsWhole}
  {a8 : Memref sig .tc .vmem S320x768 .f32} {w8 : a8.IsWhole} {a9 : Memref sig .tc .vmem S320x768 .f32} {w9 : a9.IsWhole}

/-- The first four operands' buffers. -/
def ins : sProp 𝕄 :=
  iprop((xM.view.loc (c : Thread nD τ) ↦{fullShare} fx) ∗ (wM.view.loc (c : Thread nD τ) ↦{fullShare} fw)
    ∗ (kM.view.loc (c : Thread nD τ) ↦{fullShare} fk) ∗ (vM.view.loc (c : Thread nD τ) ↦{fullShare} fv))

theorem run4 {k : _ → Prog (TpuEff nD τ sig (Elt F) Λ₀ .tc) α} {Q : α → sProp 𝕄} (R : sProp 𝕄)
    (hk : iprop(ins c fx fw fk fv ∗ ctxIs fx fw fk fv c 0 ∗ R) ⊢ WP c (k ⟨maskV, (k0_pay5 fx fw), (k0_pay6 k0_pay1 (iota .tc S512x512 32 [1] iota_S512x512_d1_w32) 64#32 k0_pay2 k0_pay3 (Scalar.extui (Scalar.cmpi .sgt 64#32 0#32)) (Scalar.cmpi .slt 64#32 0#32) fx fw (keyT fk 0) (keyT fv 0))⟩) Q) :
    iprop(ins c fx fw fk fv ∗ ctxIs fx fw fk fv c 0 ∗ R)
      ⊢ WP c (k0_part4 xM w0 wM w1 kM w2 vM w3 oM w4 a5 w5 ctxM w6 a7 w7 a8 w8 a9 w9 cc0_scratch4 cc0_scratch5 k0_pay1 (iota .tc S512x512 32 [1] iota_S512x512_d1_w32) 64#32 k0_pay2 k0_pay3 (Scalar.extui (Scalar.cmpi .sgt 64#32 0#32)) (Scalar.cmpi .slt 64#32 0#32) >>= k) Q := by
  rw [k0_part4_eq_skeleton]; unfold k0_part4_skel ins at *
  simp only [Prog.lift, Prog.bind_op, Prog.bind_ret, Prog.pure_eq_ret]
  iintro ⟨⟨HX, HW, HK, HV⟩, HC, HR⟩
  iapply (loadAll c xM fx (by decide)) $$ HX; iintro HX
  iapply (loadAll c wM fw (by decide)) $$ HW; iintro HW
  iapply (loadKey c kM fk 0 rfl) $$ HK; iintro HK
  iapply (loadKey c vM fv 0 rfl) $$ HV; iintro HV
  iapply hk
  isplitl [HX HW HK HV]
  · isplitl [HX]; · iexact HX
    isplitl [HW]; · iexact HW
    isplitl [HK]; · iexact HK
    iexact HV
  isplitl [HC]; · iexact HC
  iexact HR

theorem run5 {k : _ → Prog (TpuEff nD τ sig (Elt F) Λ₀ .tc) α} {Q : α → sProp 𝕄} (R : sProp 𝕄)
    (hk : iprop(ins c fx fw fk fv ∗ ctxIs fx fw fk fv c 2 ∗ R) ⊢ WP c (k (k0_pay9 maskV (k0_pay5 fx fw) (keyT fk 2))) Q) :
    iprop(ins c fx fw fk fv ∗ ctxIs fx fw fk fv c 0 ∗ R)
      ⊢ WP c (k0_part5 xM w0 wM w1 kM w2 vM w3 oM w4 a5 w5 ctxM w6 a7 w7 a8 w8 a9 w9 cc0_scratch4 cc0_scratch5 maskV (k0_pay5 fx fw) (k0_pay6 k0_pay1 (iota .tc S512x512 32 [1] iota_S512x512_d1_w32) 64#32 k0_pay2 k0_pay3 (Scalar.extui (Scalar.cmpi .sgt 64#32 0#32)) (Scalar.cmpi .slt 64#32 0#32) fx fw (keyT fk 0) (keyT fv 0)) >>= k) Q := by
  rw [k0_part5_eq_skeleton]; unfold k0_part5_skel ins at *
  simp only [Prog.lift, Prog.bind_op, Prog.bind_ret, Prog.pure_eq_ret]
  iintro ⟨⟨HX, HW, HK, HV⟩, HC, HR⟩
  iapply (loadTile fx fw fk fv c 0) $$ HC; iintro %_ HC
  iapply (storeTile fx fw fk fv c 0 0 rfl rfl rfl rfl) $$ HC; iintro HC
  iapply (loadKey c kM fk 1 rfl) $$ HK; iintro HK
  iapply (loadKey c vM fv 1 rfl) $$ HV; iintro HV
  iapply (loadTile fx fw fk fv c 1) $$ HC; iintro %_ HC
  iapply (storeTile fx fw fk fv c 1 1 rfl rfl rfl rfl) $$ HC; iintro HC
  iapply (loadKey c kM fk 2 rfl) $$ HK; iintro HK
  iapply hk
  isplitl [HX HW HK HV]
  · isplitl [HX]; · iexact HX
    isplitl [HW]; · iexact HW
    isplitl [HK]; · iexact HK
    iexact HV
  isplitl [HC]; · iexact HC
  iexact HR

theorem run6 {k : _ → Prog (TpuEff nD τ sig (Elt F) Λ₀ .tc) α} {Q : α → sProp 𝕄} (R : sProp 𝕄)
    (hk : iprop(ins c fx fw fk fv ∗ ctxIs fx fw fk fv c 3 ∗ R) ⊢ WP c (k (k0_pay11 maskV (k0_pay5 fx fw) (keyT fk 3) (keyT fv 3))) Q) :
    iprop(ins c fx fw fk fv ∗ ctxIs fx fw fk fv c 2 ∗ R)
      ⊢ WP c (k0_part6 xM w0 wM w1 kM w2 vM w3 oM w4 a5 w5 ctxM w6 a7 w7 a8 w8 a9 w9 cc0_scratch4 cc0_scratch5 maskV (k0_pay5 fx fw) (k0_pay9 maskV (k0_pay5 fx fw) (keyT fk 2)) >>= k) Q := by
  rw [k0_part6_eq_skeleton]; unfold k0_part6_skel ins at *
  simp only [Prog.lift, Prog.bind_op, Prog.bind_ret, Prog.pure_eq_ret]
  iintro ⟨⟨HX, HW, HK, HV⟩, HC, HR⟩
  iapply (loadKey c vM fv 2 rfl) $$ HV; iintro HV
  iapply (loadTile fx fw fk fv c 2) $$ HC; iintro %_ HC
  iapply (storeTile fx fw fk fv c 2 2 rfl rfl rfl rfl) $$ HC; iintro HC
  iapply (loadKey c kM fk 3 rfl) $$ HK; iintro HK
  iapply (loadKey c vM fv 3 rfl) $$ HV; iintro HV
  iapply hk
  isplitl [HX HW HK HV]
  · isplitl [HX]; · iexact HX
    isplitl [HW]; · iexact HW
    isplitl [HK]; · iexact HK
    iexact HV
  isplitl [HC]; · iexact HC
  iexact HR

theorem run7 {k : _ → Prog (TpuEff nD τ sig (Elt F) Λ₀ .tc) α} {Q : α → sProp 𝕄} (R : sProp 𝕄)
    (hk : iprop(ins c fx fw fk fv ∗ ctxIs fx fw fk fv c 5 ∗ R) ⊢ WP c (k (k0_pay14 maskV (k0_pay5 fx fw) (keyT fk 5))) Q) :
    iprop(ins c fx fw fk fv ∗ ctxIs fx fw fk fv c 3 ∗ R)
      ⊢ WP c (k0_part7 xM w0 wM w1 kM w2 vM w3 oM w4 a5 w5 ctxM w6 a7 w7 a8 w8 a9 w9 cc0_scratch4 cc0_scratch5 maskV (k0_pay5 fx fw) (k0_pay11 maskV (k0_pay5 fx fw) (keyT fk 3) (keyT fv 3)) >>= k) Q := by
  rw [k0_part7_eq_skeleton]; unfold k0_part7_skel ins at *
  simp only [Prog.lift, Prog.bind_op, Prog.bind_ret, Prog.pure_eq_ret]
  iintro ⟨⟨HX, HW, HK, HV⟩, HC, HR⟩
  iapply (loadTile fx fw fk fv c 3) $$ HC; iintro %_ HC
  iapply (storeTile fx fw fk fv c 3 3 rfl rfl rfl rfl) $$ HC; iintro HC
  iapply (loadKey c kM fk 4 rfl) $$ HK; iintro HK
  iapply (loadKey c vM fv 4 rfl) $$ HV; iintro HV
  iapply (loadTile fx fw fk fv c 4) $$ HC; iintro %_ HC
  iapply (storeTile fx fw fk fv c 4 4 rfl rfl rfl rfl) $$ HC; iintro HC
  iapply (loadKey c kM fk 5 rfl) $$ HK; iintro HK
  iapply hk
  isplitl [HX HW HK HV]
  · isplitl [HX]; · iexact HX
    isplitl [HW]; · iexact HW
    isplitl [HK]; · iexact HK
    iexact HV
  isplitl [HC]; · iexact HC
  iexact HR

theorem run8 {k : _ → Prog (TpuEff nD τ sig (Elt F) Λ₀ .tc) α} {Q : α → sProp 𝕄} (R : sProp 𝕄)
    (hk : iprop(ins c fx fw fk fv ∗ ctxIs fx fw fk fv c 6 ∗ R) ⊢ WP c (k (k0_pay16 maskV (k0_pay5 fx fw) (keyT fk 6) (keyT fv 6))) Q) :
    iprop(ins c fx fw fk fv ∗ ctxIs fx fw fk fv c 5 ∗ R)
      ⊢ WP c (k0_part8 xM w0 wM w1 kM w2 vM w3 oM w4 a5 w5 ctxM w6 a7 w7 a8 w8 a9 w9 cc0_scratch4 cc0_scratch5 maskV (k0_pay5 fx fw) (k0_pay14 maskV (k0_pay5 fx fw) (keyT fk 5)) >>= k) Q := by
  rw [k0_part8_eq_skeleton]; unfold k0_part8_skel ins at *
  simp only [Prog.lift, Prog.bind_op, Prog.bind_ret, Prog.pure_eq_ret]
  iintro ⟨⟨HX, HW, HK, HV⟩, HC, HR⟩
  iapply (loadKey c vM fv 5 rfl) $$ HV; iintro HV
  iapply (loadTile fx fw fk fv c 5) $$ HC; iintro %_ HC
  iapply (storeTile fx fw fk fv c 5 5 rfl rfl rfl rfl) $$ HC; iintro HC
  iapply (loadKey c kM fk 6 rfl) $$ HK; iintro HK
  iapply (loadKey c vM fv 6 rfl) $$ HV; iintro HV
  iapply hk
  isplitl [HX HW HK HV]
  · isplitl [HX]; · iexact HX
    isplitl [HW]; · iexact HW
    isplitl [HK]; · iexact HK
    iexact HV
  isplitl [HC]; · iexact HC
  iexact HR

theorem run9 {k : _ → Prog (TpuEff nD τ sig (Elt F) Λ₀ .tc) α} {Q : α → sProp 𝕄} (R : sProp 𝕄)
    (hk : iprop(ins c fx fw fk fv ∗ ctxIs fx fw fk fv c 8 ∗ R) ⊢ WP c (k (k0_pay19 maskV (k0_pay5 fx fw) (keyT fk 8))) Q) :
    iprop(ins c fx fw fk fv ∗ ctxIs fx fw fk fv c 6 ∗ R)
      ⊢ WP c (k0_part9 xM w0 wM w1 kM w2 vM w3 oM w4 a5 w5 ctxM w6 a7 w7 a8 w8 a9 w9 cc0_scratch4 cc0_scratch5 maskV (k0_pay5 fx fw) (k0_pay16 maskV (k0_pay5 fx fw) (keyT fk 6) (keyT fv 6)) >>= k) Q := by
  rw [k0_part9_eq_skeleton]; unfold k0_part9_skel ins at *
  simp only [Prog.lift, Prog.bind_op, Prog.bind_ret, Prog.pure_eq_ret]
  iintro ⟨⟨HX, HW, HK, HV⟩, HC, HR⟩
  iapply (loadTile fx fw fk fv c 6) $$ HC; iintro %_ HC
  iapply (storeTile fx fw fk fv c 6 6 rfl rfl rfl rfl) $$ HC; iintro HC
  iapply (loadKey c kM fk 7 rfl) $$ HK; iintro HK
  iapply (loadKey c vM fv 7 rfl) $$ HV; iintro HV
  iapply (loadTile fx fw fk fv c 7) $$ HC; iintro %_ HC
  iapply (storeTile fx fw fk fv c 7 7 rfl rfl rfl rfl) $$ HC; iintro HC
  iapply (loadKey c kM fk 8 rfl) $$ HK; iintro HK
  iapply hk
  isplitl [HX HW HK HV]
  · isplitl [HX]; · iexact HX
    isplitl [HW]; · iexact HW
    isplitl [HK]; · iexact HK
    iexact HV
  isplitl [HC]; · iexact HC
  iexact HR

theorem run10 {k : _ → Prog (TpuEff nD τ sig (Elt F) Λ₀ .tc) α} {Q : α → sProp 𝕄} (R : sProp 𝕄)
    (hk : iprop(ins c fx fw fk fv ∗ ctxIs fx fw fk fv c 9 ∗ R) ⊢ WP c (k (k0_pay21 maskV (k0_pay5 fx fw) (keyT fk 9) (keyT fv 9))) Q) :
    iprop(ins c fx fw fk fv ∗ ctxIs fx fw fk fv c 8 ∗ R)
      ⊢ WP c (k0_part10 xM w0 wM w1 kM w2 vM w3 oM w4 a5 w5 ctxM w6 a7 w7 a8 w8 a9 w9 cc0_scratch4 cc0_scratch5 maskV (k0_pay5 fx fw) (k0_pay19 maskV (k0_pay5 fx fw) (keyT fk 8)) >>= k) Q := by
  rw [k0_part10_eq_skeleton]; unfold k0_part10_skel ins at *
  simp only [Prog.lift, Prog.bind_op, Prog.bind_ret, Prog.pure_eq_ret]
  iintro ⟨⟨HX, HW, HK, HV⟩, HC, HR⟩
  iapply (loadKey c vM fv 8 rfl) $$ HV; iintro HV
  iapply (loadTile fx fw fk fv c 8) $$ HC; iintro %_ HC
  iapply (storeTile fx fw fk fv c 8 8 rfl rfl rfl rfl) $$ HC; iintro HC
  iapply (loadKey c kM fk 9 rfl) $$ HK; iintro HK
  iapply (loadKey c vM fv 9 rfl) $$ HV; iintro HV
  iapply hk
  isplitl [HX HW HK HV]
  · isplitl [HX]; · iexact HX
    isplitl [HW]; · iexact HW
    isplitl [HK]; · iexact HK
    iexact HV
  isplitl [HC]; · iexact HC
  iexact HR

theorem run11 {k : _ → Prog (TpuEff nD τ sig (Elt F) Λ₀ .tc) α} {Q : α → sProp 𝕄} (R : sProp 𝕄)
    (hk : iprop(ins c fx fw fk fv ∗ ctxIs fx fw fk fv c 11 ∗ R) ⊢ WP c (k (k0_pay24 maskV (k0_pay5 fx fw) (keyT fk 11))) Q) :
    iprop(ins c fx fw fk fv ∗ ctxIs fx fw fk fv c 9 ∗ R)
      ⊢ WP c (k0_part11 xM w0 wM w1 kM w2 vM w3 oM w4 a5 w5 ctxM w6 a7 w7 a8 w8 a9 w9 cc0_scratch4 cc0_scratch5 maskV (k0_pay5 fx fw) (k0_pay21 maskV (k0_pay5 fx fw) (keyT fk 9) (keyT fv 9)) >>= k) Q := by
  rw [k0_part11_eq_skeleton]; unfold k0_part11_skel ins at *
  simp only [Prog.lift, Prog.bind_op, Prog.bind_ret, Prog.pure_eq_ret]
  iintro ⟨⟨HX, HW, HK, HV⟩, HC, HR⟩
  iapply (loadTile fx fw fk fv c 9) $$ HC; iintro %_ HC
  iapply (storeTile fx fw fk fv c 9 9 rfl rfl rfl rfl) $$ HC; iintro HC
  iapply (loadKey c kM fk 10 rfl) $$ HK; iintro HK
  iapply (loadKey c vM fv 10 rfl) $$ HV; iintro HV
  iapply (loadTile fx fw fk fv c 10) $$ HC; iintro %_ HC
  iapply (storeTile fx fw fk fv c 10 10 rfl rfl rfl rfl) $$ HC; iintro HC
  iapply (loadKey c kM fk 11 rfl) $$ HK; iintro HK
  iapply hk
  isplitl [HX HW HK HV]
  · isplitl [HX]; · iexact HX
    isplitl [HW]; · iexact HW
    isplitl [HK]; · iexact HK
    iexact HV
  isplitl [HC]; · iexact HC
  iexact HR

theorem run12 {k : _ → Prog (TpuEff nD τ sig (Elt F) Λ₀ .tc) α} {Q : α → sProp 𝕄} (R : sProp 𝕄)
    (hk : iprop(ins c fx fw fk fv ∗ ctxIs fx fw fk fv c 12 ∗ R) ⊢ WP c (k (k0_pay26 maskV (k0_pay5 fx fw) (keyT fk 12) (keyT fv 12))) Q) :
    iprop(ins c fx fw fk fv ∗ ctxIs fx fw fk fv c 11 ∗ R)
      ⊢ WP c (k0_part12 xM w0 wM w1 kM w2 vM w3 oM w4 a5 w5 ctxM w6 a7 w7 a8 w8 a9 w9 cc0_scratch4 cc0_scratch5 maskV (k0_pay5 fx fw) (k0_pay24 maskV (k0_pay5 fx fw) (keyT fk 11)) >>= k) Q := by
  rw [k0_part12_eq_skeleton]; unfold k0_part12_skel ins at *
  simp only [Prog.lift, Prog.bind_op, Prog.bind_ret, Prog.pure_eq_ret]
  iintro ⟨⟨HX, HW, HK, HV⟩, HC, HR⟩
  iapply (loadKey c vM fv 11 rfl) $$ HV; iintro HV
  iapply (loadTile fx fw fk fv c 11) $$ HC; iintro %_ HC
  iapply (storeTile fx fw fk fv c 11 11 rfl rfl rfl rfl) $$ HC; iintro HC
  iapply (loadKey c kM fk 12 rfl) $$ HK; iintro HK
  iapply (loadKey c vM fv 12 rfl) $$ HV; iintro HV
  iapply hk
  isplitl [HX HW HK HV]
  · isplitl [HX]; · iexact HX
    isplitl [HW]; · iexact HW
    isplitl [HK]; · iexact HK
    iexact HV
  isplitl [HC]; · iexact HC
  iexact HR

theorem run13 {k : _ → Prog (TpuEff nD τ sig (Elt F) Λ₀ .tc) α} {Q : α → sProp 𝕄} (R : sProp 𝕄)
    (hk : iprop(ins c fx fw fk fv ∗ ctxIs fx fw fk fv c 14 ∗ R) ⊢ WP c (k (k0_pay29 maskV (k0_pay5 fx fw) (keyT fk 14))) Q) :
    iprop(ins c fx fw fk fv ∗ ctxIs fx fw fk fv c 12 ∗ R)
      ⊢ WP c (k0_part13 xM w0 wM w1 kM w2 vM w3 oM w4 a5 w5 ctxM w6 a7 w7 a8 w8 a9 w9 cc0_scratch4 cc0_scratch5 maskV (k0_pay5 fx fw) (k0_pay26 maskV (k0_pay5 fx fw) (keyT fk 12) (keyT fv 12)) >>= k) Q := by
  rw [k0_part13_eq_skeleton]; unfold k0_part13_skel ins at *
  simp only [Prog.lift, Prog.bind_op, Prog.bind_ret, Prog.pure_eq_ret]
  iintro ⟨⟨HX, HW, HK, HV⟩, HC, HR⟩
  iapply (loadTile fx fw fk fv c 12) $$ HC; iintro %_ HC
  iapply (storeTile fx fw fk fv c 12 12 rfl rfl rfl rfl) $$ HC; iintro HC
  iapply (loadKey c kM fk 13 rfl) $$ HK; iintro HK
  iapply (loadKey c vM fv 13 rfl) $$ HV; iintro HV
  iapply (loadTile fx fw fk fv c 13) $$ HC; iintro %_ HC
  iapply (storeTile fx fw fk fv c 13 13 rfl rfl rfl rfl) $$ HC; iintro HC
  iapply (loadKey c kM fk 14 rfl) $$ HK; iintro HK
  iapply hk
  isplitl [HX HW HK HV]
  · isplitl [HX]; · iexact HX
    isplitl [HW]; · iexact HW
    isplitl [HK]; · iexact HK
    iexact HV
  isplitl [HC]; · iexact HC
  iexact HR

theorem run14 {k : _ → Prog (TpuEff nD τ sig (Elt F) Λ₀ .tc) α} {Q : α → sProp 𝕄} (R : sProp 𝕄)
    (hk : iprop(ins c fx fw fk fv ∗ ctxIs fx fw fk fv c 15 ∗ R) ⊢ WP c (k (k0_pay31 maskV (k0_pay5 fx fw) (keyT fk 15) (keyT fv 15))) Q) :
    iprop(ins c fx fw fk fv ∗ ctxIs fx fw fk fv c 14 ∗ R)
      ⊢ WP c (k0_part14 xM w0 wM w1 kM w2 vM w3 oM w4 a5 w5 ctxM w6 a7 w7 a8 w8 a9 w9 cc0_scratch4 cc0_scratch5 maskV (k0_pay5 fx fw) (k0_pay29 maskV (k0_pay5 fx fw) (keyT fk 14)) >>= k) Q := by
  rw [k0_part14_eq_skeleton]; unfold k0_part14_skel ins at *
  simp only [Prog.lift, Prog.bind_op, Prog.bind_ret, Prog.pure_eq_ret]
  iintro ⟨⟨HX, HW, HK, HV⟩, HC, HR⟩
  iapply (loadKey c vM fv 14 rfl) $$ HV; iintro HV
  iapply (loadTile fx fw fk fv c 14) $$ HC; iintro %_ HC
  iapply (storeTile fx fw fk fv c 14 14 rfl rfl rfl rfl) $$ HC; iintro HC
  iapply (loadKey c kM fk 15 rfl) $$ HK; iintro HK
  iapply (loadKey c vM fv 15 rfl) $$ HV; iintro HV
  iapply hk
  isplitl [HX HW HK HV]
  · isplitl [HX]; · iexact HX
    isplitl [HW]; · iexact HW
    isplitl [HK]; · iexact HK
    iexact HV
  isplitl [HC]; · iexact HC
  iexact HR

end Parts

end Cert.KernelIdeal.Cube

end
-- ==== Proof.Steps.lean ====
module

public import proofs.«01_k».proof.Proof.Ops
public import Idealize.ShloMosaic.Lib.Pipeline.Value

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

variable (A0 : Dev nD → Tab F) (K : GSem nD τ sig → ℕ) (c : Dev nD) {α : Type}
  {a0 : Memref sig .tc .vmem S1024x768 .f32} {w0 : a0.IsWhole} {a1 : Memref sig .tc .vmem S768x512 .f32} {w1 : a1.IsWhole}
  {a2 : Memref sig .tc .vmem S2x8x512x64 .f32} {w2 : a2.IsWhole} {a3 : Memref sig .tc .vmem S2x8x512x64 .f32} {w3 : a3.IsWhole}
  {a4 : Memref sig .tc .vmem S512x768 .f32} {w4 : a4.IsWhole} {a6 : Memref sig .tc .vmem S1024x512 .f32} {w6 : a6.IsWhole}
  {w5 : (outM : Memref sig .tc .vmem S1024x768 .f32).IsWhole} {w7 : (cM0 : Memref sig .tc .vmem S384x768 .f32).IsWhole}
  {w8 : (cM1 : Memref sig .tc .vmem S320x768 .f32).IsWhole} {w9 : (cM2 : Memref sig .tc .vmem S320x768 .f32).IsWhole}

/-- How many units a copy of `n` rows of the result's buffer is worth. -/
theorem credit_out {n : ℕ} {off : Fin 2 → ℕ} {inb : ∀ a, off a + (Rows n).size a ≤ (Rows 1024).size a} {hu} :
    (outM.slice (Rect.unit (s := Rows 1024) off (Rows n).size inb) hu).view.dmaCredit
      = sig.dmaCredit .tc (Kind.table .tc outM.view.ref.space) outM.view.ref.idx (Rows n) .f32 := rfl

/-- The stored sum, read at one place. -/
theorem pay_add {s : Shape} (h : s.ShapeCasts s) (x y : s.Idx → Elt F .f32) (j : s.Idx) :
    addf (F := F) (φ := .f32) (shapeCast s x h) y j = FloatOps.addf (x j) (y j) := by
  rw [shapeCast_self x h]; rfl

theorem run16 {k : _ → Prog (TpuEff nD τ sig (Elt F) Λ₀ .tc) α} {Q : α → sProp 𝕄} (R : sProp 𝕄) (v0 v1 v2 : BitVec 32)
    (hk : ∀ r, iprop(invs A0 K ∗ levAts L lv ∗ OW c 3 ∗ H2 A0 0 0 c ∗ H1 A0 0 1 c ∗ H1 A0 0 2 c ∗ R) ⊢ WP c (k r) Q) :
    iprop(invs A0 K ∗ levAts L lv ∗ OW c 1 ∗ H1 A0 0 0 c ∗ B A0 0 1 c ∗ B A0 0 2 c ∗ R)
      ⊢ WP c (k0_part16 a0 w0 a1 w1 a2 w2 a3 w3 a4 w4 outM w5 a6 w6 cM0 w7 cM1 w8 cM2 w9 cc0_scratch4 cc0_scratch5 c v0 v1 v2 >>= k) Q := by
  rw [k0_part16_eq_skeleton]; unfold k0_part16_skel
  simp only [Prog.lift, Prog.bind_op, Prog.bind_ret, Prog.pure_eq_ret]
  iintro ⟨#HI, #HL, HO, S0, S1, S2, HR⟩
  iapply (sendH A0 K (s := 0) (p := 1) (i := 1) (by decide) rfl cM1 (fun _ _ _ _ => rfl) (fun _ _ _ => rfl) (n := 160) (by decide)
    (off2 c) (col2 c) (by decide) (by decide) (dev5 c) (by decide) (by decide) (by decide)) $$ [HO S1]
  · isplitr; · iexact HI
    isplitl [HO]; · iexact HO
    iexact S1
  iintro ⟨HO, S1⟩
  iapply (sendH A0 K (s := 0) (p := 2) (i := 2) (by decide) rfl cM2 (fun _ _ _ _ => rfl) (fun _ _ _ => rfl) (n := 160) (by decide)
    (off3 c) (col3 c) (by decide) (by decide) (dev6 c) (by decide) (by decide) (by decide)) $$ [HO S2]
  · isplitr; · iexact HI
    isplitl [HO]; · iexact HO
    iexact S2
  iintro ⟨HO, S2⟩
  iapply (waitSH A0 K (s := 0) (p := 0) (i := 3) (by decide) rfl (by decide) ((credit_out (n := 192)).trans (by decide))) $$ [HO S0]
  · isplitr; · iexact HI
    isplitr; · iexact HL
    isplitl [HO]; · iexact HO
    iexact S0
  iintro ⟨HO, S0⟩
  iapply (hk _)
  isplitr; · iexact HI
  isplitr; · iexact HL
  isplitl [HO]; · iexact HO
  isplitl [S0]; · iexact S0
  isplitl [S1]; · iexact S1
  isplitl [S2]; · iexact S2
  iexact HR

theorem run17 {k : _ → Prog (TpuEff nD τ sig (Elt F) Λ₀ .tc) α} {Q : α → sProp 𝕄} (R : sProp 𝕄) (v0 v1 v2 : BitVec 32)
    (hk : ∀ r, iprop(invs A0 K ∗ levAts L lv ∗ OW c 3 ∗ H4 A0 0 0 c ∗ H4 A0 0 1 c ∗ H1 A0 0 2 c ∗ R) ⊢ WP c (k r) Q) :
    iprop(invs A0 K ∗ levAts L lv ∗ OW c 3 ∗ H2 A0 0 0 c ∗ H1 A0 0 1 c ∗ H1 A0 0 2 c ∗ R)
      ⊢ WP c (k0_part17 a0 w0 a1 w1 a2 w2 a3 w3 a4 w4 outM w5 a6 w6 cM0 w7 cM1 w8 cM2 w9 cc0_scratch4 cc0_scratch5 c v0 v1 v2 >>= k) Q := by
  rw [k0_part17_eq_skeleton]; unfold k0_part17_skel
  simp only [Prog.lift, Prog.bind_op, Prog.bind_ret, Prog.pure_eq_ret]
  iintro ⟨#HI, #HL, HO, S0, S1, S2, HR⟩
  iapply (waitRH A0 K (s := 0) (p := 0) (i := 3) (by decide) rfl (by decide) (by decide)) $$ [HO S0]
  · isplitr; · iexact HI
    isplitr; · iexact HL
    isplitl [HO]; · iexact HO
    iexact S0
  iintro ⟨HO, S0⟩
  iapply (addH A0 (s := 0) (p := 0) (by decide) cM0 (fun _ _ _ _ => rfl) (n := 192) (by decide) (off4 c) (col4 c) (by decide) (by decide)
    (fun x y j => pay_add _ x y j)) $$ S0
  iintro S0
  iapply (waitSH A0 K (s := 0) (p := 1) (i := 3) (by decide) rfl (by decide) ((credit_out (n := 160)).trans (by decide))) $$ [HO S1]
  · isplitr; · iexact HI
    isplitr; · iexact HL
    isplitl [HO]; · iexact HO
    iexact S1
  iintro ⟨HO, S1⟩
  iapply (waitRH A0 K (s := 0) (p := 1) (i := 3) (by decide) rfl (by decide) (by decide)) $$ [HO S1]
  · isplitr; · iexact HI
    isplitr; · iexact HL
    isplitl [HO]; · iexact HO
    iexact S1
  iintro ⟨HO, S1⟩
  iapply (addH A0 (s := 0) (p := 1) (by decide) cM1 (fun _ _ _ _ => rfl) (n := 160) (by decide) (off5 c) (col5 c) (by decide) (by decide)
    (fun x y j => pay_add _ x y j)) $$ S1
  iintro S1
  iapply (hk _)
  isplitr; · iexact HI
  isplitr; · iexact HL
  isplitl [HO]; · iexact HO
  isplitl [S0]; · iexact S0
  isplitl [S1]; · iexact S1
  isplitl [S2]; · iexact S2
  iexact HR

theorem run18 {k : _ → Prog (TpuEff nD τ sig (Elt F) Λ₀ .tc) α} {Q : α → sProp 𝕄} (R : sProp 𝕄) (v0 v1 v2 v3 v4 v5 v6 : BitVec 32)
    (hk : ∀ r, iprop(invs A0 K ∗ levAts L lv ∗ OW c 4 ∗ H1 A0 1 0 c ∗ B A0 1 1 c ∗ B A0 1 2 c ∗ R) ⊢ WP c (k r) Q) :
    iprop(invs A0 K ∗ levAts L lv ∗ OW c 3 ∗ H4 A0 0 0 c ∗ H4 A0 0 1 c ∗ H1 A0 0 2 c ∗ R)
      ⊢ WP c (k0_part18 a0 w0 a1 w1 a2 w2 a3 w3 a4 w4 outM w5 a6 w6 cM0 w7 cM1 w8 cM2 w9 cc0_scratch4 cc0_scratch5 c v0 v1 v2 v3 v4 v5 v6 >>= k) Q := by
  rw [k0_part18_eq_skeleton]; unfold k0_part18_skel
  simp only [Prog.lift, Prog.bind_op, Prog.bind_ret, Prog.pure_eq_ret]
  iintro ⟨#HI, #HL, HO, S0, S1, S2, HR⟩
  iapply (waitSH A0 K (s := 0) (p := 2) (i := 3) (by decide) rfl (by decide) ((credit_out (n := 160)).trans (by decide))) $$ [HO S2]
  · isplitr; · iexact HI
    isplitr; · iexact HL
    isplitl [HO]; · iexact HO
    iexact S2
  iintro ⟨HO, S2⟩
  iapply (waitRH A0 K (s := 0) (p := 2) (i := 3) (by decide) rfl (by decide) (by decide)) $$ [HO S2]
  · isplitr; · iexact HI
    isplitr; · iexact HL
    isplitl [HO]; · iexact HO
    iexact S2
  iintro ⟨HO, S2⟩
  iapply (addH A0 (s := 0) (p := 2) (by decide) cM2 (fun _ _ _ _ => rfl) (n := 160) (by decide) (off6 c) (col6 c) (by decide) (by decide)
    (fun x y j => pay_add _ x y j)) $$ S2
  iintro S2
  ihave HS := (assemble (s := 0) (by decide) A0 c (fun p => H4 A0 0 p c) (fun p => (turnH (s := 0) (by decide) A0 p c))) $$ [S0 S1 S2]
  · isplitl [S0]; · iexact S0
    isplitl [S1]; · iexact S1
    iexact S2
  icases HS with ⟨S0, S1, S2⟩
  iapply (sendH A0 K (s := 1) (p := 0) (i := 3) (by decide) rfl cM0 (fun _ _ _ _ => rfl) (fun _ _ _ => rfl) (n := 96) (by decide)
    (off7 c) (col7 c) (by decide) (by decide) (dev7 c) (by decide) (by decide) (by decide)) $$ [HO S0]
  · isplitr; · iexact HI
    isplitl [HO]; · iexact HO
    iexact S0
  iintro ⟨HO, S0⟩
  iapply (hk _)
  isplitr; · iexact HI
  isplitr; · iexact HL
  isplitl [HO]; · iexact HO
  isplitl [S0]; · iexact S0
  isplitl [S1]; · iexact S1
  isplitl [S2]; · iexact S2
  iexact HR

theorem run19 {k : _ → Prog (TpuEff nD τ sig (Elt F) Λ₀ .tc) α} {Q : α → sProp 𝕄} (R : sProp 𝕄) (v0 v1 v2 v3 v4 : BitVec 32)
    (hk : ∀ r, iprop(invs A0 K ∗ levAts L lv ∗ OW c 6 ∗ H2 A0 1 0 c ∗ H1 A0 1 1 c ∗ H1 A0 1 2 c ∗ R) ⊢ WP c (k r) Q) :
    iprop(invs A0 K ∗ levAts L lv ∗ OW c 4 ∗ H1 A0 1 0 c ∗ B A0 1 1 c ∗ B A0 1 2 c ∗ R)
      ⊢ WP c (k0_part19 a0 w0 a1 w1 a2 w2 a3 w3 a4 w4 outM w5 a6 w6 cM0 w7 cM1 w8 cM2 w9 cc0_scratch4 cc0_scratch5 c v0 v1 v2 v3 v4 >>= k) Q := by
  rw [k0_part19_eq_skeleton]; unfold k0_part19_skel
  simp only [Prog.lift, Prog.bind_op, Prog.bind_ret, Prog.pure_eq_ret]
  iintro ⟨#HI, #HL, HO, S0, S1, S2, HR⟩
  iapply (sendH A0 K (s := 1) (p := 1) (i := 4) (by decide) rfl cM1 (fun _ _ _ _ => rfl) (fun _ _ _ => rfl) (n := 80) (by decide)
    (off8 c) (col8 c) (by decide) (by decide) (dev8 c) (by decide) (by decide) (by decide)) $$ [HO S1]
  · isplitr; · iexact HI
    isplitl [HO]; · iexact HO
    iexact S1
  iintro ⟨HO, S1⟩
  iapply (sendH A0 K (s := 1) (p := 2) (i := 5) (by decide) rfl cM2 (fun _ _ _ _ => rfl) (fun _ _ _ => rfl) (n := 80) (by decide)
    (off9 c) (col9 c) (by decide) (by decide) (dev9 c) (by decide) (by decide) (by decide)) $$ [HO S2]
  · isplitr; · iexact HI
    isplitl [HO]; · iexact HO
    iexact S2
  iintro ⟨HO, S2⟩
  iapply (waitSH A0 K (s := 1) (p := 0) (i := 6) (by decide) rfl (by decide) ((credit_out (n := 96)).trans (by decide))) $$ [HO S0]
  · isplitr; · iexact HI
    isplitr; · iexact HL
    isplitl [HO]; · iexact HO
    iexact S0
  iintro ⟨HO, S0⟩
  iapply (hk _)
  isplitr; · iexact HI
  isplitr; · iexact HL
  isplitl [HO]; · iexact HO
  isplitl [S0]; · iexact S0
  isplitl [S1]; · iexact S1
  isplitl [S2]; · iexact S2
  iexact HR

theorem run20 {k : _ → Prog (TpuEff nD τ sig (Elt F) Λ₀ .tc) α} {Q : α → sProp 𝕄} (R : sProp 𝕄) (v0 v1 v2 : BitVec 32)
    (hk : ∀ r, iprop(invs A0 K ∗ levAts L lv ∗ OW c 6 ∗ H4 A0 1 0 c ∗ H4 A0 1 1 c ∗ H1 A0 1 2 c ∗ R) ⊢ WP c (k r) Q) :
    iprop(invs A0 K ∗ levAts L lv ∗ OW c 6 ∗ H2 A0 1 0 c ∗ H1 A0 1 1 c ∗ H1 A0 1 2 c ∗ R)
      ⊢ WP c (k0_part20 a0 w0 a1 w1 a2 w2 a3 w3 a4 w4 outM w5 a6 w6 cM0 w7 cM1 w8 cM2 w9 cc0_scratch4 cc0_scratch5 c v0 v1 v2 >>= k) Q := by
  rw [k0_part20_eq_skeleton]; unfold k0_part20_skel
  simp only [Prog.lift, Prog.bind_op, Prog.bind_ret, Prog.pure_eq_ret]
  iintro ⟨#HI, #HL, HO, S0, S1, S2, HR⟩
  iapply (waitRH A0 K (s := 1) (p := 0) (i := 6) (by decide) rfl (by decide) (by decide)) $$ [HO S0]
  · isplitr; · iexact HI
    isplitr; · iexact HL
    isplitl [HO]; · iexact HO
    iexact S0
  iintro ⟨HO, S0⟩
  iapply (addH A0 (s := 1) (p := 0) (by decide) cM0 (fun _ _ _ _ => rfl) (n := 96) (by decide) (off10 c) (col10 c) (by decide) (by decide)
    (fun x y j => pay_add _ x y j)) $$ S0
  iintro S0
  iapply (waitSH A0 K (s := 1) (p := 1) (i := 6) (by decide) rfl (by decide) ((credit_out (n := 80)).trans (by decide))) $$ [HO S1]
  · isplitr; · iexact HI
    isplitr; · iexact HL
    isplitl [HO]; · iexact HO
    iexact S1
  iintro ⟨HO, S1⟩
  iapply (waitRH A0 K (s := 1) (p := 1) (i := 6) (by decide) rfl (by decide) (by decide)) $$ [HO S1]
  · isplitr; · iexact HI
    isplitr; · iexact HL
    isplitl [HO]; · iexact HO
    iexact S1
  iintro ⟨HO, S1⟩
  iapply (addH A0 (s := 1) (p := 1) (by decide) cM1 (fun _ _ _ _ => rfl) (n := 80) (by decide) (off11 c) (col11 c) (by decide) (by decide)
    (fun x y j => pay_add _ x y j)) $$ S1
  iintro S1
  iapply (hk _)
  isplitr; · iexact HI
  isplitr; · iexact HL
  isplitl [HO]; · iexact HO
  isplitl [S0]; · iexact S0
  isplitl [S1]; · iexact S1
  isplitl [S2]; · iexact S2
  iexact HR

theorem run21 {k : _ → Prog (TpuEff nD τ sig (Elt F) Λ₀ .tc) α} {Q : α → sProp 𝕄} (R : sProp 𝕄) (v0 v1 v2 v3 v4 v5 v6 : BitVec 32)
    (hk : ∀ r, iprop(invs A0 K ∗ levAts L lv ∗ OW c 7 ∗ H1 A0 2 0 c ∗ B A0 2 1 c ∗ B A0 2 2 c ∗ R) ⊢ WP c (k r) Q) :
    iprop(invs A0 K ∗ levAts L lv ∗ OW c 6 ∗ H4 A0 1 0 c ∗ H4 A0 1 1 c ∗ H1 A0 1 2 c ∗ R)
      ⊢ WP c (k0_part21 a0 w0 a1 w1 a2 w2 a3 w3 a4 w4 outM w5 a6 w6 cM0 w7 cM1 w8 cM2 w9 cc0_scratch4 cc0_scratch5 c v0 v1 v2 v3 v4 v5 v6 >>= k) Q := by
  rw [k0_part21_eq_skeleton]; unfold k0_part21_skel
  simp only [Prog.lift, Prog.bind_op, Prog.bind_ret, Prog.pure_eq_ret]
  iintro ⟨#HI, #HL, HO, S0, S1, S2, HR⟩
  iapply (waitSH A0 K (s := 1) (p := 2) (i := 6) (by decide) rfl (by decide) ((credit_out (n := 80)).trans (by decide))) $$ [HO S2]
  · isplitr; · iexact HI
    isplitr; · iexact HL
    isplitl [HO]; · iexact HO
    iexact S2
  iintro ⟨HO, S2⟩
  iapply (waitRH A0 K (s := 1) (p := 2) (i := 6) (by decide) rfl (by decide) (by decide)) $$ [HO S2]
  · isplitr; · iexact HI
    isplitr; · iexact HL
    isplitl [HO]; · iexact HO
    iexact S2
  iintro ⟨HO, S2⟩
  iapply (addH A0 (s := 1) (p := 2) (by decide) cM2 (fun _ _ _ _ => rfl) (n := 80) (by decide) (off12 c) (col12 c) (by decide) (by decide)
    (fun x y j => pay_add _ x y j)) $$ S2
  iintro S2
  ihave HS := (assemble (s := 1) (by decide) A0 c (fun p => H4 A0 1 p c) (fun p => (turnH (s := 1) (by decide) A0 p c))) $$ [S0 S1 S2]
  · isplitl [S0]; · iexact S0
    isplitl [S1]; · iexact S1
    iexact S2
  icases HS with ⟨S0, S1, S2⟩
  iapply (sendH A0 K (s := 2) (p := 0) (i := 6) (by decide) rfl cM0 (fun _ _ _ _ => rfl) (fun _ _ _ => rfl) (n := 48) (by decide)
    (off13 c) (col13 c) (by decide) (by decide) (dev10 c) (by decide) (by decide) (by decide)) $$ [HO S0]
  · isplitr; · iexact HI
    isplitl [HO]; · iexact HO
    iexact S0
  iintro ⟨HO, S0⟩
  iapply (hk _)
  isplitr; · iexact HI
  isplitr; · iexact HL
  isplitl [HO]; · iexact HO
  isplitl [S0]; · iexact S0
  isplitl [S1]; · iexact S1
  isplitl [S2]; · iexact S2
  iexact HR

theorem run22 {k : _ → Prog (TpuEff nD τ sig (Elt F) Λ₀ .tc) α} {Q : α → sProp 𝕄} (R : sProp 𝕄) (v0 v1 v2 v3 v4 v5 v6 v7 : BitVec 32)
    (hk : ∀ r, iprop(invs A0 K ∗ levAts L lv ∗ OW c 9 ∗ H2 A0 2 0 c ∗ H1 A0 2 1 c ∗ H1 A0 2 2 c ∗ R) ⊢ WP c (k r) Q) :
    iprop(invs A0 K ∗ levAts L lv ∗ OW c 7 ∗ H1 A0 2 0 c ∗ B A0 2 1 c ∗ B A0 2 2 c ∗ R)
      ⊢ WP c (k0_part22 a0 w0 a1 w1 a2 w2 a3 w3 a4 w4 outM w5 a6 w6 cM0 w7 cM1 w8 cM2 w9 cc0_scratch4 cc0_scratch5 c v0 v1 v2 v3 v4 v5 v6 v7 >>= k) Q := by
  rw [k0_part22_eq_skeleton]; unfold k0_part22_skel
  simp only [Prog.lift, Prog.bind_op, Prog.bind_ret, Prog.pure_eq_ret]
  iintro ⟨#HI, #HL, HO, S0, S1, S2, HR⟩
  iapply (sendH A0 K (s := 2) (p := 1) (i := 7) (by decide) rfl cM1 (fun _ _ _ _ => rfl) (fun _ _ _ => rfl) (n := 40) (by decide)
    (off14 c) (col14 c) (by decide) (by decide) (dev11 c) (by decide) (by decide) (by decide)) $$ [HO S1]
  · isplitr; · iexact HI
    isplitl [HO]; · iexact HO
    iexact S1
  iintro ⟨HO, S1⟩
  iapply (sendH A0 K (s := 2) (p := 2) (i := 8) (by decide) rfl cM2 (fun _ _ _ _ => rfl) (fun _ _ _ => rfl) (n := 40) (by decide)
    (off15 c) (col15 c) (by decide) (by decide) (dev12 c) (by decide) (by decide) (by decide)) $$ [HO S2]
  · isplitr; · iexact HI
    isplitl [HO]; · iexact HO
    iexact S2
  iintro ⟨HO, S2⟩
  iapply (waitSH A0 K (s := 2) (p := 0) (i := 9) (by decide) rfl (by decide) ((credit_out (n := 48)).trans (by decide))) $$ [HO S0]
  · isplitr; · iexact HI
    isplitr; · iexact HL
    isplitl [HO]; · iexact HO
    iexact S0
  iintro ⟨HO, S0⟩
  iapply (hk _)
  isplitr; · iexact HI
  isplitr; · iexact HL
  isplitl [HO]; · iexact HO
  isplitl [S0]; · iexact S0
  isplitl [S1]; · iexact S1
  isplitl [S2]; · iexact S2
  iexact HR

theorem run23 {k : _ → Prog (TpuEff nD τ sig (Elt F) Λ₀ .tc) α} {Q : α → sProp 𝕄} (R : sProp 𝕄) (v0 v1 v2 : BitVec 32)
    (hk : ∀ r, iprop(invs A0 K ∗ levAts L lv ∗ OW c 9 ∗ H4 A0 2 0 c ∗ H4 A0 2 1 c ∗ H1 A0 2 2 c ∗ R) ⊢ WP c (k r) Q) :
    iprop(invs A0 K ∗ levAts L lv ∗ OW c 9 ∗ H2 A0 2 0 c ∗ H1 A0 2 1 c ∗ H1 A0 2 2 c ∗ R)
      ⊢ WP c (k0_part23 a0 w0 a1 w1 a2 w2 a3 w3 a4 w4 outM w5 a6 w6 cM0 w7 cM1 w8 cM2 w9 cc0_scratch4 cc0_scratch5 c v0 v1 v2 >>= k) Q := by
  rw [k0_part23_eq_skeleton]; unfold k0_part23_skel
  simp only [Prog.lift, Prog.bind_op, Prog.bind_ret, Prog.pure_eq_ret]
  iintro ⟨#HI, #HL, HO, S0, S1, S2, HR⟩
  iapply (waitRH A0 K (s := 2) (p := 0) (i := 9) (by decide) rfl (by decide) (by decide)) $$ [HO S0]
  · isplitr; · iexact HI
    isplitr; · iexact HL
    isplitl [HO]; · iexact HO
    iexact S0
  iintro ⟨HO, S0⟩
  iapply (addH A0 (s := 2) (p := 0) (by decide) cM0 (fun _ _ _ _ => rfl) (n := 48) (by decide) (off16 c) (col16 c) (by decide) (by decide)
    (fun x y j => pay_add _ x y j)) $$ S0
  iintro S0
  iapply (waitSH A0 K (s := 2) (p := 1) (i := 9) (by decide) rfl (by decide) ((credit_out (n := 40)).trans (by decide))) $$ [HO S1]
  · isplitr; · iexact HI
    isplitr; · iexact HL
    isplitl [HO]; · iexact HO
    iexact S1
  iintro ⟨HO, S1⟩
  iapply (waitRH A0 K (s := 2) (p := 1) (i := 9) (by decide) rfl (by decide) (by decide)) $$ [HO S1]
  · isplitr; · iexact HI
    isplitr; · iexact HL
    isplitl [HO]; · iexact HO
    iexact S1
  iintro ⟨HO, S1⟩
  iapply (addH A0 (s := 2) (p := 1) (by decide) cM1 (fun _ _ _ _ => rfl) (n := 40) (by decide) (off17 c) (col17 c) (by decide) (by decide)
    (fun x y j => pay_add _ x y j)) $$ S1
  iintro S1
  iapply (hk _)
  isplitr; · iexact HI
  isplitr; · iexact HL
  isplitl [HO]; · iexact HO
  isplitl [S0]; · iexact S0
  isplitl [S1]; · iexact S1
  isplitl [S2]; · iexact S2
  iexact HR

theorem run24 {k : _ → Prog (TpuEff nD τ sig (Elt F) Λ₀ .tc) α} {Q : α → sProp 𝕄} (R : sProp 𝕄) (v0 v1 v2 v3 v4 v5 : BitVec 32)
    (hk : ∀ r, iprop(invs A0 K ∗ levAts L lv ∗ OW c 10 ∗ G1 3 0 c ∗ B A0 3 1 c ∗ B A0 3 2 c ∗ R) ⊢ WP c (k r) Q) :
    iprop(invs A0 K ∗ levAts L lv ∗ OW c 9 ∗ H4 A0 2 0 c ∗ H4 A0 2 1 c ∗ H1 A0 2 2 c ∗ R)
      ⊢ WP c (k0_part24 a0 w0 a1 w1 a2 w2 a3 w3 a4 w4 outM w5 a6 w6 cM0 w7 cM1 w8 cM2 w9 cc0_scratch4 cc0_scratch5 c v0 v1 v2 v3 v4 v5 >>= k) Q := by
  rw [k0_part24_eq_skeleton]; unfold k0_part24_skel
  simp only [Prog.lift, Prog.bind_op, Prog.bind_ret, Prog.pure_eq_ret]
  iintro ⟨#HI, #HL, HO, S0, S1, S2, HR⟩
  iapply (waitSH A0 K (s := 2) (p := 2) (i := 9) (by decide) rfl (by decide) ((credit_out (n := 40)).trans (by decide))) $$ [HO S2]
  · isplitr; · iexact HI
    isplitr; · iexact HL
    isplitl [HO]; · iexact HO
    iexact S2
  iintro ⟨HO, S2⟩
  iapply (waitRH A0 K (s := 2) (p := 2) (i := 9) (by decide) rfl (by decide) (by decide)) $$ [HO S2]
  · isplitr; · iexact HI
    isplitr; · iexact HL
    isplitl [HO]; · iexact HO
    iexact S2
  iintro ⟨HO, S2⟩
  iapply (addH A0 (s := 2) (p := 2) (by decide) cM2 (fun _ _ _ _ => rfl) (n := 40) (by decide) (off18 c) (col18 c) (by decide) (by decide)
    (fun x y j => pay_add _ x y j)) $$ S2
  iintro S2
  ihave HS := (assemble (s := 2) (by decide) A0 c (fun p => H4 A0 2 p c) (fun p => (turnH (s := 2) (by decide) A0 p c))) $$ [S0 S1 S2]
  · isplitl [S0]; · iexact S0
    isplitl [S1]; · iexact S1
    iexact S2
  icases HS with ⟨S0, S1, S2⟩
  iapply (sendG A0 K (s := 3) (p := 0) (i := 9) (by decide) (by decide) rfl (n := 48) (by decide)
    (off19 c) (col19 c) (off19 c) (col19 c) (dev13 c) (by decide) (by decide) (credit_out.trans (by decide))) $$ [HO S0]
  · isplitr; · iexact HI
    isplitl [HO]; · iexact HO
    iexact S0
  iintro ⟨HO, S0⟩
  iapply (hk _)
  isplitr; · iexact HI
  isplitr; · iexact HL
  isplitl [HO]; · iexact HO
  isplitl [S0]; · iexact S0
  isplitl [S1]; · iexact S1
  isplitl [S2]; · iexact S2
  iexact HR

theorem run25 {k : _ → Prog (TpuEff nD τ sig (Elt F) Λ₀ .tc) α} {Q : α → sProp 𝕄} (R : sProp 𝕄) (v0 v1 v2 v3 v4 v5 : BitVec 32)
    (hk : ∀ r, iprop(invs A0 K ∗ levAts L lv ∗ OW c 12 ∗ G3 A0 3 0 c ∗ G2 A0 3 1 c ∗ G1 3 2 c ∗ R) ⊢ WP c (k r) Q) :
    iprop(invs A0 K ∗ levAts L lv ∗ OW c 10 ∗ G1 3 0 c ∗ B A0 3 1 c ∗ B A0 3 2 c ∗ R)
      ⊢ WP c (k0_part25 a0 w0 a1 w1 a2 w2 a3 w3 a4 w4 outM w5 a6 w6 cM0 w7 cM1 w8 cM2 w9 cc0_scratch4 cc0_scratch5 c v0 v1 v2 v3 v4 v5 >>= k) Q := by
  rw [k0_part25_eq_skeleton]; unfold k0_part25_skel
  simp only [Prog.lift, Prog.bind_op, Prog.bind_ret, Prog.pure_eq_ret]
  iintro ⟨#HI, #HL, HO, S0, S1, S2, HR⟩
  iapply (sendG A0 K (s := 3) (p := 1) (i := 10) (by decide) (by decide) rfl (n := 40) (by decide)
    (off20 c) (col20 c) (off20 c) (col20 c) (dev14 c) (by decide) (by decide) (credit_out.trans (by decide))) $$ [HO S1]
  · isplitr; · iexact HI
    isplitl [HO]; · iexact HO
    iexact S1
  iintro ⟨HO, S1⟩
  iapply (sendG A0 K (s := 3) (p := 2) (i := 11) (by decide) (by decide) rfl (n := 40) (by decide)
    (off21 c) (col21 c) (off21 c) (col21 c) (dev15 c) (by decide) (by decide) (credit_out.trans (by decide))) $$ [HO S2]
  · isplitr; · iexact HI
    isplitl [HO]; · iexact HO
    iexact S2
  iintro ⟨HO, S2⟩
  iapply (waitSG A0 K (s := 3) (p := 0) (i := 12) (by decide) (by decide) rfl (by decide) ((credit_out (n := 48)).trans (by decide))) $$ [HO S0]
  · isplitr; · iexact HI
    isplitr; · iexact HL
    isplitl [HO]; · iexact HO
    iexact S0
  iintro ⟨HO, S0⟩
  iapply (waitRG A0 K (s := 3) (p := 0) (i := 12) (by decide) (by decide) rfl (by decide) ((credit_out (n := 48)).trans (by decide))) $$ [HO S0]
  · isplitr; · iexact HI
    isplitr; · iexact HL
    isplitl [HO]; · iexact HO
    iexact S0
  iintro ⟨HO, S0⟩
  iapply (waitSG A0 K (s := 3) (p := 1) (i := 12) (by decide) (by decide) rfl (by decide) ((credit_out (n := 40)).trans (by decide))) $$ [HO S1]
  · isplitr; · iexact HI
    isplitr; · iexact HL
    isplitl [HO]; · iexact HO
    iexact S1
  iintro ⟨HO, S1⟩
  iapply (hk _)
  isplitr; · iexact HI
  isplitr; · iexact HL
  isplitl [HO]; · iexact HO
  isplitl [S0]; · iexact S0
  isplitl [S1]; · iexact S1
  isplitl [S2]; · iexact S2
  iexact HR

theorem run26 {k : _ → Prog (TpuEff nD τ sig (Elt F) Λ₀ .tc) α} {Q : α → sProp 𝕄} (R : sProp 𝕄) (v0 v1 v2 v3 v4 : BitVec 32)
    (hk : ∀ r, iprop(invs A0 K ∗ levAts L lv ∗ OW c 13 ∗ G1 4 0 c ∗ B A0 4 1 c ∗ B A0 4 2 c ∗ R) ⊢ WP c (k r) Q) :
    iprop(invs A0 K ∗ levAts L lv ∗ OW c 12 ∗ G3 A0 3 0 c ∗ G2 A0 3 1 c ∗ G1 3 2 c ∗ R)
      ⊢ WP c (k0_part26 a0 w0 a1 w1 a2 w2 a3 w3 a4 w4 outM w5 a6 w6 cM0 w7 cM1 w8 cM2 w9 cc0_scratch4 cc0_scratch5 c v0 v1 v2 v3 v4 >>= k) Q := by
  rw [k0_part26_eq_skeleton]; unfold k0_part26_skel
  simp only [Prog.lift, Prog.bind_op, Prog.bind_ret, Prog.pure_eq_ret]
  iintro ⟨#HI, #HL, HO, S0, S1, S2, HR⟩
  iapply (waitRG A0 K (s := 3) (p := 1) (i := 12) (by decide) (by decide) rfl (by decide) ((credit_out (n := 40)).trans (by decide))) $$ [HO S1]
  · isplitr; · iexact HI
    isplitr; · iexact HL
    isplitl [HO]; · iexact HO
    iexact S1
  iintro ⟨HO, S1⟩
  iapply (waitSG A0 K (s := 3) (p := 2) (i := 12) (by decide) (by decide) rfl (by decide) ((credit_out (n := 40)).trans (by decide))) $$ [HO S2]
  · isplitr; · iexact HI
    isplitr; · iexact HL
    isplitl [HO]; · iexact HO
    iexact S2
  iintro ⟨HO, S2⟩
  iapply (waitRG A0 K (s := 3) (p := 2) (i := 12) (by decide) (by decide) rfl (by decide) ((credit_out (n := 40)).trans (by decide))) $$ [HO S2]
  · isplitr; · iexact HI
    isplitr; · iexact HL
    isplitl [HO]; · iexact HO
    iexact S2
  iintro ⟨HO, S2⟩
  ihave HS := (assemble (s := 3) (by decide) A0 c (fun p => G3 A0 3 p c) (fun p => (turnG (s := 3) (by decide) (by decide) A0 p c))) $$ [S0 S1 S2]
  · isplitl [S0]; · iexact S0
    isplitl [S1]; · iexact S1
    iexact S2
  icases HS with ⟨S0, S1, S2⟩
  iapply (sendG A0 K (s := 4) (p := 0) (i := 12) (by decide) (by decide) rfl (n := 96) (by decide)
    (off22 c) (col22 c) (off22 c) (col22 c) (dev16 c) (by decide) (by decide) (credit_out.trans (by decide))) $$ [HO S0]
  · isplitr; · iexact HI
    isplitl [HO]; · iexact HO
    iexact S0
  iintro ⟨HO, S0⟩
  iapply (hk _)
  isplitr; · iexact HI
  isplitr; · iexact HL
  isplitl [HO]; · iexact HO
  isplitl [S0]; · iexact S0
  isplitl [S1]; · iexact S1
  isplitl [S2]; · iexact S2
  iexact HR

theorem run27 {k : _ → Prog (TpuEff nD τ sig (Elt F) Λ₀ .tc) α} {Q : α → sProp 𝕄} (R : sProp 𝕄) (v0 v1 v2 v3 v4 v5 : BitVec 32)
    (hk : ∀ r, iprop(invs A0 K ∗ levAts L lv ∗ OW c 15 ∗ G3 A0 4 0 c ∗ G1 4 1 c ∗ G1 4 2 c ∗ R) ⊢ WP c (k r) Q) :
    iprop(invs A0 K ∗ levAts L lv ∗ OW c 13 ∗ G1 4 0 c ∗ B A0 4 1 c ∗ B A0 4 2 c ∗ R)
      ⊢ WP c (k0_part27 a0 w0 a1 w1 a2 w2 a3 w3 a4 w4 outM w5 a6 w6 cM0 w7 cM1 w8 cM2 w9 cc0_scratch4 cc0_scratch5 c v0 v1 v2 v3 v4 v5 >>= k) Q := by
  rw [k0_part27_eq_skeleton]; unfold k0_part27_skel
  simp only [Prog.lift, Prog.bind_op, Prog.bind_ret, Prog.pure_eq_ret]
  iintro ⟨#HI, #HL, HO, S0, S1, S2, HR⟩
  iapply (sendG A0 K (s := 4) (p := 1) (i := 13) (by decide) (by decide) rfl (n := 80) (by decide)
    (off23 c) (col23 c) (off23 c) (col23 c) (dev17 c) (by decide) (by decide) (credit_out.trans (by decide))) $$ [HO S1]
  · isplitr; · iexact HI
    isplitl [HO]; · iexact HO
    iexact S1
  iintro ⟨HO, S1⟩
  iapply (sendG A0 K (s := 4) (p := 2) (i := 14) (by decide) (by decide) rfl (n := 80) (by decide)
    (off24 c) (col24 c) (off24 c) (col24 c) (dev18 c) (by decide) (by decide) (credit_out.trans (by decide))) $$ [HO S2]
  · isplitr; · iexact HI
    isplitl [HO]; · iexact HO
    iexact S2
  iintro ⟨HO, S2⟩
  iapply (waitSG A0 K (s := 4) (p := 0) (i := 15) (by decide) (by decide) rfl (by decide) ((credit_out (n := 96)).trans (by decide))) $$ [HO S0]
  · isplitr; · iexact HI
    isplitr; · iexact HL
    isplitl [HO]; · iexact HO
    iexact S0
  iintro ⟨HO, S0⟩
  iapply (waitRG A0 K (s := 4) (p := 0) (i := 15) (by decide) (by decide) rfl (by decide) ((credit_out (n := 96)).trans (by decide))) $$ [HO S0]
  · isplitr; · iexact HI
    isplitr; · iexact HL
    isplitl [HO]; · iexact HO
    iexact S0
  iintro ⟨HO, S0⟩
  iapply (hk _)
  isplitr; · iexact HI
  isplitr; · iexact HL
  isplitl [HO]; · iexact HO
  isplitl [S0]; · iexact S0
  isplitl [S1]; · iexact S1
  isplitl [S2]; · iexact S2
  iexact HR

theorem run28 {k : _ → Prog (TpuEff nD τ sig (Elt F) Λ₀ .tc) α} {Q : α → sProp 𝕄} (R : sProp 𝕄) (v0 v1 v2 : BitVec 32)
    (hk : ∀ r, iprop(invs A0 K ∗ levAts L lv ∗ OW c 16 ∗ G1 5 0 c ∗ B A0 5 1 c ∗ B A0 5 2 c ∗ R) ⊢ WP c (k r) Q) :
    iprop(invs A0 K ∗ levAts L lv ∗ OW c 15 ∗ G3 A0 4 0 c ∗ G1 4 1 c ∗ G1 4 2 c ∗ R)
      ⊢ WP c (k0_part28 a0 w0 a1 w1 a2 w2 a3 w3 a4 w4 outM w5 a6 w6 cM0 w7 cM1 w8 cM2 w9 cc0_scratch4 cc0_scratch5 c v0 v1 v2 >>= k) Q := by
  rw [k0_part28_eq_skeleton]; unfold k0_part28_skel
  simp only [Prog.lift, Prog.bind_op, Prog.bind_ret, Prog.pure_eq_ret]
  iintro ⟨#HI, #HL, HO, S0, S1, S2, HR⟩
  iapply (waitSG A0 K (s := 4) (p := 1) (i := 15) (by decide) (by decide) rfl (by decide) ((credit_out (n := 80)).trans (by decide))) $$ [HO S1]
  · isplitr; · iexact HI
    isplitr; · iexact HL
    isplitl [HO]; · iexact HO
    iexact S1
  iintro ⟨HO, S1⟩
  iapply (waitRG A0 K (s := 4) (p := 1) (i := 15) (by decide) (by decide) rfl (by decide) ((credit_out (n := 80)).trans (by decide))) $$ [HO S1]
  · isplitr; · iexact HI
    isplitr; · iexact HL
    isplitl [HO]; · iexact HO
    iexact S1
  iintro ⟨HO, S1⟩
  iapply (waitSG A0 K (s := 4) (p := 2) (i := 15) (by decide) (by decide) rfl (by decide) ((credit_out (n := 80)).trans (by decide))) $$ [HO S2]
  · isplitr; · iexact HI
    isplitr; · iexact HL
    isplitl [HO]; · iexact HO
    iexact S2
  iintro ⟨HO, S2⟩
  iapply (waitRG A0 K (s := 4) (p := 2) (i := 15) (by decide) (by decide) rfl (by decide) ((credit_out (n := 80)).trans (by decide))) $$ [HO S2]
  · isplitr; · iexact HI
    isplitr; · iexact HL
    isplitl [HO]; · iexact HO
    iexact S2
  iintro ⟨HO, S2⟩
  ihave HS := (assemble (s := 4) (by decide) A0 c (fun p => G3 A0 4 p c) (fun p => (turnG (s := 4) (by decide) (by decide) A0 p c))) $$ [S0 S1 S2]
  · isplitl [S0]; · iexact S0
    isplitl [S1]; · iexact S1
    iexact S2
  icases HS with ⟨S0, S1, S2⟩
  iapply (sendG A0 K (s := 5) (p := 0) (i := 15) (by decide) (by decide) rfl (n := 192) (by decide)
    (off25 c) (col25 c) (off25 c) (col25 c) (dev19 c) (by decide) (by decide) (credit_out.trans (by decide))) $$ [HO S0]
  · isplitr; · iexact HI
    isplitl [HO]; · iexact HO
    iexact S0
  iintro ⟨HO, S0⟩
  iapply (hk _)
  isplitr; · iexact HI
  isplitr; · iexact HL
  isplitl [HO]; · iexact HO
  isplitl [S0]; · iexact S0
  isplitl [S1]; · iexact S1
  isplitl [S2]; · iexact S2
  iexact HR

theorem run29 {k : _ → Prog (TpuEff nD τ sig (Elt F) Λ₀ .tc) α} {Q : α → sProp 𝕄} (R : sProp 𝕄) (v0 v1 : BitVec 32)
    (hk : ∀ r, iprop(invs A0 K ∗ levAts L lv ∗ OW c 18 ∗ G3 A0 5 0 c ∗ G2 A0 5 1 c ∗ G1 5 2 c ∗ R) ⊢ WP c (k r) Q) :
    iprop(invs A0 K ∗ levAts L lv ∗ OW c 16 ∗ G1 5 0 c ∗ B A0 5 1 c ∗ B A0 5 2 c ∗ R)
      ⊢ WP c (k0_part29 a0 w0 a1 w1 a2 w2 a3 w3 a4 w4 outM w5 a6 w6 cM0 w7 cM1 w8 cM2 w9 cc0_scratch4 cc0_scratch5 c v0 v1 >>= k) Q := by
  rw [k0_part29_eq_skeleton]; unfold k0_part29_skel
  simp only [Prog.lift, Prog.bind_op, Prog.bind_ret, Prog.pure_eq_ret]
  iintro ⟨#HI, #HL, HO, S0, S1, S2, HR⟩
  iapply (sendG A0 K (s := 5) (p := 1) (i := 16) (by decide) (by decide) rfl (n := 160) (by decide)
    (off26 c) (col26 c) (off26 c) (col26 c) (dev20 c) (by decide) (by decide) (credit_out.trans (by decide))) $$ [HO S1]
  · isplitr; · iexact HI
    isplitl [HO]; · iexact HO
    iexact S1
  iintro ⟨HO, S1⟩
  iapply (sendG A0 K (s := 5) (p := 2) (i := 17) (by decide) (by decide) rfl (n := 160) (by decide)
    (off27 c) (col27 c) (off27 c) (col27 c) (dev21 c) (by decide) (by decide) (credit_out.trans (by decide))) $$ [HO S2]
  · isplitr; · iexact HI
    isplitl [HO]; · iexact HO
    iexact S2
  iintro ⟨HO, S2⟩
  iapply (waitSG A0 K (s := 5) (p := 0) (i := 18) (by decide) (by decide) rfl (by decide) ((credit_out (n := 192)).trans (by decide))) $$ [HO S0]
  · isplitr; · iexact HI
    isplitr; · iexact HL
    isplitl [HO]; · iexact HO
    iexact S0
  iintro ⟨HO, S0⟩
  iapply (waitRG A0 K (s := 5) (p := 0) (i := 18) (by decide) (by decide) rfl (by decide) ((credit_out (n := 192)).trans (by decide))) $$ [HO S0]
  · isplitr; · iexact HI
    isplitr; · iexact HL
    isplitl [HO]; · iexact HO
    iexact S0
  iintro ⟨HO, S0⟩
  iapply (waitSG A0 K (s := 5) (p := 1) (i := 18) (by decide) (by decide) rfl (by decide) ((credit_out (n := 160)).trans (by decide))) $$ [HO S1]
  · isplitr; · iexact HI
    isplitr; · iexact HL
    isplitl [HO]; · iexact HO
    iexact S1
  iintro ⟨HO, S1⟩
  iapply (hk _)
  isplitr; · iexact HI
  isplitr; · iexact HL
  isplitl [HO]; · iexact HO
  isplitl [S0]; · iexact S0
  isplitl [S1]; · iexact S1
  isplitl [S2]; · iexact S2
  iexact HR

end Cert.KernelIdeal.Cube

end
-- ==== Proof.Fill.lean ====
/-
# Between the attention and the exchange, and after the exchange

The last head is stored, the context is multiplied with the output weights, and the product becomes the device's own addend: three
parts of rows, each with what its first step needs. After the last step the three parts are put together again.
-/
module

public import proofs.«01_k».proof.Proof.HeadRun
public import proofs.«01_k».proof.Proof.Steps

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

/-! ## Values -/

/-- The device's own addend: context times output weights. -/
def prodV (fx : S1024x768.Idx → Elt F .f32) (fw : S768x512.Idx → Elt F .f32) (fk fv : S2x8x512x64.Idx → Elt F .f32)
    (fo : S512x768.Idx → Elt F .f32) : S1024x768.Idx → Elt F .f32 := k0_pay33 (ctxV fx fw fk fv) fo

/-- The reduced table as the output window's contents. -/
def sumV (A0 : Dev nD → Tab F) : S1024x768.Idx → Elt F .f32 := fill (N := 1024) fun r j => Rp A0 (part r) r j

/-! ## The rows of the output window -/

section Rows

variable (A0 : Dev nD → Tab F) (c : Dev nD)

theorem out_whole (f : S1024x768.Idx → Elt F .f32) (g : Tab F) (h : f = fill (N := 1024) g) :
    (outM.view.loc (c : Thread nD τ) ↦{fullShare} f : sProp 𝕄) = blk outM c 0 1024 g := by
  rw [← blk_of outM c 0 1024 f g fun x _ => by rw [← h]; rfl, band_all, View.setOn_whole_univ]

theorem out_split (g : Tab F) : (blk outM c 0 1024 g : sProp 𝕄)
    ⊢ iprop(blk outM c (base 0) (8 * unit 0) g ∗ blk outM c (base 1) (8 * unit 1) g ∗ blk outM c (base 2) (8 * unit 2) g) := by
  refine (blk_cut outM c (a := 0) (b := 384) (n := 384) (n' := 640) g rfl).trans ?_
  exact BIClass.sep_mono .rfl (blk_cut outM c (a := 384) (b := 704) (n := 320) (n' := 320) g rfl)

theorem out_join (g : Tab F) : iprop(blk outM c 0 384 g ∗ blk outM c 384 320 g ∗ blk outM c 704 320 g) ⊢ (blk outM c 0 1024 g : sProp 𝕄) := by
  refine BI.Entails.trans (BIClass.sep_mono .rfl (blk_glue outM c (a := 384) (b := 704) (n := 320) (n' := 320) g rfl)) ?_
  exact blk_glue outM c (a := 0) (b := 384) (n := 384) (n' := 640) g rfl

theorem mine_zero (p : Fin 3) : (mine A0 0 p c : sProp 𝕄) = blk outM c (base p) (8 * unit p) (A0 c) := by
  unfold mine; rw [if_pos (by decide)]; rfl

theorem mine_last (p : Fin 3) : (mine A0 6 p c : sProp 𝕄) = blk outM c (base p) (8 * unit p) (fun r j => Rp A0 (part r) r j) := by
  unfold mine; rw [if_neg (by decide)]
  refine blk_congr (a := base p) (n := 8 * unit p) _ _ fun r j h₁ h₂ => ?_
  rw [part_of_mem p h₁ h₂]

/-- What a device holds for part `p` before the first step, beside its rows and the mate's word. -/
def held (p : Fin 3) : sProp 𝕄 :=
  iprop(posS 0 p c ∗ posR 0 p c ∗ tk p c 6 ∗ lo p c 0 ∗ evid 0 p c)

theorem start (f : S1024x768.Idx → Elt F .f32) (hA : A0 c = tabOf outM c f) :
    iprop((held c 0 ∗ held c 1 ∗ held c 2) ∗ (ready 0 0 c ∗ ready 0 1 c ∗ ready 0 2 c) ∗ (outM.view.loc (c : Thread nD τ) ↦{fullShare} f))
      ⊢ iprop(B A0 0 0 c ∗ B A0 0 1 c ∗ B A0 0 2 c) := by
  have hf : f = fill (N := 1024) (A0 c) := by rw [hA, fill_tabOf]; rfl
  rw [out_whole c f (A0 c) hf]
  unfold held B loc
  iintro ⟨⟨⟨S0, R0, T0, L0, E0⟩, ⟨S1, R1, T1, L1, E1⟩, ⟨S2, R2, T2, L2, E2⟩⟩, ⟨Y0, Y1, Y2⟩, HM⟩
  ihave HM := (out_split c (A0 c)) $$ HM
  icases HM with ⟨M0, M1, M2⟩
  ihave HE := (giveAll (F := F) (s := 0) (by decide) c) $$ [E0 E1 E2]
  · isplitl [E0]; · iexact E0
    isplitl [E1] <;> iassumption
  icases HE with ⟨E0, E1, E2⟩
  isplitl [S0 R0 T0 L0 M0 E0 Y0]
  · isplitr [E0 Y0]
    · isplitl [S0]; · iexact S0
      isplitl [R0]; · iexact R0
      isplitl [T0]; · iexact T0
      isplitr; · iapply (Entails.of_eq (show iprop(emp) = (backs 0 c (bk 0) : sProp 𝕄) from rfl)); iempintro
      isplitl [L0]; · iexact L0
      iapply (Entails.of_eq (mine_zero A0 c 0).symm) $$ M0
    isplitl [E0] <;> iassumption
  isplitl [S1 R1 T1 L1 M1 E1 Y1]
  · isplitr [E1 Y1]
    · isplitl [S1]; · iexact S1
      isplitl [R1]; · iexact R1
      isplitl [T1]; · iexact T1
      isplitr; · iapply (Entails.of_eq (show iprop(emp) = (backs 1 c (bk 0) : sProp 𝕄) from rfl)); iempintro
      isplitl [L1]; · iexact L1
      iapply (Entails.of_eq (mine_zero A0 c 1).symm) $$ M1
    isplitl [E1] <;> iassumption
  isplitr [E2 Y2]
  · isplitl [S2]; · iexact S2
    isplitl [R2]; · iexact R2
    isplitl [T2]; · iexact T2
    isplitr; · iapply (Entails.of_eq (show iprop(emp) = (backs 2 c (bk 0) : sProp 𝕄) from rfl)); iempintro
    isplitl [L2]; · iexact L2
    iapply (Entails.of_eq (mine_zero A0 c 2).symm) $$ M2
  isplitl [E2] <;> iassumption

/-- What is left of part `p` after the last step, beside its rows. -/
def spent (p : Fin 3) : sProp 𝕄 := iprop(posS 6 p c ∗ posR 6 p c ∗ commAny p c 0 (8 * unit p))

theorem finish_part (p : Fin 3) : G3 A0 5 p c ⊢ iprop(spent c p ∗ blk outM c (base p) (8 * unit p) (fun r j => Rp A0 (part r) r j)) := by
  unfold G3 spent
  iintro ⟨HS, HR, -, -, HL, HM, -⟩
  isplitr [HM]
  · isplitl [HS]; · iexact HS
    isplitl [HR]; · iexact HR
    iapply (Entails.of_eq (lo_all (F := F) p c (s := 5) (by decide))) $$ HL
  iapply (Entails.of_eq (mine_last A0 c p)) $$ HM

theorem finish : iprop(G3 A0 5 0 c ∗ G3 A0 5 1 c ∗ G3 A0 5 2 c)
    ⊢ iprop((spent c 0 ∗ spent c 1 ∗ spent c 2) ∗ (outM.view.loc (c : Thread nD τ) ↦{fullShare} sumV A0)) := by
  refine (BIClass.sep_mono (finish_part A0 c 0) (BIClass.sep_mono (finish_part A0 c 1) (finish_part A0 c 2))).trans ?_
  rw [out_whole c (sumV A0) (fun r j => Rp A0 (part r) r j) rfl]
  iintro ⟨⟨S0, M0⟩, ⟨S1, M1⟩, S2, M2⟩
  isplitl [S0 S1 S2]
  · isplitl [S0]; · iexact S0
    isplitl [S1] <;> iassumption
  iapply (out_join c _)
  isplitl [M0]; · iexact M0
  isplitl [M1]; · iexact M1
  iexact M2

end Rows

/-! ## The last head, the product and the first copy -/

section Last

variable (A0 : Dev nD → Tab F) (K : GSem nD τ sig → ℕ) (c : Dev nD) {α : Type}
  (fx : S1024x768.Idx → Elt F .f32) (fw : S768x512.Idx → Elt F .f32) (fk fv : S2x8x512x64.Idx → Elt F .f32) (fo : S512x768.Idx → Elt F .f32)
  {w0 : (xM : Memref sig .tc .vmem S1024x768 .f32).IsWhole} {w1 : (wM : Memref sig .tc .vmem S768x512 .f32).IsWhole}
  {w2 : (kM : Memref sig .tc .vmem S2x8x512x64 .f32).IsWhole} {w3 : (vM : Memref sig .tc .vmem S2x8x512x64 .f32).IsWhole}
  {w4 : (oM : Memref sig .tc .vmem S512x768 .f32).IsWhole} {w5 : (outM : Memref sig .tc .vmem S1024x768 .f32).IsWhole}
  {w6 : (ctxM : Memref sig .tc .vmem S1024x512 .f32).IsWhole} {w7 : (cM0 : Memref sig .tc .vmem S384x768 .f32).IsWhole}
  {w8 : (cM1 : Memref sig .tc .vmem S320x768 .f32).IsWhole} {w9 : (cM2 : Memref sig .tc .vmem S320x768 .f32).IsWhole}

theorem ctx_full : ctxIs fx fw fk fv c 16 ⊢ (ctxM.view.loc (c : Thread nD τ) ↦{fullShare} ctxV fx fw fk fv : sProp 𝕄) := by
  unfold ctxIs
  iintro ⟨%f, %hf, Hc⟩
  obtain rfl : f = ctxV fx fw fk fv := funext fun i => hf i (tileNo_lt i)
  iexact Hc

/-- A store over the whole output window leaves what was stored. -/
theorem storeOut {off : Fin 2 → ℕ} {inb : ∀ a, off a + S1024x768.size a ≤ S1024x768.size a} (ho : ∀ a, off a = 0)
    (w f : S1024x768.Idx → Elt F .f32) {hx hm} {k : PUnit → Prog (TpuEff nD τ sig (Elt F) Λ₀ .tc) α} {Q : α → sProp 𝕄} :
    (outM.view.loc (c : Thread nD τ) ↦{fullShare} f)
      ⊢ iprop(((outM.view.loc (c : Thread nD τ) ↦{fullShare} w) -∗ WP c (k ⟨⟩) Q)
        -∗ WP c (.op (.store outM (Rect.unit (s := S1024x768) off S1024x768.size inb) w Finset.univ hx hm) k) Q) := by
  have he : (outM.access (Rect.unit (s := S1024x768) off S1024x768.size inb)).write (Elt F) f w Finset.univ = w := by
    funext i
    have hi : (Rect.unit (s := S1024x768) off S1024x768.size inb).emb i = i := by
      funext a
      refine Fin.ext ((Rect.emb_apply _ _ _).trans ?_)
      show off a + 1 * (i a).val = (i a).val
      rw [ho a]; omega
    have hwr := View.write_emb_of_mem (v := outM.access (Rect.unit (s := S1024x768) off S1024x768.size inb)) (Val := Elt F) f w
      (Finset.mem_univ i)
    have hidx : (outM.access (Rect.unit (s := S1024x768) off S1024x768.size inb)).emb i = i := hi
    rw [hidx] at hwr
    exact hwr
  iintro Hc Hk
  iapply (wp_store 𝒱₀ (c : Thread nD τ) none Set.univ (m := outM) (r := Rect.unit (s := S1024x768) off S1024x768.size inb) (S := Finset.univ)
    (Finset.subset_univ _)) $$ Hc
  iintro Hc
  iapply Hk
  iapply (Entails.of_eq (congrArg (fun g : S1024x768.Idx → Elt F .f32 => (outM.view.loc (c : Thread nD τ) ↦{fullShare} g : sProp 𝕄)) he)) $$ Hc

theorem run15 {k : _ → Prog (TpuEff nD τ sig (Elt F) Λ₀ .tc) α} {Q : α → sProp 𝕄} (R : sProp 𝕄) (v0 v1 v2 v3 : BitVec 32)
    (hA : A0 c = tabOf outM c (prodV fx fw fk fv fo)) (f5 : S1024x768.Idx → Elt F .f32)
    (hk : ∀ r, iprop(invs A0 K ∗ levAts L lv ∗ OW c 1 ∗ H1 A0 0 0 c ∗ B A0 0 1 c ∗ B A0 0 2 c
        ∗ ins c fx fw fk fv ∗ (oM.view.loc (c : Thread nD τ) ↦{fullShare} fo) ∗ (ctxM.view.loc (c : Thread nD τ) ↦{fullShare} ctxV fx fw fk fv) ∗ R)
      ⊢ WP c (k r) Q) :
    iprop(ins c fx fw fk fv ∗ ctxIs fx fw fk fv c 15 ∗ (oM.view.loc (c : Thread nD τ) ↦{fullShare} fo) ∗ (outM.view.loc (c : Thread nD τ) ↦{fullShare} f5)
        ∗ invs A0 K ∗ levAts L lv ∗ OW c 0 ∗ (held c 0 ∗ held c 1 ∗ held c 2) ∗ (ready 0 0 c ∗ ready 0 1 c ∗ ready 0 2 c) ∗ R)
      ⊢ WP c (k0_part15 xM w0 wM w1 kM w2 vM w3 oM w4 outM w5 ctxM w6 cM0 w7 cM1 w8 cM2 w9 cc0_scratch4 cc0_scratch5 c v0 v1 v2 v3
          (k0_pay31 maskV (k0_pay5 fx fw) (keyT fk 15) (keyT fv 15)) >>= k) Q := by
  rw [k0_part15_eq_skeleton]; unfold k0_part15_skel
  simp only [Prog.lift, Prog.bind_op, Prog.bind_ret, Prog.pure_eq_ret]
  iintro ⟨HI, HC, HO, HF, #HK, #HL, HW, HH, HY, HR⟩
  iapply (loadTile fx fw fk fv c 15) $$ HC; iintro %_ HC
  iapply (storeTile fx fw fk fv c 15 15 rfl rfl rfl rfl) $$ HC; iintro HC
  ihave HC := (ctx_full c fx fw fk fv) $$ HC
  iapply (loadAll c ctxM _ (by decide)) $$ HC; iintro HC
  iapply (loadAll c oM _ (by decide)) $$ HO; iintro HO
  iapply (loadAll c outM _ (by decide)) $$ HF; iintro HF
  iapply (storeOut c (by decide) (prodV fx fw fk fv fo) f5) $$ HF; iintro HF
  ihave HB := (start A0 c _ hA) $$ [HH HY HF]
  · isplitl [HH]; · iexact HH
    isplitl [HY]; · iexact HY
    iexact HF
  icases HB with ⟨B0, B1, B2⟩
  iapply (sendH A0 K (s := 0) (p := 0) (i := 0) (by decide) rfl cM0 (fun _ _ _ _ => rfl) (fun _ _ _ => rfl) (n := 192) (by decide)
    (off1 c) (col1 c) (by decide) (by decide) (dev4 c) (by decide) (by decide) (by decide)) $$ [HW B0]
  · isplitr; · iexact HK
    isplitl [HW]; · iexact HW
    iexact B0
  iintro ⟨HW, B0⟩
  iapply (hk _)
  isplitr; · iexact HK
  isplitr; · iexact HL
  isplitl [HW]; · iexact HW
  isplitl [B0]; · iexact B0
  isplitl [B1]; · iexact B1
  isplitl [B2]; · iexact B2
  isplitl [HI]; · iexact HI
  isplitl [HO]; · iexact HO
  isplitl [HC]; · iexact HC
  iexact HR

end Last

end Cert.KernelIdeal.Cube

end
-- ==== Proof.Body.lean ====
/-
# The whole body on one device
-/
module

public import proofs.«01_k».proof.Proof.Open
public import proofs.«01_k».proof.Proof.Fill

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

section Whole

variable (A0 : Dev nD → Tab F) (K : GSem nD τ sig → ℕ) (c : Dev nD)
  (fx : S1024x768.Idx → Elt F .f32) (fw : S768x512.Idx → Elt F .f32) (fk fv : S2x8x512x64.Idx → Elt F .f32) (fo : S512x768.Idx → Elt F .f32)
  {w0 : (xM : Memref sig .tc .vmem S1024x768 .f32).IsWhole} {w1 : (wM : Memref sig .tc .vmem S768x512 .f32).IsWhole}
  {w2 : (kM : Memref sig .tc .vmem S2x8x512x64 .f32).IsWhole} {w3 : (vM : Memref sig .tc .vmem S2x8x512x64 .f32).IsWhole}
  {w4 : (oM : Memref sig .tc .vmem S512x768 .f32).IsWhole} {w5 : (outM : Memref sig .tc .vmem S1024x768 .f32).IsWhole}
  {w6 : (ctxM : Memref sig .tc .vmem S1024x512 .f32).IsWhole} {w7 : (cM0 : Memref sig .tc .vmem S384x768 .f32).IsWhole}
  {w8 : (cM1 : Memref sig .tc .vmem S320x768 .f32).IsWhole} {w9 : (cM2 : Memref sig .tc .vmem S320x768 .f32).IsWhole}

/-- The output weights' buffer and the context's. -/
def kept2 : sProp 𝕄 :=
  iprop((oM.view.loc (c : Thread nD τ) ↦{fullShare} fo) ∗ (ctxM.view.loc (c : Thread nD τ) ↦{fullShare} ctxV fx fw fk fv))

/-- What the body leaves on a device, beside what it read. -/
def left : sProp 𝕄 :=
  iprop(OW c 18 ∗ atPos ER (barCell c) 1 ∅ 0 ∗ (spent c 0 ∗ spent c 1 ∗ spent c 2) ∗ (outM.view.loc (c : Thread nD τ) ↦{fullShare} sumV A0))

theorem body_run {Q : PUnit → sProp 𝕄} (hA : A0 c = tabOf outM c (prodV fx fw fk fv fo))
    (f5 : S1024x768.Idx → Elt F .f32) (f6 : S1024x512.Idx → Elt F .f32) (R : sProp 𝕄)
    (hQ : iprop(left A0 c ∗ ins c fx fw fk fv ∗ kept2 c fx fw fk fv fo ∗ R) ⊢ iprop(|={Set.univ}=> Q ⟨⟩)) :
    iprop(invs A0 K ∗ levAts L lv ∗ OB c 3 ∗ sg c 0 ∗ sg c 1 ∗ sg c 2 ∗ bw c ∗ (held c 0 ∗ held c 1 ∗ held c 2)
        ∗ ins c fx fw fk fv ∗ (oM.view.loc (c : Thread nD τ) ↦{fullShare} fo) ∗ (ctxM.view.loc (c : Thread nD τ) ↦{fullShare} f6)
        ∗ (outM.view.loc (c : Thread nD τ) ↦{fullShare} f5) ∗ R)
      ⊢ WP c (cc0_body xM w0 wM w1 kM w2 vM w3 oM w4 outM w5 ctxM w6 cM0 w7 cM1 w8 cM2 w9 cc0_scratch4 cc0_scratch5) Q := by
  rw [cc0_body_eq_skeleton]; unfold cc0_body_skel
  rw [k0_part30_eq_skeleton]; unfold k0_part30_skel
  simp only [bind_assoc]
  refine run1 c _ fun u1 u2 u3 u4 u5 u6 u7 => ?_
  simp only [bind_assoc]
  refine run2 A0 K c _ _ _ _ _ fun u1 u2 u3 => ?_
  simp only [bind_assoc]
  refine run3 A0 K c _ _ ?_
  simp only [bind_assoc]
  refine BI.Entails.trans (show _ ⊢ iprop(ins c fx fw fk fv ∗ ctxIs fx fw fk fv c 0
      ∗ ((oM.view.loc (c : Thread nD τ) ↦{fullShare} fo) ∗ (outM.view.loc (c : Thread nD τ) ↦{fullShare} f5)
        ∗ invs A0 K ∗ levAts L lv ∗ OW c 0 ∗ (held c 0 ∗ held c 1 ∗ held c 2) ∗ (ready 0 0 c ∗ ready 0 1 c ∗ ready 0 2 c)
        ∗ (atPos ER (barCell c) 1 ∅ 0 ∗ R))) from ?_) ?_
  · unfold bd
    iintro ⟨#HI, #HL, HO, ⟨Hb, Y0, Y1, Y2⟩, HH, Hins, HW, HC, HF, HR⟩
    ihave HC := (show (ctxM.view.loc (c : Thread nD τ) ↦{fullShare} f6 : sProp 𝕄) ⊢ ctxIs fx fw fk fv c 0 by
      unfold ctxIs; iintro H; iexists f6; isplitr; · ipureintro; exact fun i h => absurd h (Nat.not_lt_zero _)
      iexact H) $$ HC
    isplitl [Hins]; · iexact Hins
    isplitl [HC]; · iexact HC
    isplitl [HW]; · iexact HW
    isplitl [HF]; · iexact HF
    isplitr; · iexact HI
    isplitr; · iexact HL
    isplitl [HO]; · iexact HO
    isplitl [HH]; · iexact HH
    isplitl [Y0 Y1 Y2]
    · isplitl [Y0]; · iexact Y0
      isplitl [Y1] <;> iassumption
    isplitl [Hb] <;> iassumption
  refine run4 c fx fw fk fv _ ?_
  refine run5 c fx fw fk fv _ ?_
  refine run6 c fx fw fk fv _ ?_
  refine run7 c fx fw fk fv _ ?_
  refine run8 c fx fw fk fv _ ?_
  refine run9 c fx fw fk fv _ ?_
  refine run10 c fx fw fk fv _ ?_
  refine run11 c fx fw fk fv _ ?_
  refine run12 c fx fw fk fv _ ?_
  refine run13 c fx fw fk fv _ ?_
  refine run14 c fx fw fk fv _ ?_
  refine run15 A0 K c fx fw fk fv fo _ _ _ _ _ hA f5 fun r => ?_
  refine run16 A0 K c _ _ _ _ fun r => ?_
  refine run17 A0 K c _ _ _ _ fun r => ?_
  refine run18 A0 K c _ _ _ _ _ _ _ _ fun r => ?_
  refine run19 A0 K c _ _ _ _ _ _ fun r => ?_
  refine run20 A0 K c _ _ _ _ fun r => ?_
  refine run21 A0 K c _ _ _ _ _ _ _ _ fun r => ?_
  refine run22 A0 K c _ _ _ _ _ _ _ _ _ fun r => ?_
  refine run23 A0 K c _ _ _ _ fun r => ?_
  refine run24 A0 K c _ _ _ _ _ _ _ fun r => ?_
  refine run25 A0 K c _ _ _ _ _ _ _ fun r => ?_
  refine run26 A0 K c _ _ _ _ _ _ fun r => ?_
  refine run27 A0 K c _ _ _ _ _ _ _ fun r => ?_
  refine run28 A0 K c _ _ _ _ fun r => ?_
  refine run29 A0 K c _ _ _ fun r => ?_
  simp only [Prog.lift, Prog.bind_op, Prog.bind_ret, Prog.pure_eq_ret, wp_ret]
  iintro ⟨#HI, #HL, HO, S0, S1, S2, HR⟩
  iapply (waitRG A0 K (s := 5) (p := 1) (i := 18) (by decide) (by decide) rfl (by decide) ((credit_out (n := 160)).trans (by decide))) $$ [HO S1]
  · isplitr; · iexact HI
    isplitr; · iexact HL
    isplitl [HO]; · iexact HO
    iexact S1
  iintro ⟨HO, S1⟩
  iapply (waitSG A0 K (s := 5) (p := 2) (i := 18) (by decide) (by decide) rfl (by decide) ((credit_out (n := 160)).trans (by decide))) $$ [HO S2]
  · isplitr; · iexact HI
    isplitr; · iexact HL
    isplitl [HO]; · iexact HO
    iexact S2
  iintro ⟨HO, S2⟩
  iapply (waitRG A0 K (s := 5) (p := 2) (i := 18) (by decide) (by decide) rfl (by decide) ((credit_out (n := 160)).trans (by decide))) $$ [HO S2]
  · isplitr; · iexact HI
    isplitr; · iexact HL
    isplitl [HO]; · iexact HO
    iexact S2
  iintro ⟨HO, S2⟩
  rw [WP, Idealize.SL.Sem.wp_ret]
  ihave HF := (finish A0 c) $$ [S0 S1 S2]
  · isplitl [S0]; · iexact S0
    isplitl [S1] <;> iassumption
  icases HF with ⟨HS, HF⟩
  icases HR with ⟨Hins, HW, HC, Hb, HR⟩
  iapply hQ
  isplitl [HO Hb HS HF]
  · unfold left
    isplitl [HO]; · iexact HO
    isplitl [Hb]; · iexact Hb
    isplitl [HS]; · iexact HS
    iexact HF
  isplitl [Hins]; · iexact Hins
  isplitl [HW HC]
  · unfold kept2
    isplitl [HW] <;> iassumption
  iexact HR

end Whole

end Cert.KernelIdeal.Cube

end
-- ==== Proof.Cells.lean ====
/-
# The twelve copy semaphores and the landing buffers, at the start and at the end of the body
-/
module

public import proofs.«01_k».proof.Proof.Gen.KernelIdeal.Launch
public import proofs.«01_k».proof.Proof.Body

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

/-! # A device's twelve copy semaphores: opened when the kernel starts, closed when its body ends

The kernel's own semaphores are at zero when it starts and must be at zero when it ends. Opening one gives the device
its position on it; when the last of its rounds is done the position gives the counter back. -/

section Cells

variable (A0 : Dev nD → Tab F) (K : GSem nD τ sig → ℕ) (c : Dev nD)

theorem twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- A resource for each of a part's four semaphores. -/
def quad (Φ : SemLoc sig → sProp 𝕄) (p : Fin 3) : sProp 𝕄 :=
  iprop(Φ (.dma (sendS p 0)) ∗ Φ (.dma (sendS p 1)) ∗ Φ (.dma (recvS p 0)) ∗ Φ (.dma (recvS p 1)))

/-- The twelve, part by part. -/
theorem by_part (Φ : SemLoc sig → sProp 𝕄) :
    (bigSep Finset.univ fun k : Fin 12 => Φ (osem k)) ⊣⊢ iprop(quad Φ 0 ∗ quad Φ 1 ∗ quad Φ 2) := by
  rw [twelve]
  have h : (iprop(Φ (osem 0) ∗ Φ (osem 1) ∗ Φ (osem 2) ∗ Φ (osem 3) ∗ Φ (osem 4) ∗ Φ (osem 5) ∗ Φ (osem 6) ∗ Φ (osem 7) ∗ Φ (osem 8)
        ∗ Φ (osem 9) ∗ Φ (osem 10) ∗ Φ (osem 11)) : sProp 𝕄)
      = iprop(Φ (.dma (sendS 0 0)) ∗ Φ (.dma (sendS 0 1)) ∗ Φ (.dma (sendS 1 0)) ∗ Φ (.dma (sendS 1 1)) ∗ Φ (.dma (sendS 2 0)) ∗ Φ (.dma (sendS 2 1))
        ∗ Φ (.dma (recvS 0 0)) ∗ Φ (.dma (recvS 0 1)) ∗ Φ (.dma (recvS 1 0)) ∗ Φ (.dma (recvS 1 1)) ∗ Φ (.dma (recvS 2 0)) ∗ Φ (.dma (recvS 2 1))) := rfl
  rw [h]
  unfold quad
  constructor
  · iintro ⟨a0, a1, b0, b1, c0, c1, r0, r1, s0, s1, t0, t1⟩
    isplitl [a0 a1 r0 r1]
    · isplitl [a0]; · iexact a0
      isplitl [a1]; · iexact a1
      isplitl [r0] <;> iassumption
    isplitl [b0 b1 s0 s1]
    · isplitl [b0]; · iexact b0
      isplitl [b1]; · iexact b1
      isplitl [s0] <;> iassumption
    isplitl [c0]; · iexact c0
    isplitl [c1]; · iexact c1
    isplitl [t0] <;> iassumption
  · iintro ⟨⟨a0, a1, r0, r1⟩, ⟨b0, b1, s0, s1⟩, c0, c1, t0, t1⟩
    isplitl [a0]; · iexact a0
    isplitl [a1]; · iexact a1
    isplitl [b0]; · iexact b0
    isplitl [b1]; · iexact b1
    isplitl [c0]; · iexact c0
    isplitl [c1]; · iexact c1
    isplitl [r0]; · iexact r0
    isplitl [r1]; · iexact r1
    isplitl [s0]; · iexact s0
    isplitl [s1]; · iexact s1
    isplitl [t0] <;> iassumption

/-- A semaphore opened: the position at its first round, and that the round is reached. -/
def opn (sm : SemLoc sig) : sProp 𝕄 :=
  iprop(atPos ER ((c : Thread nD τ), sm) 0 ∅ 0 ∗ reached ER ((c : Thread nD τ), sm) 0)
def shut (sm : SemLoc sig) : sProp 𝕄 := openTok ER ((c : Thread nD τ), sm)
def zero (sm : SemLoc sig) : sProp 𝕄 := semVal ((c : Thread nD τ), sm) 0

theorem open_part (p : Fin 3) : iprop(invs A0 K ∗ quad (shut c) p ∗ quad (zero c) p) ⊢ (iprop(|={Set.univ}=> quad (opn c) p) : sProp 𝕄) := by
  unfold quad shut zero opn
  iintro ⟨#HI, ⟨t0, t1, t2, t3⟩, v0, v1, v2, v3⟩
  ihave #I0 := (inv_send A0 K c p 0) $$ HI
  ihave #I1 := (inv_send A0 K c p 1) $$ HI
  ihave #I2 := (inv_recv A0 K c p 0) $$ HI
  ihave #I3 := (inv_recv A0 K c p 1) $$ HI
  imod (Rounds.cell_open ER (sched A0) (g := sendCell c p 0) (κ := K (sendCell c p 0)) (Set.mem_univ _)) $$ [t0 v0] with H0
  · isplitr; · iexact I0
    isplitl [t0] <;> iassumption
  imod (Rounds.cell_open ER (sched A0) (g := sendCell c p 1) (κ := K (sendCell c p 1)) (Set.mem_univ _)) $$ [t1 v1] with H1
  · isplitr; · iexact I1
    isplitl [t1] <;> iassumption
  imod (Rounds.cell_open ER (sched A0) (g := recvCell c p 0) (κ := K (recvCell c p 0)) (Set.mem_univ _)) $$ [t2 v2] with H2
  · isplitr; · iexact I2
    isplitl [t2] <;> iassumption
  imod (Rounds.cell_open ER (sched A0) (g := recvCell c p 1) (κ := K (recvCell c p 1)) (Set.mem_univ _)) $$ [t3 v3] with H3
  · isplitr; · iexact I3
    isplitl [t3] <;> iassumption
  imodintro
  isplitl [H0]; · iexact H0
  isplitl [H1]; · iexact H1
  isplitl [H2] <;> iassumption

theorem peer_mate (p : Fin 3) : peer 0 p (mate p c) = c := by revert p c; decide +kernel

/-- A part's opened semaphores, its rights and its landing buffer make what its steps start from, and the offer to its first mate. -/
theorem seed (p : Fin 3) : iprop(quad (opn c) p ∗ tk p c 6 ∗ commAny p c 0 (8 * unit p)) ⊢ (iprop(held c p ∗ ready 0 p (mate p c)) : sProp 𝕄) := by
  have hu : 8 * unit p = 4 * unit p + (2 * unit p + 2 * unit p) := by omega
  unfold quad opn held posS posR evid ready
  rw [peer_mate, lo_zero, hu, if_pos (show 0 + 1 < 3 by omega), if_pos (show 0 < 3 by omega), show slotOff (0 + 1) p = 4 * unit p from rfl,
    show slotOff 0 p = 0 from rfl, show hg (0 + 1) p = 2 * unit p from rfl, show hg 0 p = 4 * unit p from rfl]
  iintro ⟨⟨⟨a0, #r0⟩, ⟨a1, #r1⟩, ⟨a2, #r2⟩, a3, #r3⟩, Ht, HC⟩
  ihave HC := (commAny_cut (F := F) p c (a := 0) (b := 4 * unit p) (n := 4 * unit p) (n' := 2 * unit p + 2 * unit p) (by omega)) $$ HC
  icases HC with ⟨HA, HC⟩
  ihave HC := (commAny_cut (F := F) p c (a := 4 * unit p) (b := 6 * unit p) (n := 2 * unit p) (n' := 2 * unit p) (by omega)) $$ HC
  icases HC with ⟨HB, HC⟩
  isplitr [HA]
  · isplitl [a0 a1]
    · isplitl [a0]; · iexact a0
      isplitl [a1]; · iexact a1
      isplitr; · iexact r0
      iexact r1
    isplitl [a2 a3]
    · isplitl [a2]; · iexact a2
      iexact a3
    isplitl [Ht]; · iexact Ht
    isplitl [HC]; · iexact HC
    isplitr; · iexact r3
    iexact HB
  · isplitr; · iexact r2
    iexact HA

theorem close_part (p : Fin 3) : iprop(invs A0 K ∗ spent c p) ⊢ (iprop(|={Set.univ}=> (quad (zero c) p ∗ commAny p c 0 (8 * unit p))) : sProp 𝕄) := by
  unfold quad zero spent posS posR
  iintro ⟨#HI, ⟨a0, a1, -, -⟩, ⟨a2, a3⟩, HC⟩
  ihave #I0 := (inv_send A0 K c p 6) $$ HI
  ihave #I1 := (inv_send A0 K c p 7) $$ HI
  ihave #I2 := (inv_recv A0 K c p 6) $$ HI
  ihave #I3 := (inv_recv A0 K c p 7) $$ HI
  imod (Rounds.cell_close ER (sched A0) (g := sendCell c p 6) (κ := K (sendCell c p 6)) (Set.mem_univ _) (fun h => h) (R := 3) (duties_dma_later A0 c _)) $$ [a0] with H0
  · isplitr; · iexact I0
    iexact a0
  imod (Rounds.cell_close ER (sched A0) (g := sendCell c p 7) (κ := K (sendCell c p 7)) (Set.mem_univ _) (fun h => h) (R := 3) (duties_dma_later A0 c _)) $$ [a1] with H1
  · isplitr; · iexact I1
    iexact a1
  imod (Rounds.cell_close ER (sched A0) (g := recvCell c p 6) (κ := K (recvCell c p 6)) (Set.mem_univ _) (fun h => h) (R := 3) (duties_dma_later A0 c _)) $$ [a2] with H2
  · isplitr; · iexact I2
    iexact a2
  imod (Rounds.cell_close ER (sched A0) (g := recvCell c p 7) (κ := K (recvCell c p 7)) (Set.mem_univ _) (fun h => h) (R := 3) (duties_dma_later A0 c _)) $$ [a3] with H3
  · isplitr; · iexact I3
    iexact a3
  imodintro
  isplitr [HC]
  · isplitl [H0]; · iexact H0
    isplitl [H1]; · iexact H1
    isplitl [H2]; · iexact H2
    iexact H3
  iexact HC

theorem close_bar : iprop(invs A0 K ∗ atPos ER (barCell c) 1 ∅ 0) ⊢ (iprop(|={Set.univ}=> zero c (.reg barS)) : sProp 𝕄) := by
  unfold zero
  iintro ⟨#HI, a⟩
  ihave #I := (inv_bar A0 K c) $$ HI
  imod (Rounds.cell_close ER (sched A0) (g := barCell c) (κ := K (barCell c)) (Set.mem_univ _) (fun h => h) (R := 1) (duties_bar_later A0 c)) $$ [a] with H
  · isplitr; · iexact I
    iexact a
  imodintro
  iexact H

/-- A landing buffer with contents not chosen. -/
theorem whole_any {N : ℕ} (m : Memref sig .tc .vmem (Rows N) .f32) (h : m.view.setOn (band N 0 N) = Finset.univ) :
    (iprop(∃ f, m.view.loc (c : Thread nD τ) ↦{fullShare} f) : sProp 𝕄) ⊣⊢ blkAny m c 0 N := by
  constructor
  · iintro ⟨%f, H⟩
    iapply (any_of m c 0 N f)
    iapply (Entails.of_eq (by rw [h])) $$ H
  · unfold blkAny blk
    rw [h]
    iintro ⟨%g, H⟩
    iexists _
    iexact H

/-- The four buffers the body works in. -/
def desk : sProp 𝕄 :=
  iprop((∃ f, ctxM.view.loc (c : Thread nD τ) ↦{fullShare} f)
    ∗ commAny 0 c 0 (8 * unit 0) ∗ commAny 1 c 0 (8 * unit 1) ∗ commAny 2 c 0 (8 * unit 2))

theorem desk_eq : (Pipeline.scopedRest spec0 c : sProp 𝕄) ⊣⊢ desk c := by
  rw [Cert.KernelIdeal.Gen.scopedRest0_eq]
  have h0 := whole_any (F := F) c cM0 (by rw [band_all]; exact View.setOn_whole_univ _)
  have h1 := whole_any (F := F) c cM1 (by rw [band_all]; exact View.setOn_whole_univ _)
  have h2 := whole_any (F := F) c cM2 (by rw [band_all]; exact View.setOn_whole_univ _)
  exact ⟨BIClass.sep_mono .rfl (BIClass.sep_mono h0.1 (BIClass.sep_mono h1.1 h2.1)),
    BIClass.sep_mono .rfl (BIClass.sep_mono h0.2 (BIClass.sep_mono h1.2 h2.2))⟩

end Cells

end Cert.KernelIdeal.Cube

end
-- ==== Proof.Region.lean ====
/-
# The kernel's region: what it is entered with, its body's obligation, and what it leaves
-/
module

public import proofs.«01_k».proof.Proof.Cells
public import proofs.«01_k».proof.Proof.Gen.KernelIdeal.Regions
public import proofs.«01_k».proof.Proof.Gen.KernelIdeal.Points
public import Idealize.ShloMosaic.Lib.Pipeline.RegionTalk

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Cert.KernelIdeal Cert.KernelIdeal.Gen

variable {F : FTy → Type} [FloatOps F]
local notation "𝕄" => MT nD τ sig ℕ (Elt F) ℕ UU ℕ

section Region

variable (m : (ℓ : Loc nD τ sig) → Buf (Elt F) ℓ) (K : GSem nD τ sig → ℕ) (c : Dev nD)

/-! ## What the body reads -/

def inX : S1024x768.Idx → Elt F .f32 := ((cfg0.win 0).blk t0_0).view.read (Elt F) (V1 m c main_v17)
def inW : S768x512.Idx → Elt F .f32 := ((cfg0.win 1).blk t0_0).view.read (Elt F) (V1 m c (Pipeline.arrRef spec0 1))
def inK : S2x8x512x64.Idx → Elt F .f32 := ((cfg0.win 2).blk t0_0).view.read (Elt F) (V1 m c main_v15)
def inV : S2x8x512x64.Idx → Elt F .f32 := ((cfg0.win 3).blk t0_0).view.read (Elt F) (V1 m c main_v16)
def inO : S512x768.Idx → Elt F .f32 := ((cfg0.win 4).blk t0_0).view.read (Elt F) (V1 m c (Pipeline.arrRef spec0 4))

/-- The partial product of a device, as a table. -/
def AA (d : Dev nD) : Tab F := tabOf outM d (prodV (inX m d) (inW m d) (inK m d) (inV m d) (inO m d))

/-! ## Before and after the body -/

/-- What the launch keeps for the region on device `c`. -/
def bt (d : Fin 3) : sProp 𝕄 := iprop(dutyTok ER (barCell (mate d c)) 0 d ∗ reached ER (barCell (mate d c)) 0)
def rights : sProp 𝕄 := iprop((bt c 0 ∗ bt c 1 ∗ bt c 2) ∗ bw c ∗ tk 0 c 6 ∗ tk 1 c 6 ∗ tk 2 c 6)
def talk : sProp 𝕄 :=
  iprop(∃ K, invs (AA m) K ∗ levAts L lv ∗ (bigSep Finset.univ fun k : Fin 12 => shut c (osem k)) ∗ rights c)
def talking : sProp 𝕄 :=
  iprop(∃ K, invs (AA m) K ∗ levAts L lv ∗ (quad (opn c) 0 ∗ quad (opn c) 1 ∗ quad (opn c) 2) ∗ rights c)

theorem opens : iprop(talk m c ∗ Pipeline.ownSems0 osem c ∗ levAts L lv) ⊢ (iprop(|={Set.univ}=> talking m c) : sProp 𝕄) := by
  unfold talk talking
  iintro ⟨⟨%K, #HI, #HL, Ht, HR⟩, Hs, -⟩
  ihave Ht := (by_part (F := F) (shut c)).1 $$ Ht
  ihave Hs := (show (Pipeline.ownSems0 osem c : sProp 𝕄) ⊢ _ from (by_part (F := F) (zero c)).1) $$ Hs
  icases Ht with ⟨t0, t1, t2⟩
  icases Hs with ⟨s0, s1, s2⟩
  imod (open_part (AA m) K c 0) $$ [t0 s0] with o0
  · isplitr; · iexact HI
    isplitl [t0] <;> iassumption
  imod (open_part (AA m) K c 1) $$ [t1 s1] with o1
  · isplitr; · iexact HI
    isplitl [t1] <;> iassumption
  imod (open_part (AA m) K c 2) $$ [t2 s2] with o2
  · isplitr; · iexact HI
    isplitl [t2] <;> iassumption
  imodintro
  iexists K
  isplitr; · iexact HI
  isplitr; · iexact HL
  isplitr [HR]
  · isplitl [o0]; · iexact o0
    isplitl [o1] <;> iassumption
  iexact HR

def Φ₀ : sProp 𝕄 := iprop(desk c ∗ (∃ r, prngReg c r) ∗ talking m c)
def Φ₁ : sProp 𝕄 :=
  iprop(desk c ∗ (∃ r, prngReg c r) ∗ (quad (zero c) 0 ∗ quad (zero c) 1 ∗ quad (zero c) 2) ∗ zero c (.reg barS))

/-- The region's data: its arrays, what the body leaves in each window's buffer, what is held before and after, and what is owed. -/
def dat : Dat τ (Elt F) ℕ ℕ UU ℕ cfg0 c where
  A w := V1 m c (Proc.devRef .tc (Pipeline.arrRef spec0 w))
  after w _ := match w with
    | 0 => inX m c
    | 1 => inW m c
    | 2 => inK m c
    | 3 => inV m c
    | 4 => inO m c
    | 5 => sumV (AA m)
  Φ t := if t.val = 0 then Φ₀ m c else Φ₁ c
  q _ := fullShare
  owed t := if t.val = 0 then O₀ c else 0

abbrev pdats (p : Fin 1) (c : Dev nD) : Dat τ (Elt F) ℕ ℕ UU ℕ (cfgs p) c := match p with | 0 => dat m c

theorem before0 (t : Fin cfg0.N) (d : _) : (dat m c).before 0 t d = inX m c := by
  rw [fin_N0 t]; unfold Dat.before; rw [if_pos (fetch0_0 _)]; rfl
theorem before1 (t : Fin cfg0.N) (d : _) : (dat m c).before 1 t d = inW m c := by
  rw [fin_N0 t]; unfold Dat.before; rw [if_pos (fetch0_1 _)]; rfl
theorem before2 (t : Fin cfg0.N) (d : _) : (dat m c).before 2 t d = inK m c := by
  rw [fin_N0 t]; unfold Dat.before; rw [if_pos (fetch0_2 _)]; rfl
theorem before3 (t : Fin cfg0.N) (d : _) : (dat m c).before 3 t d = inV m c := by
  rw [fin_N0 t]; unfold Dat.before; rw [if_pos (fetch0_3 _)]; rfl
theorem before4 (t : Fin cfg0.N) (d : _) : (dat m c).before 4 t d = inO m c := by
  rw [fin_N0 t]; unfold Dat.before; rw [if_pos (fetch0_4 _)]; rfl

/-! ## The body -/

/-- What remains to be gathered when the body ends: the buffers it read, and what it leaves. -/
theorem wrap : iprop(invs (AA m) K ∗ left (AA m) c ∗ ins c (inX m c) (inW m c) (inK m c) (inV m c)
      ∗ kept2 c (inX m c) (inW m c) (inK m c) (inV m c) (inO m c) ∗ ∃ r, prngReg c r)
    ⊢ (iprop(|={Set.univ}=> (Φ₁ c ∗ OW c 18 ∗ (xM.view.loc (c : Thread nD τ) ↦{fullShare} inX m c) ∗ (wM.view.loc (c : Thread nD τ) ↦{fullShare} inW m c)
        ∗ (kM.view.loc (c : Thread nD τ) ↦{fullShare} inK m c) ∗ (vM.view.loc (c : Thread nD τ) ↦{fullShare} inV m c)
        ∗ (oM.view.loc (c : Thread nD τ) ↦{fullShare} inO m c) ∗ (outM.view.loc (c : Thread nD τ) ↦{fullShare} sumV (AA m)))) : sProp 𝕄) := by
  unfold left ins kept2 Φ₁ desk
  iintro ⟨#HI, ⟨HO, Hb, ⟨s0, s1, s2⟩, Hout⟩, ⟨Hx, Hw, Hk, Hv⟩, ⟨Ho, Hc⟩, Hp⟩
  imod (close_bar (AA m) K c) $$ [Hb] with Hb
  · isplitr; · iexact HI
    iexact Hb
  imod (close_part (AA m) K c 0) $$ [s0] with ⟨s0, m0⟩
  · isplitr; · iexact HI
    iexact s0
  imod (close_part (AA m) K c 1) $$ [s1] with ⟨s1, m1⟩
  · isplitr; · iexact HI
    iexact s1
  imod (close_part (AA m) K c 2) $$ [s2] with ⟨s2, m2⟩
  · isplitr; · iexact HI
    iexact s2
  imodintro
  isplitl [Hb s0 s1 s2 m0 m1 m2 Hc Hp]
  · isplitl [m0 m1 m2 Hc]
    · isplitl [Hc]; · iexists _; iexact Hc
      isplitl [m0]; · iexact m0
      isplitl [m1]; · iexact m1
      iexact m2
    isplitl [Hp]; · iexact Hp
    isplitl [s0 s1 s2]
    · isplitl [s0]; · iexact s0
      isplitl [s1]; · iexact s1
      iexact s2
    iexact Hb
  isplitl [HO]; · iexact HO
  isplitl [Hx]; · iexact Hx
  isplitl [Hw]; · iexact Hw
  isplitl [Hk]; · iexact Hk
  isplitl [Hv]; · iexact Hv
  isplitl [Ho]; · iexact Ho
  iexact Hout

/-- The body with the buffers as the region hands them. -/
def bodyAt : Prog (TpuEff nD τ sig (Elt F) Λ₀ .tc) PUnit :=
  cc0_body xM (Memref.isWhole_whole _) wM (Memref.isWhole_whole _) kM (Memref.isWhole_whole _) vM (Memref.isWhole_whole _) oM (Memref.isWhole_whole _)
    outM (Memref.isWhole_whole _) ctxM (Memref.isWhole_whole _) cM0 (Memref.isWhole_whole _) cM1 (Memref.isWhole_whole _) cM2 (Memref.isWhole_whole _)
    cc0_scratch4 cc0_scratch5

theorem Φ_first : (dat m c).Φ (t0_0 : Fin cfg0.N).castSucc = Φ₀ m c := by
  show (if ((t0_0 : Fin cfg0.N).castSucc : Fin (cfg0.N + 1)).val = 0 then Φ₀ m c else Φ₁ c) = _
  exact if_pos rfl
theorem Φ_after : (dat m c).Φ (t0_0 : Fin cfg0.N).succ = Φ₁ c := by
  show (if ((t0_0 : Fin cfg0.N).succ : Fin (cfg0.N + 1)).val = 0 then Φ₀ m c else Φ₁ c) = _
  exact if_neg (by rw [Fin.val_succ]; exact Nat.succ_ne_zero _)
theorem owed_first : (dat m c).owed (t0_0 : Fin cfg0.N).castSucc = O₀ c := by
  show (if ((t0_0 : Fin cfg0.N).castSucc : Fin (cfg0.N + 1)).val = 0 then O₀ c else 0) = _
  exact if_pos rfl
theorem owed_after : (dat m c).owed (t0_0 : Fin cfg0.N).succ = 0 := by
  show (if ((t0_0 : Fin cfg0.N).succ : Fin (cfg0.N + 1)).val = 0 then O₀ c else 0) = _
  exact if_neg (by rw [Fin.val_succ]; exact Nat.succ_ne_zero _)

theorem owesAt_in (t : Fin (cfg0.N + 1)) {O : CellTallies nD τ sig ℕ} (h : (dat m c).owed t = O) :
    (iprop(∃ W, owes (c : Thread nD τ) O W) : sProp 𝕄) ⊢ (dat m c).owesAt 0 t := by
  unfold Dat.owesAt Pipeline.owesWithin Dat.bound
  rw [h]
  iintro ⟨%W, H⟩
  iexists W
  isplitr; · ipureintro; exact fun _ _ => Or.inl trivial
  iexact H

theorem owesAt_out (t : Fin (cfg0.N + 1)) {O : CellTallies nD τ sig ℕ} (h : (dat m c).owed t = O) :
    (dat m c).owesAt 0 t ⊢ (iprop(∃ W, owes (c : Thread nD τ) O W) : sProp 𝕄) := by
  unfold Dat.owesAt Pipeline.owesWithin
  rw [h]
  iintro ⟨%W, -, H⟩
  iexists W
  iexact H

/-- What the body hands back: the buffers of the six windows at what the data says, and what is held and owed after it. -/
def after : sProp 𝕄 :=
  iprop(Φ₁ c ∗ (dat m c).owesAt 0 (t0_0 : Fin cfg0.N).succ
    ∗ (∃ f, ⌜f = (dat m c).after 0 t0_0⌝ ∗ (c : Thread nD τ).loc cc0_stg0_0 ↦{fullShare} f)
    ∗ (∃ f, ⌜f = (dat m c).after 1 t0_0⌝ ∗ (c : Thread nD τ).loc cc0_stg1_0 ↦{fullShare} f)
    ∗ (∃ f, ⌜f = (dat m c).after 2 t0_0⌝ ∗ (c : Thread nD τ).loc cc0_stg2_0 ↦{fullShare} f)
    ∗ (∃ f, ⌜f = (dat m c).after 3 t0_0⌝ ∗ (c : Thread nD τ).loc cc0_stg3_0 ↦{fullShare} f)
    ∗ (∃ f, ⌜f = (dat m c).after 4 t0_0⌝ ∗ (c : Thread nD τ).loc cc0_stg4_0 ↦{fullShare} f)
    ∗ (∃ f, ⌜f = (dat m c).after 5 t0_0⌝ ∗ (c : Thread nD τ).loc cc0_stg5_0 ↦{fullShare} f))

/-- What it is handed. -/
def before : sProp 𝕄 :=
  iprop(Φ₀ m c ∗ (dat m c).owesAt 0 (t0_0 : Fin cfg0.N).castSucc
    ∗ (∃ (d : S1024x768.Idx → Elt F .f32) (f : S1024x768.Idx → Elt F .f32), ⌜f = inX m c⌝ ∗ (c : Thread nD τ).loc cc0_stg0_0 ↦{fullShare} f)
    ∗ (∃ (d : S768x512.Idx → Elt F .f32) (f : S768x512.Idx → Elt F .f32), ⌜f = inW m c⌝ ∗ (c : Thread nD τ).loc cc0_stg1_0 ↦{fullShare} f)
    ∗ (∃ (d : S2x8x512x64.Idx → Elt F .f32) (f : S2x8x512x64.Idx → Elt F .f32), ⌜f = inK m c⌝ ∗ (c : Thread nD τ).loc cc0_stg2_0 ↦{fullShare} f)
    ∗ (∃ (d : S2x8x512x64.Idx → Elt F .f32) (f : S2x8x512x64.Idx → Elt F .f32), ⌜f = inV m c⌝ ∗ (c : Thread nD τ).loc cc0_stg3_0 ↦{fullShare} f)
    ∗ (∃ (d : S512x768.Idx → Elt F .f32) (f : S512x768.Idx → Elt F .f32), ⌜f = inO m c⌝ ∗ (c : Thread nD τ).loc cc0_stg4_0 ↦{fullShare} f)
    ∗ (∃ (d : S1024x768.Idx → Elt F .f32) (f : S1024x768.Idx → Elt F .f32), ⌜f = (dat m c).before 5 t0_0 d⌝ ∗ (c : Thread nD τ).loc cc0_stg5_0 ↦{fullShare} f))

theorem ends : iprop(left (AA m) c ∗ ins c (inX m c) (inW m c) (inK m c) (inV m c)
      ∗ kept2 c (inX m c) (inW m c) (inK m c) (inV m c) (inO m c) ∗ (invs (AA m) K ∗ ∃ r, prngReg c r))
    ⊢ (iprop(|={Set.univ}=> after m c) : sProp 𝕄) := by
  iintro ⟨Hl, Hi, Hk, #HI, Hp⟩
  imod (wrap m K c) $$ [Hl Hi Hk Hp] with ⟨HΦ, HO, HR⟩
  · isplitr; · iexact HI
    isplitl [Hl]; · iexact Hl
    isplitl [Hi]; · iexact Hi
    isplitl [Hk] <;> iassumption
  imodintro
  unfold after
  isplitl [HΦ]; · iexact HΦ
  isplitl [HO]
  · iapply (owesAt_in m c _ (owed_after m c)); unfold OW; rw [owed_done]; iexact HO
  icases HR with ⟨Hx, Hw, Hk, Hv, Ho, Hout⟩
  isplitl [Hx]
  · iexists (inX m c); isplitr; · ipureintro; rfl
    iexact Hx
  isplitl [Hw]
  · iexists (inW m c); isplitr; · ipureintro; rfl
    iexact Hw
  isplitl [Hk]
  · iexists (inK m c); isplitr; · ipureintro; rfl
    iexact Hk
  isplitl [Hv]
  · iexists (inV m c); isplitr; · ipureintro; rfl
    iexact Hv
  isplitl [Ho]
  · iexists (inO m c); isplitr; · ipureintro; rfl
    iexact Ho
  iexists (sumV (AA m)); isplitr; · ipureintro; rfl
  iexact Hout

theorem sound (f5 : S1024x768.Idx → Elt F .f32) :
    iprop(Φ₀ m c ∗ (∃ W, owes (c : Thread nD τ) (O₀ c) W)
        ∗ (xM.view.loc (c : Thread nD τ) ↦{fullShare} inX m c) ∗ (wM.view.loc (c : Thread nD τ) ↦{fullShare} inW m c)
        ∗ (kM.view.loc (c : Thread nD τ) ↦{fullShare} inK m c) ∗ (vM.view.loc (c : Thread nD τ) ↦{fullShare} inV m c)
        ∗ (oM.view.loc (c : Thread nD τ) ↦{fullShare} inO m c) ∗ (outM.view.loc (c : Thread nD τ) ↦{fullShare} f5))
      ⊢ WP c (bodyAt (F := F)) (fun _ => after m c) := by
  unfold Φ₀ talking desk rights bt
  iintro ⟨⟨⟨⟨%f6, Hc⟩, m0, m1, m2⟩, Hp, ⟨%K, #HI, #HL, ⟨q0, q1, q2⟩, ⟨⟨b0, #e0⟩, ⟨b1, #e1⟩, b2, #e2⟩, Hbw, t0, t1, t2⟩⟩, HO, Hx, Hw, Hk, Hv, Ho, Hout⟩
  ihave h0 := (seed c 0) $$ [q0 t0 m0]
  · isplitl [q0]; · iexact q0
    isplitl [t0]; · iexact t0
    iexact m0
  ihave h1 := (seed c 1) $$ [q1 t1 m1]
  · isplitl [q1]; · iexact q1
    isplitl [t1]; · iexact t1
    iexact m1
  ihave h2 := (seed c 2) $$ [q2 t2 m2]
  · isplitl [q2]; · iexact q2
    isplitl [t2]; · iexact t2
    iexact m2
  icases h0 with ⟨h0, y0⟩
  icases h1 with ⟨h1, y1⟩
  icases h2 with ⟨h2, y2⟩
  unfold bodyAt
  iapply (body_run (AA m) K c (inX m c) (inW m c) (inK m c) (inV m c) (inO m c) (Q := fun _ => after m c) rfl f5 f6
    (iprop(invs (AA m) K ∗ ∃ r, prngReg c r)) (ends m K c))
  · isplitr; · iexact HI
    isplitr; · iexact HL
    isplitl [HO]
    · unfold OB; rw [ob_three]; iexact HO
    isplitl [b0 y0]
    · unfold sg
      isplitl [b0]; · iexact b0
      isplitr; · iexact e0
      iexact y0
    isplitl [b1 y1]
    · unfold sg
      isplitl [b1]; · iexact b1
      isplitr; · iexact e1
      iexact y1
    isplitl [b2 y2]
    · unfold sg
      isplitl [b2]; · iexact b2
      isplitr; · iexact e2
      iexact y2
    isplitl [Hbw]; · iexact Hbw
    isplitl [h0 h1 h2]
    · isplitl [h0]; · iexact h0
      isplitl [h1] <;> iassumption
    isplitl [Hx Hw Hk Hv]
    · unfold ins
      isplitl [Hx]; · iexact Hx
      isplitl [Hw]; · iexact Hw
      isplitl [Hk] <;> iassumption
    isplitl [Ho]; · iexact Ho
    isplitl [Hc]; · iexact Hc
    isplitl [Hout]; · iexact Hout
    isplitr; · iexact HI
    iexact Hp
theorem whole_body : before m c ⊢ WP c (bodyAt (F := F)) (fun _ => after m c) := by
  unfold before
  iintro ⟨HΦ, HO, ⟨%d0, %f0, %e0, Hx⟩, ⟨%d1, %f1, %e1, Hw⟩, ⟨%d2, %f2, %e2, Hk⟩, ⟨%d3, %f3, %e3, Hv⟩, ⟨%d4, %f4, %e4, Ho⟩, ⟨%d5, %f5, %e5, Hout⟩⟩
  subst e0 e1 e2 e3 e4
  ihave HO := (owesAt_out m c _ (owed_first m c)) $$ HO
  iapply (sound m c f5) $$ [HΦ HO Hx Hw Hk Hv Ho Hout]
  isplitl [HΦ]; · iexact HΦ
  isplitl [HO]; · iexact HO
  isplitl [Hx]; · iexact Hx
  isplitl [Hw]; · iexact Hw
  isplitl [Hk]; · iexact Hk
  isplitl [Hv]; · iexact Hv
  isplitl [Ho]; · iexact Ho
  iexact Hout

set_option maxRecDepth 20000 in
theorem body_obligation : BodyObligation (dat m c) (defs₀ (F := F)) 𝒱₀ 0 Set.univ := fun t => by
  rw [fin_N0 t, bigSep_W0, bigSep_W0]
  simp only [owns_whole_eq, before0, before1, before2, before3, before4]
  rw [Φ_first, Φ_after]
  exact whole_body m c

end Region

end Cert.KernelIdeal.Cube

end
-- ==== Proof.Launch.lean ====
/-
# The launch: what each device is given, from tokens and credit made at once for all
-/
module

public import proofs.«01_k».proof.Proof.Region

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Cert.KernelIdeal Cert.KernelIdeal.Gen

variable {F : FTy → Type} [FloatOps F]
local notation "𝕄" => MT nD τ sig ℕ (Elt F) ℕ UU ℕ

section Launch

/-! ## Tokens -/

/-- What a token pays: its semaphore, its round and its duty. For part `p`: index 0 the barrier signal along dimension `p`,
1 to 6 the sends of the six steps, 7 to 12 the landings. -/
def kind (k : Fin 3 × Fin 13) : SemLoc sig × ℕ × Fin 3 :=
  if k.2.val = 0 then (.reg barS, 0, k.1)
  else if k.2.val ≤ 6 then (.dma (sendS k.1 (k.2.val - 1)), (k.2.val - 1) / 2, 0)
  else (.dma (recvS k.1 (k.2.val - 7)), (k.2.val - 7) / 2, 0)

theorem kind_inj : Function.Injective kind := by decide +kernel

def tokEmb : Dev nD × (Fin 3 × Fin 13) ↪ GSem nD τ sig × ℕ × Fin 3 :=
  ⟨fun ck => (((ck.1 : Thread nD τ), (kind ck.2).1), (kind ck.2).2), fun a b h =>
    Prod.ext (congrArg (fun g : GSem nD τ sig × ℕ × Fin 3 => g.1.1.1) h)
      (kind_inj (Prod.ext (congrArg (fun g : GSem nD τ sig × ℕ × Fin 3 => g.1.2) h) (congrArg (fun g : GSem nD τ sig × ℕ × Fin 3 => g.2) h)))⟩
def toks : Finset (GSem nD τ sig × ℕ × Fin 3) := Finset.univ.map tokEmb

/-- Whose cell the token a device is given pays. -/
def payee (k : Fin 3 × Fin 13) : Dev nD ≃ Dev nD :=
  if k.2.val = 0 then across k.1 else if k.2.val ≤ 6 then Equiv.refl _ else across' (k.2.val - 7) k.1

def tok (c : Dev nD) (k : Fin 3 × Fin 13) : sProp 𝕄 := dutyTok ER ((c : Thread nD τ), (kind k).1) (kind k).2.1 (kind k).2.2

theorem disjoint_cells : Disjoint (barCells : Finset (GSem nD τ sig)) scCells := by
  rw [Finset.disjoint_left]
  intro g h h'
  obtain ⟨c, -, rfl⟩ := Finset.mem_map.mp h
  obtain ⟨ck, -, e⟩ := Finset.mem_map.mp h'
  exact osem_ne_bar ck.2 (congrArg Prod.snd e)

/-- All tokens, each with the device that will use it. -/
theorem toks_dealt : (bigSep toks fun x => dutyTok ER x.1 x.2.1 x.2.2 : sProp 𝕄)
    = bigSep Finset.univ fun c : Dev nD => bigSep Finset.univ fun k : Fin 3 × Fin 13 => tok (payee k c) k := by
  unfold toks
  rw [bigSep_map, bigSep_univ_prod, bigSep_univ_comm]
  rw [bigSep_univ_comm (fun (c : Dev nD) (k : Fin 3 × Fin 13) => (tok (payee k c) k : sProp 𝕄))]
  exact bigSep_congr fun k _ => bigSep_univ_equiv (payee k) (fun c : Dev nD => (tok c k : sProp 𝕄))

variable (c : Dev nD)

theorem thirteen (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- A part's tokens. -/
def purse (p : Fin 3) : sProp 𝕄 :=
  iprop(dutyTok ER (barCell (mate p c)) 0 p
    ∗ dutyTok ER (sendCell c p 0) 0 0 ∗ dutyTok ER (sendCell c p 1) 0 0 ∗ dutyTok ER (sendCell c p 2) 1 0
    ∗ dutyTok ER (sendCell c p 3) 1 0 ∗ dutyTok ER (sendCell c p 4) 2 0 ∗ dutyTok ER (sendCell c p 5) 2 0
    ∗ dutyTok ER (recvCell (peer 0 p c) p 0) 0 0 ∗ dutyTok ER (recvCell (peer 1 p c) p 1) 0 0 ∗ dutyTok ER (recvCell (peer 2 p c) p 2) 1 0
    ∗ dutyTok ER (recvCell (peer 3 p c) p 3) 1 0 ∗ dutyTok ER (recvCell (peer 4 p c) p 4) 2 0 ∗ dutyTok ER (recvCell (peer 5 p c) p 5) 2 0)

theorem tok_of {k : Fin 3 × Fin 13} {x : SemLoc sig × ℕ × Fin 3} {d : Dev nD} (hd : payee k c = d) (hk : kind k = x) :
    (tok (payee k c) k : sProp 𝕄) = dutyTok ER ((d : Thread nD τ), x.1) x.2.1 x.2.2 := by
  subst hd hk; rfl

theorem toks_parts : (bigSep Finset.univ fun k : Fin 3 × Fin 13 => tok (F := F) (payee k c) k) = iprop(purse c 0 ∗ purse c 1 ∗ purse c 2) := by
  rw [bigSep_univ_prod, three]
  have h (p : Fin 3) : (bigSep Finset.univ fun j : Fin 13 => tok (F := F) (payee (p, j) c) (p, j)) = purse c p := by
    rw [thirteen]
    unfold purse
    rw [tok_of c (k := (p, 0)) (x := (.reg barS, 0, p)) (d := mate p c) (by revert p c; decide +kernel) (by revert p; decide +kernel)]
    rw [tok_of c (k := (p, 1)) (x := (.dma (sendS p 0), 0, 0)) (d := c) (by revert p c; decide +kernel) (by revert p; decide +kernel)]
    rw [tok_of c (k := (p, 2)) (x := (.dma (sendS p 1), 0, 0)) (d := c) (by revert p c; decide +kernel) (by revert p; decide +kernel)]
    rw [tok_of c (k := (p, 3)) (x := (.dma (sendS p 2), 1, 0)) (d := c) (by revert p c; decide +kernel) (by revert p; decide +kernel)]
    rw [tok_of c (k := (p, 4)) (x := (.dma (sendS p 3), 1, 0)) (d := c) (by revert p c; decide +kernel) (by revert p; decide +kernel)]
    rw [tok_of c (k := (p, 5)) (x := (.dma (sendS p 4), 2, 0)) (d := c) (by revert p c; decide +kernel) (by revert p; decide +kernel)]
    rw [tok_of c (k := (p, 6)) (x := (.dma (sendS p 5), 2, 0)) (d := c) (by revert p c; decide +kernel) (by revert p; decide +kernel)]
    rw [tok_of c (k := (p, 7)) (x := (.dma (recvS p 0), 0, 0)) (d := peer 0 p c) (by revert p c; decide +kernel) (by revert p; decide +kernel)]
    rw [tok_of c (k := (p, 8)) (x := (.dma (recvS p 1), 0, 0)) (d := peer 1 p c) (by revert p c; decide +kernel) (by revert p; decide +kernel)]
    rw [tok_of c (k := (p, 9)) (x := (.dma (recvS p 2), 1, 0)) (d := peer 2 p c) (by revert p c; decide +kernel) (by revert p; decide +kernel)]
    rw [tok_of c (k := (p, 10)) (x := (.dma (recvS p 3), 1, 0)) (d := peer 3 p c) (by revert p c; decide +kernel) (by revert p; decide +kernel)]
    rw [tok_of c (k := (p, 11)) (x := (.dma (recvS p 4), 2, 0)) (d := peer 4 p c) (by revert p c; decide +kernel) (by revert p; decide +kernel)]
    rw [tok_of c (k := (p, 12)) (x := (.dma (recvS p 5), 2, 0)) (d := peer 5 p c) (by revert p c; decide +kernel) (by revert p; decide +kernel)]
  rw [h, h, h]

/-! ## Credit -/

/-- What one of the mates owes a device, as credit: at one index of one of its semaphores. -/
theorem cred_one (σ : Dev nD ≃ Dev nD) (sm : SemLoc sig) (i n : ℕ) :
    (Pipeline.launchCred (fun d => tallyAt ((σ d : Thread nD τ), sm) i n) c : sProp 𝕄) ⊢ cred (tallyAt ((c : Thread nD τ), sm) i n) := by
  refine (Pipeline.launchCred_elim _ c sm).trans (Entails.of_eq (congrArg _ ?_))
  unfold tallyAt
  refine congrArg _ (Finsupp.ext fun j => ?_)
  rw [Pipeline.launchCredit_owing]
  have h (d : Dev nD) : (tallyOn ((σ d : Thread nD τ), sm) (Finsupp.single i n) : CellTallies nD τ sig ℕ) ((c : Thread nD τ), sm) j
      = if d = σ.symm c then Finsupp.single i n j else 0 := by
    have e := tallyAt_apply (nD := nD) (τ := τ) (sig := sig) ((σ d : Thread nD τ), sm) i n ((c : Thread nD τ), sm) j
    unfold tallyAt at e
    rw [e, Finsupp.single_apply]
    by_cases hd : d = σ.symm c
    · rw [if_pos hd, hd, Equiv.apply_symm_apply]
      by_cases hj : j = i
      · rw [if_pos ⟨rfl, hj⟩, if_pos hj.symm]
      · rw [if_neg fun h => hj h.2, if_neg fun h => hj h.symm]
    · rw [if_neg hd, if_neg]
      rintro ⟨h, -⟩
      exact hd ((Equiv.eq_symm_apply σ).mpr (congrArg (fun g : GSem nD τ sig => g.1.1) h).symm)
  rw [Finset.sum_congr rfl fun d _ => h d, Finset.sum_ite_eq' Finset.univ (σ.symm c) fun _ => Finsupp.single i n j, if_pos (Finset.mem_univ _)]

/-- The credit for the `i`-th copy to come. -/
def crd (i : ℕ) : sProp 𝕄 := cred (tallyAt (recvCell c (prt (2 * i)) (i / 3)) (2 + i / 3) (amt (i / 3) (prt (2 * i))))

theorem crd_eq {i s : ℕ} {p : Fin 3} (hp : prt (2 * i) = p) (hs : i / 3 = s) : (crd c i : sProp 𝕄) ⊢ cred (tallyAt (recvCell c p s) (2 + s) (amt s p)) := by
  unfold crd; rw [hp, hs]

theorem cred_step {n : ℕ} (hn : n < 18) : (Pipeline.launchCred (owed n) c : sProp 𝕄) ⊢ iprop(crd c n ∗ Pipeline.launchCred (owed (n + 1)) c) := by
  rw [show (owed n : Dev nD → CellTallies nD τ sig ℕ) = fun d => owed (n + 1) d + due d n from funext fun d => owed_step hn d, Pipeline.launchCred_add]
  have h : (Pipeline.launchCred (fun d => due d n) c : sProp 𝕄) ⊢ crd c n :=
    cred_one c (across' (n / 3) (prt (2 * n))) (.dma (recvS (prt (2 * n)) (n / 3))) _ _
  iintro ⟨H, H'⟩
  isplitl [H']; · iapply h $$ H'
  iexact H

theorem cred_bar : (Pipeline.launchCred (fun d => ∑ e : Fin 3, tallyAt (barCell (mate e d)) 1 1) c : sProp 𝕄) ⊢ cred (tallyAt (barCell c) 1 3) := by
  have e : (fun d : Dev nD => ∑ e : Fin 3, tallyAt (barCell (mate e d)) 1 1)
      = fun d => (tallyAt (barCell (mate 0 d)) 1 1 + tallyAt (barCell (mate 1 d)) 1 1) + (tallyAt (barCell (mate 2 d)) 1 1 : CellTallies nD τ sig ℕ) :=
    funext fun d => Fin.sum_univ_three _
  have h (e : Fin 3) : (Pipeline.launchCred (fun d => tallyAt (barCell (mate e d)) 1 1) c : sProp 𝕄) ⊢ cred (tallyAt (barCell c) 1 1) :=
    cred_one c (across e) (.reg barS) 1 1
  rw [e, Pipeline.launchCred_add, Pipeline.launchCred_add (fun d => tallyAt (barCell (mate 0 d)) 1 1)]
  rw [show (tallyAt (barCell c) 1 3 : CellTallies nD τ sig ℕ) = tallyAt (barCell c) 1 1 + tallyAt (barCell c) 1 1 + tallyAt (barCell c) 1 1 by
    rw [tallyAt_add, tallyAt_add]]
  refine BI.Entails.trans (BIClass.sep_mono (BIClass.sep_mono (h 0) (h 1)) (h 2)) ?_
  refine BI.Entails.trans (BIClass.sep_mono (cred_add _ _).2 .rfl) ?_
  exact (cred_add _ _).2

theorem creds : (Pipeline.launchCred O₀ c : sProp 𝕄) ⊢ iprop(cred (tallyAt (barCell c) 1 3) ∗ cred (tallyAt (recvCell c 0 0) 2 (amt 0 0)) ∗ cred (tallyAt (recvCell c 1 0) 2 (amt 0 1)) ∗ cred (tallyAt (recvCell c 2 0) 2 (amt 0 2)) ∗ cred (tallyAt (recvCell c 0 1) 3 (amt 1 0)) ∗ cred (tallyAt (recvCell c 1 1) 3 (amt 1 1)) ∗ cred (tallyAt (recvCell c 2 1) 3 (amt 1 2)) ∗ cred (tallyAt (recvCell c 0 2) 4 (amt 2 0)) ∗ cred (tallyAt (recvCell c 1 2) 4 (amt 2 1)) ∗ cred (tallyAt (recvCell c 2 2) 4 (amt 2 2)) ∗ cred (tallyAt (recvCell c 0 3) 5 (amt 3 0)) ∗ cred (tallyAt (recvCell c 1 3) 5 (amt 3 1)) ∗ cred (tallyAt (recvCell c 2 3) 5 (amt 3 2)) ∗ cred (tallyAt (recvCell c 0 4) 6 (amt 4 0)) ∗ cred (tallyAt (recvCell c 1 4) 6 (amt 4 1)) ∗ cred (tallyAt (recvCell c 2 4) 6 (amt 4 2)) ∗ cred (tallyAt (recvCell c 0 5) 7 (amt 5 0)) ∗ cred (tallyAt (recvCell c 1 5) 7 (amt 5 1)) ∗ cred (tallyAt (recvCell c 2 5) 7 (amt 5 2))) := by
  rw [show (O₀ : Dev nD → CellTallies nD τ sig ℕ) = fun d => owed 0 d + ∑ e : Fin 3, tallyAt (barCell (mate e d)) 1 1 from rfl, Pipeline.launchCred_add]
  iintro ⟨H, Hb⟩
  isplitl [Hb]; · iapply (cred_bar c) $$ Hb
  ihave H := (cred_step c (n := 0) (by decide)) $$ H
  icases H with ⟨H0, H⟩
  ihave H0 := (crd_eq (F := F) c (i := 0) (p := 0) (s := 0) (by decide) (by decide)) $$ H0
  isplitl [H0]; · iexact H0
  ihave H := (cred_step c (n := 1) (by decide)) $$ H
  icases H with ⟨H1, H⟩
  ihave H1 := (crd_eq (F := F) c (i := 1) (p := 1) (s := 0) (by decide) (by decide)) $$ H1
  isplitl [H1]; · iexact H1
  ihave H := (cred_step c (n := 2) (by decide)) $$ H
  icases H with ⟨H2, H⟩
  ihave H2 := (crd_eq (F := F) c (i := 2) (p := 2) (s := 0) (by decide) (by decide)) $$ H2
  isplitl [H2]; · iexact H2
  ihave H := (cred_step c (n := 3) (by decide)) $$ H
  icases H with ⟨H3, H⟩
  ihave H3 := (crd_eq (F := F) c (i := 3) (p := 0) (s := 1) (by decide) (by decide)) $$ H3
  isplitl [H3]; · iexact H3
  ihave H := (cred_step c (n := 4) (by decide)) $$ H
  icases H with ⟨H4, H⟩
  ihave H4 := (crd_eq (F := F) c (i := 4) (p := 1) (s := 1) (by decide) (by decide)) $$ H4
  isplitl [H4]; · iexact H4
  ihave H := (cred_step c (n := 5) (by decide)) $$ H
  icases H with ⟨H5, H⟩
  ihave H5 := (crd_eq (F := F) c (i := 5) (p := 2) (s := 1) (by decide) (by decide)) $$ H5
  isplitl [H5]; · iexact H5
  ihave H := (cred_step c (n := 6) (by decide)) $$ H
  icases H with ⟨H6, H⟩
  ihave H6 := (crd_eq (F := F) c (i := 6) (p := 0) (s := 2) (by decide) (by decide)) $$ H6
  isplitl [H6]; · iexact H6
  ihave H := (cred_step c (n := 7) (by decide)) $$ H
  icases H with ⟨H7, H⟩
  ihave H7 := (crd_eq (F := F) c (i := 7) (p := 1) (s := 2) (by decide) (by decide)) $$ H7
  isplitl [H7]; · iexact H7
  ihave H := (cred_step c (n := 8) (by decide)) $$ H
  icases H with ⟨H8, H⟩
  ihave H8 := (crd_eq (F := F) c (i := 8) (p := 2) (s := 2) (by decide) (by decide)) $$ H8
  isplitl [H8]; · iexact H8
  ihave H := (cred_step c (n := 9) (by decide)) $$ H
  icases H with ⟨H9, H⟩
  ihave H9 := (crd_eq (F := F) c (i := 9) (p := 0) (s := 3) (by decide) (by decide)) $$ H9
  isplitl [H9]; · iexact H9
  ihave H := (cred_step c (n := 10) (by decide)) $$ H
  icases H with ⟨H10, H⟩
  ihave H10 := (crd_eq (F := F) c (i := 10) (p := 1) (s := 3) (by decide) (by decide)) $$ H10
  isplitl [H10]; · iexact H10
  ihave H := (cred_step c (n := 11) (by decide)) $$ H
  icases H with ⟨H11, H⟩
  ihave H11 := (crd_eq (F := F) c (i := 11) (p := 2) (s := 3) (by decide) (by decide)) $$ H11
  isplitl [H11]; · iexact H11
  ihave H := (cred_step c (n := 12) (by decide)) $$ H
  icases H with ⟨H12, H⟩
  ihave H12 := (crd_eq (F := F) c (i := 12) (p := 0) (s := 4) (by decide) (by decide)) $$ H12
  isplitl [H12]; · iexact H12
  ihave H := (cred_step c (n := 13) (by decide)) $$ H
  icases H with ⟨H13, H⟩
  ihave H13 := (crd_eq (F := F) c (i := 13) (p := 1) (s := 4) (by decide) (by decide)) $$ H13
  isplitl [H13]; · iexact H13
  ihave H := (cred_step c (n := 14) (by decide)) $$ H
  icases H with ⟨H14, H⟩
  ihave H14 := (crd_eq (F := F) c (i := 14) (p := 2) (s := 4) (by decide) (by decide)) $$ H14
  isplitl [H14]; · iexact H14
  ihave H := (cred_step c (n := 15) (by decide)) $$ H
  icases H with ⟨H15, H⟩
  ihave H15 := (crd_eq (F := F) c (i := 15) (p := 0) (s := 5) (by decide) (by decide)) $$ H15
  isplitl [H15]; · iexact H15
  ihave H := (cred_step c (n := 16) (by decide)) $$ H
  icases H with ⟨H16, H⟩
  ihave H16 := (crd_eq (F := F) c (i := 16) (p := 1) (s := 5) (by decide) (by decide)) $$ H16
  isplitl [H16]; · iexact H16
  ihave H := (cred_step c (n := 17) (by decide)) $$ H
  icases H with ⟨H17, H⟩
  ihave H17 := (crd_eq (F := F) c (i := 17) (p := 2) (s := 5) (by decide) (by decide)) $$ H17
  iexact H17

/-! ## What a device gets -/

/-- Beside the records: its position on its barrier, its copy semaphores unopened, its tokens. -/
def linear : sProp 𝕄 :=
  iprop(atPos ER (barCell c) 0 ∅ 0 ∗ (bigSep Finset.univ fun k : Fin 12 => shut c (osem k))
    ∗ bigSep Finset.univ fun k : Fin 3 × Fin 13 => tok (payee k c) k)

variable (m : (ℓ : Loc nD τ sig) → Buf (Elt F) ℓ)

def records (K : GSem nD τ sig → ℕ) : sProp 𝕄 := iprop(invs (AA m) K ∗ (bigSep barCells fun g => reached ER g 0) ∗ levAts L lv)
instance records_persistent (K : GSem nD τ sig → ℕ) : BI.Persistent (records m K) := by unfold records; infer_instance

theorem tk_intro (p : Fin 3) : iprop(one 0 p c ∗ one 1 p c ∗ one 2 p c ∗ one 3 p c ∗ one 4 p c ∗ one 5 p c) ⊢ (tk p c 6 : sProp 𝕄) := by
  iintro ⟨h0, h1, h2, h3, h4, h5⟩
  iapply (Entails.of_eq (show iprop(one 0 p c ∗ one 1 p c ∗ one 2 p c ∗ one 3 p c ∗ one 4 p c ∗ one 5 p c ∗ emp) = (tk p c 6 : sProp 𝕄) from rfl))
  isplitl [h0]; · iexact h0
  isplitl [h1]; · iexact h1
  isplitl [h2]; · iexact h2
  isplitl [h3]; · iexact h3
  isplitl [h4]; · iexact h4
  isplitl [h5]; · iexact h5
  iempintro

theorem talk_intro (K : GSem nD τ sig → ℕ) : iprop(records m K ∗ linear c ∗ Pipeline.launchCred O₀ c) ⊢ talk m c := by
  have hr (d : Fin 3) : (bigSep barCells fun g => reached ER g 0 : sProp 𝕄) ⊢ reached ER (barCell (mate d c)) 0 :=
    bigSep_elim (Finset.mem_map_of_mem barEmb (Finset.mem_univ (mate d c)))
  unfold records linear talk rights bt bw
  rw [toks_parts]
  iintro ⟨⟨#HI, #HR, #HL⟩, ⟨Hat, Ht, Hp⟩, HC⟩
  ihave HC := (creds (F := F) c) $$ HC
  unfold purse
  icases Hp with ⟨⟨b0, s00, s01, s02, s03, s04, s05, r00, r01, r02, r03, r04, r05⟩, ⟨b1, s10, s11, s12, s13, s14, s15, r10, r11, r12, r13, r14, r15⟩, ⟨b2, s20, s21, s22, s23, s24, s25, r20, r21, r22, r23, r24, r25⟩⟩
  icases HC with ⟨HB, c00, c10, c20, c01, c11, c21, c02, c12, c22, c03, c13, c23, c04, c14, c24, c05, c15, c25⟩
  iexists K
  isplitr; · iexact HI
  isplitr; · iexact HL
  isplitl [Ht]; · iexact Ht
  isplitl [b0 b1 b2]
  · isplitl [b0]
    · isplitl [b0]; · iexact b0
      iapply (hr 0); iexact HR
    isplitl [b1]
    · isplitl [b1]; · iexact b1
      iapply (hr 1); iexact HR
    isplitl [b2]; · iexact b2
    iapply (hr 2); iexact HR
  isplitl [Hat HB]
  · isplitl [Hat]; · iexact Hat
    iexact HB
  isplitl [s00 r00 c00 s01 r01 c01 s02 r02 c02 s03 r03 c03 s04 r04 c04 s05 r05 c05]
  · iapply (tk_intro c 0)
    unfold one
    isplitl [r00 s00 c00]
    · isplitl [r00]; · iexact r00
      isplitl [s00]; · iexact s00
      iexact c00
    isplitl [r01 s01 c01]
    · isplitl [r01]; · iexact r01
      isplitl [s01]; · iexact s01
      iexact c01
    isplitl [r02 s02 c02]
    · isplitl [r02]; · iexact r02
      isplitl [s02]; · iexact s02
      iexact c02
    isplitl [r03 s03 c03]
    · isplitl [r03]; · iexact r03
      isplitl [s03]; · iexact s03
      iexact c03
    isplitl [r04 s04 c04]
    · isplitl [r04]; · iexact r04
      isplitl [s04]; · iexact s04
      iexact c04
    isplitl [r05]; · iexact r05
    isplitl [s05]; · iexact s05
    iexact c05
  isplitl [s10 r10 c10 s11 r11 c11 s12 r12 c12 s13 r13 c13 s14 r14 c14 s15 r15 c15]
  · iapply (tk_intro c 1)
    unfold one
    isplitl [r10 s10 c10]
    · isplitl [r10]; · iexact r10
      isplitl [s10]; · iexact s10
      iexact c10
    isplitl [r11 s11 c11]
    · isplitl [r11]; · iexact r11
      isplitl [s11]; · iexact s11
      iexact c11
    isplitl [r12 s12 c12]
    · isplitl [r12]; · iexact r12
      isplitl [s12]; · iexact s12
      iexact c12
    isplitl [r13 s13 c13]
    · isplitl [r13]; · iexact r13
      isplitl [s13]; · iexact s13
      iexact c13
    isplitl [r14 s14 c14]
    · isplitl [r14]; · iexact r14
      isplitl [s14]; · iexact s14
      iexact c14
    isplitl [r15]; · iexact r15
    isplitl [s15]; · iexact s15
    iexact c15
  iapply (tk_intro c 2)
  unfold one
  isplitl [r20 s20 c20]
  · isplitl [r20]; · iexact r20
    isplitl [s20]; · iexact s20
    iexact c20
  isplitl [r21 s21 c21]
  · isplitl [r21]; · iexact r21
    isplitl [s21]; · iexact s21
    iexact c21
  isplitl [r22 s22 c22]
  · isplitl [r22]; · iexact r22
    isplitl [s22]; · iexact s22
    iexact c22
  isplitl [r23 s23 c23]
  · isplitl [r23]; · iexact r23
    isplitl [s23]; · iexact s23
    iexact c23
  isplitl [r24 s24 c24]
  · isplitl [r24]; · iexact r24
    isplitl [s24]; · iexact s24
    iexact c24
  isplitl [r25]; · iexact r25
  isplitl [s25]; · iexact s25
  iexact c25

end Launch

end Cert.KernelIdeal.Cube

end
-- ==== Proof.Run.lean ====
/-
# The run of the whole program on eight devices
-/
module

public import proofs.«01_k».proof.Proof.Launch
public import proofs.«01_k».proof.Proof.Gen.KernelIdeal.Regions
public import Idealize.ShloMosaic.Lib.Pipeline.RegionTalk

@[expose] public section

noncomputable section

namespace Cert.KernelIdeal.Cube

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Cert.KernelIdeal Cert.KernelIdeal.Gen

variable {F : FTy → Type} [FloatOps F]
local notation "𝕄" => MT nD τ sig ℕ (Elt F) ℕ UU ℕ

section Run

variable (m : (ℓ : Loc nD τ sig) → Buf (Elt F) ℓ) (ρ : Dev nD → PrngReg)

/-! ## The region among the program's items -/

/-- The kernel's result in device memory. -/
def res (c : Dev nD) : Buf (Elt F) ((c : Thread nD τ).loc main_v18) := (dat m c).arrAt 5 cfg0.N

/-- The contents of device memory as the kernel leaves them. -/
def outs : Outs (F := F) := fun _ r c => Function.update (V1 m c) (Proc.devRef .tc main_v18) (res m c) (Proc.devRef .tc r)

theorem outs_res (c : Dev nD) : outs m 2 main_v18 c = res m c := Function.update_self _ _ _

theorem V2_res (c : Dev nD) : V2 m (outs m) c (Proc.devRef .tc main_v18) = res m c :=
  (Function.update_self _ _ _).trans (outs_res m c)

/-- The arrays the kernel does not write are as it found them. -/
theorem V2_ne (c : Dev nD) {b : DevRef τ sig} (h : b ≠ Proc.devRef .tc main_v18) : V2 m (outs m) c b = V1 m c b :=
  Function.update_of_ne h _ _

/-- What is not an array of a window. -/
def others : Finset (DevRef τ sig) := Pipeline.ucRefs τ sig \ Pipeline.arrRefs spec0

theorem arr_sub : Pipeline.arrRefs (τ := τ) spec0 ⊆ Pipeline.ucRefs τ sig := by decide +kernel
theorem res_mem : Proc.devRef .tc main_v18 ∈ Pipeline.arrRefs (τ := τ) spec0 := by decide +kernel

theorem ownSemFacts : Pipeline.OwnSemFacts spec0 osem := by decide

def kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_full (c : Dev nD) (w : Fin cfg0.W) : (dat m c).share w = fullShare := by unfold Dat.share; split <;> rfl

theorem owes_pos (c : Dev nD) {g : GSem nD τ sig} {i : ℕ} (h : 0 < O₀ c g i) : i ∈ L g ∧ 0 < lv g i := by
  have e : O₀ c g i = owed 0 c g i + ∑ d : Fin 3, tallyAt (barCell (mate d c)) 1 1 g i := by
    unfold O₀
    rw [Pi.add_apply, Finsupp.add_apply, Finset.sum_apply, Finsupp.finset_sum_apply]
  rw [e] at h
  rcases Nat.eq_zero_or_pos (owed 0 c g i) with h0 | h0
  · rw [h0, zero_add] at h
    obtain ⟨d, -, hd⟩ := Finset.exists_ne_zero_of_sum_ne_zero (Nat.pos_iff_ne_zero.mp h)
    rw [tallyAt_apply] at hd
    by_cases hg : g = barCell (mate d c) ∧ i = 1
    · rw [hg.1, hg.2, L_tc]; exact ⟨Finset.mem_range.mpr (by omega), Nat.one_pos⟩
    · rw [if_neg hg] at hd; exact absurd rfl hd
  · exact ⟨(owed_pos h0).1, by have := (owed_pos h0).2; show 0 < i; omega⟩

theorem cut : Pipeline.LevelCutOwed (pcfgs (F := F)) adm (pdats m) 0 L lv 0 (fun _ => 0) where
  hι c w s := by rw [L_tc]; exact Finset.mem_range.mpr (by omega)
  hιb c w s := le_refl _
  hD c t g i h := by
    have h' : 0 < (if t.val = 0 then O₀ c else 0) g i := h
    by_cases ht : t.val = 0
    · rw [if_pos ht] at h'
      exact owes_pos c h'
    · rw [if_neg ht] at h'
      exact absurd h' (Nat.lt_irrefl 0)

/-- The arrays before the body and after it. -/
theorem arr_first (c : Dev nD) (w : Fin cfg0.W) : (dat m c).arrAt w 0 = V1 m c (Proc.devRef .tc (Pipeline.arrRef spec0 w)) := rfl
theorem arr_last (c : Dev nD) (w : Fin cfg0.W) : (dat m c).arrAt w cfg0.N = V2 m (outs m) c (Proc.devRef .tc (Pipeline.arrRef spec0 w)) := by
  have h : ∀ w : Fin cfg0.W, w ≠ 5 → (cfg0.win w).isOut = false ∧ (Proc.devRef .tc (Pipeline.arrRef spec0 w) : DevRef τ sig) ≠ Proc.devRef .tc main_v18 := by decide +kernel
  by_cases hw : w = 5
  · subst hw; exact (V2_res m c).symm
  · rw [(dat m c).arrAt_in w (h w hw).1, V2_ne m c (h w hw).2]; rfl

theorem last_ne : (Fin.last cfg0.N).val ≠ 0 := Nat.one_ne_zero
theorem owed0 (c : Dev nD) : (dat m c).owed 0 = O₀ c := by
  show (if (0 : Fin (cfg0.N + 1)).val = 0 then O₀ c else 0) = _
  exact if_pos rfl
theorem owedN (c : Dev nD) : (dat m c).owed (Fin.last cfg0.N) = 0 := by
  show (if (Fin.last cfg0.N).val = 0 then O₀ c else 0) = _
  exact if_neg last_ne
theorem Φ0 (c : Dev nD) : (dat m c).Φ 0 = Φ₀ m c := by
  show (if (0 : Fin (cfg0.N + 1)).val = 0 then Φ₀ m c else Φ₁ c) = _
  exact if_pos rfl
theorem ΦN (c : Dev nD) : (dat m c).Φ (Fin.last cfg0.N) = Φ₁ c := by
  show (if (Fin.last cfg0.N).val = 0 then Φ₀ m c else Φ₁ c) = _
  exact if_neg last_ne

theorem enters (c : Dev nD) : iprop(Pipeline.scopedRest spec0 c ∗ (∃ r, prngReg c r) ∗ StableHlo.held (c : Thread nD τ) ∅ (V1 m c) ∗ talking m c)
    ⊢ (dat m c).Φ 0 := by
  rw [Φ0]
  unfold Φ₀
  iintro ⟨Hd, Hp, -, Ht⟩
  isplitl [Hd]; · iapply (desk_eq c).1 $$ Hd
  isplitl [Hp] <;> iassumption

theorem leaves (c : Dev nD) : (dat m c).Φ (Fin.last cfg0.N)
    ⊢ iprop(Pipeline.scopedRest spec0 c ∗ (∃ r, prngReg c r) ∗ StableHlo.held (c : Thread nD τ) ∅ (V2 m (outs m) c)
      ∗ Pipeline.ownSems0 osem c ∗ zero c (.reg barS)) := by
  rw [ΦN]
  unfold Φ₁
  iintro ⟨Hd, Hp, Hz, Hb⟩
  isplitl [Hd]; · iapply (desk_eq c).2 $$ Hd
  isplitl [Hp]; · iexact Hp
  isplitr; · unfold StableHlo.held; rw [bigSep_empty]; iempintro
  isplitl [Hz]
  · iapply (show _ ⊢ (Pipeline.ownSems0 osem c : sProp 𝕄) from (by_part (F := F) (zero c)).2) $$ Hz
  iexact Hb

/-- The kernel as an item of the program. -/
def region : Pipeline.RegionSeg (pcfgs (F := F)) adm (pdats m) 0 defs₀ 𝒱₀ L lv 0 :=
  Pipeline.RegionSeg.ofTalk (pcfgs (F := F)) adm (pdats m) 0 defs₀ 𝒱₀ L lv 0 osem ownSemFacts ∅ others (Finset.empty_subset _)
    kit rfl (fun c => (body_obligation m c).loose) (fun _ => 0) O₀
    (fun c => (owed0 m c).trans (zero_add _).symm)
    (owedN m)
    (fun _ => rfl) (share_full m) (V1 m) (V2 m (outs m))
    (fun c b hb => V2_ne m c fun e => by
      rw [e] at hb
      exact (Finset.mem_sdiff.mp (Finset.mem_sdiff.mp hb).1).2 res_mem)
    (talk m) (fun c => zero c (.reg barS)) (talking m) (fun c => zero c (.reg barS))
    (opens m)
    (enters m) (leaves m)
    (fun c => fupd_intro) (fun _ => 0) (cut m) (fun _ => iprop(emp)) (arr_first m) (arr_last m)

/-- What is carried beside device memory: into the kernel, and out of it. -/
def E (i : Fin 2) (c : Dev nD) : sProp 𝕄 :=
  match i with
  | 0 => iprop((∃ r, prngReg c r) ∗ talk m c ∗ ∃ W, owes (c : Thread nD τ) (O₀ c) W)
  | 1 => iprop(zero c (.reg barS) ∗ ∃ W, owes (c : Thread nD τ) (0 : CellTallies nD τ sig ℕ) W)

theorem pre (c : Dev nD) : iprop(StableHlo.held (c : Thread nD τ) (Pipeline.ucRefs τ sig) (V1 m c) ∗ E m 0 c) ⊢ (region m).pre c := by
  show _ ⊢ iprop(StableHlo.held (c : Thread nD τ) (Pipeline.arrRefs spec0) (V1 m c) ∗ (∃ r, prngReg c r)
    ∗ (StableHlo.held (c : Thread nD τ) others (V1 m c) ∗ iprop(emp)) ∗ talk m c ∗ ∃ Wd, owes (c : Thread nD τ) (0 + O₀ c) Wd)
  rw [StableHlo.held_sub_split (c : Thread nD τ) arr_sub (V1 m c), zero_add]
  unfold E others
  iintro ⟨⟨Ha, Hr⟩, Hp, Ht, HO⟩
  isplitl [Ha]; · iexact Ha
  isplitl [Hp]; · iexact Hp
  isplitl [Hr]
  · isplitl [Hr]; · iexact Hr
    iempintro
  isplitl [Ht] <;> iassumption

theorem post (c : Dev nD) : (region m).post c ⊢ iprop(StableHlo.held (c : Thread nD τ) (Pipeline.ucRefs τ sig) (V2 m (outs m) c) ∗ E m 1 c) := by
  show iprop(StableHlo.held (c : Thread nD τ) (Pipeline.arrRefs spec0) (V2 m (outs m) c) ∗ (∃ r, prngReg c r)
    ∗ (StableHlo.held (c : Thread nD τ) others (V2 m (outs m) c) ∗ iprop(emp)) ∗ zero c (.reg barS) ∗ ∃ Wd, owes (c : Thread nD τ) (0 : CellTallies nD τ sig ℕ) Wd) ⊢ _
  rw [StableHlo.held_sub_split (c : Thread nD τ) arr_sub (V2 m (outs m) c)]
  unfold E others
  iintro ⟨Ha, -, ⟨Hr, -⟩, Hb, HO⟩
  isplitl [Ha Hr]
  · isplitl [Ha] <;> iassumption
  isplitl [Hb] <;> iassumption

/-! ## The launch -/

/-- The whole stock of tokens, kept by one device until it is dealt. -/
def stock (c : Dev nD) : sProp 𝕄 := if c = 0 then BI.own (ER (launchOf barCells scCells toks)) else iprop(emp)

theorem stock_all : (bigSep Finset.univ stock : sProp 𝕄) = BI.own (ER (launchOf barCells scCells toks)) := by
  rw [bigSep_univ_at _ (0 : Dev nD), bigSep_congr (s := Finset.univ.erase (0 : Dev nD)) (Ψ := fun _ => (BI.emp : sProp 𝕄))
    fun c hc => by unfold stock; rw [if_neg (Finset.ne_of_mem_erase hc)]; rfl, BI.bigSep_emp_const]
  unfold stock
  rw [if_pos rfl]
  exact BI.equiv_iff.mp sep_emp

theorem only_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's own things at the launch. -/
def own0 (c : Dev nD) : sProp 𝕄 :=
  iprop(StableHlo.held (c : Thread nD τ) (Pipeline.ucRefs τ sig) (V0 m c) ∗ owes (c : Thread nD τ) (O₀ c) ∅ ∗ prngReg c (ρ c))

theorem enter (K : GSem nD τ sig → ℕ) (c : Dev nD) : iprop(records m K ∗ (linear c ∗ Pipeline.launchCred O₀ c) ∗ own0 m ρ c)
    ⊢ iprop(StableHlo.held (c : Thread nD τ) (Pipeline.ucRefs τ sig) (V0 m c) ∗ E m 0 c) := by
  unfold own0 E
  iintro ⟨#HR, ⟨Hl, HC⟩, Hh, HO, Hp⟩
  isplitl [Hh]; · iexact Hh
  isplitl [Hp]; · iexists (ρ c); iexact Hp
  isplitl [Hl HC]
  · iapply (talk_intro c m K)
    isplitr; · iexact HR
    isplitl [Hl] <;> iassumption
  iexists ∅
  iexact HO

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ stock c)) ∗ levAts L lv)
      ⊢ (|={Set.univ}=> bigSep Finset.univ (fun c : Dev nD => iprop(StableHlo.held (c : Thread nD τ) (Pipeline.ucRefs τ sig) (V0 m c) ∗ E m 0 c)) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ stock c)
      ⊢ (iprop((own0 m ρ c ∗ Pipeline.launchCred O₀ c) ∗ semVal (barCell c) 0 ∗ stock c) : sProp 𝕄) := by
    rw [show unscopedBufs c (fun b => m ((c.tc : Thread nD τ).loc b)) = (StableHlo.held (c : Thread nD τ) (Pipeline.ucRefs τ sig) (V0 m c) : sProp 𝕄) from
      (Pipeline.unscopedBufs_held (Ix := ℕ) (Name := ℕ) (U := UU) (Lvl := ℕ) c (V0 m c)), only_bar]
    unfold own0
    iintro ⟨Hh, Hs, HO, HC, Hp, HG⟩
    isplitl [Hh HO HC Hp]
    · isplitl [Hh HO Hp]
      · isplitl [Hh]; · iexact Hh
        isplitl [HO] <;> iassumption
      iexact HC
    isplitl [Hs] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hshut : bigSep scCells (fun g => (openTok ER g : sProp 𝕄))
      ⊢ bigSep Finset.univ (fun c : Dev nD => (bigSep Finset.univ fun k : Fin 12 => shut (F := F) c (osem k))) :=
    Entails.of_eq (by rw [bigSep_map, bigSep_univ_prod]; rfl)
  iintro ⟨H, #HL⟩
  ihave H := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ stock c))
      ⊢ (bigSep Finset.univ fun c : Dev nD => iprop((own0 m ρ c ∗ Pipeline.launchCred O₀ c) ∗ semVal (barCell c) 0 ∗ stock c) : sProp 𝕄)
      from bigSep_mono fun c _ => hcore c) $$ H
  ihave H := (Entails.of_eq (bigSep_sep' _ _ _)) $$ H
  icases H with ⟨Hoc, H⟩
  ihave H := (Entails.of_eq (bigSep_sep' _ _ _)) $$ H
  icases H with ⟨Hv, HG⟩
  ihave Hoc := (Entails.of_eq (bigSep_sep' _ _ _)) $$ Hoc
  icases Hoc with ⟨Ho, Hc⟩
  ihave Hu := (Entails.of_eq (stock_all (F := F))) $$ HG
  imod (Rounds.fund_launch ER (sched (AA m)) disjoint_cells (fun g _ h => h) toks) $$ [Hv Hu] with ⟨%K, -, #Hinv, #Hr, Hat, Hsh, Htok⟩
  · isplitl [Hv]
    · iapply hv $$ Hv
    · iexact Hu
  imodintro
  iapply (bigSep_with_persistent (R := records m K) (Φ := fun c => iprop((linear c ∗ Pipeline.launchCred O₀ c) ∗ own0 m ρ c)) fun c _ => enter m ρ K c)
  isplitr
  · unfold records invs
    isplitr; · iexact Hinv
    isplitr; · iexact Hr
    iexact HL
  iapply (Entails.of_eq (bigSep_sep' _ _ _).symm)
  isplitr [Ho]
  · iapply (Entails.of_eq (bigSep_sep' _ _ _).symm)
    isplitr [Hc]
    · unfold linear
      iapply (Entails.of_eq (bigSep_sep' _ _ _).symm); isplitl [Hat]; · iapply hat $$ Hat
      iapply (Entails.of_eq (bigSep_sep' _ _ _).symm); isplitl [Hsh]; · iapply hshut $$ Hsh
      iapply (Entails.of_eq (toks_dealt (F := F))) $$ Htok
    · iexact Hc
  · iexact Ho

/-! ## The run -/

theorem only_bar_unscoped : ∀ sm : SemLoc sig, sm.isScoped .tc = false → sm = .reg barS := by decide

/-- Everything a device's memory holds at the end, and its barrier at zero. -/
def final (c : Dev nD) (s : MemSt nD τ sig (Elt F)) : Prop :=
  (∀ b ∈ Pipeline.ucRefs τ sig, s.mem ((c : Thread nD τ).1, b) = V3 m (outs m) c b) ∧ s.sem (barCell c) = 0

set_option backward.isDefEq.respectTransparency.types false in
/-- From any memory with zero counters every fair execution on the eight devices ends, with every buffer of device memory
as the last stretch of the host program leaves it and every semaphore at zero. -/
theorem run_all :
    θ_run defs (onTc (τ := τ) (main (F := F))) ⟨m, fun _ => 0, ρ⟩ (fun r =>
      (∀ c : Dev nD, ∀ b ∈ Pipeline.ucRefs τ sig, r.2.mem ((c : Thread nD τ).1, b) = V3 m (outs m) c b) ∧ r.2.sem = fun _ => 0) := by
  refine Pipeline.θ_run_regions_kit_dev_sems (pcfgs (F := F)) adm (pdats m) 0 cellOf_inj EP defs₀ 𝒱₀ L lv m ρ main
    (segs m (outs m) 𝒱₀ L lv (E m) 0 (pdats m) (region m))
    (fun c Q => by
      rewrite [main_chain c, Pipeline.Seg.run_eq_chain,
        show (segs m (outs m) 𝒱₀ L lv (E m) 0 (pdats m) (region m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne stock
    (initOf (Pipeline.cells cfgs cellOf_inj) (Pipeline.launchToks cfgs cellOf_inj), launchOf barCells scCells toks)
    (by
      iintro Hu
      ihave H := (ownU_pair _ _) $$ Hu
      icases H with ⟨HP, HX⟩
      imodintro
      isplitl [HP]; · iexact HP
      iapply (Entails.of_eq (stock_all (F := F)).symm) $$ HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ zero c (.reg barS)))
    (hch := fun c => ⟨.rfl, pre m c, post m c, ?_⟩)
    (hinit := init m ρ) (QY := final m)
    (hfin := fun c s' => ?_) (hQ := fun s h hs => ⟨fun c => (h c).1, sem_eq_zero hs fun c sm hsm => by
      obtain rfl := only_bar_unscoped sm hsm
      exact (h c).2⟩)
  · show iprop(StableHlo.held (c : Thread nD τ) (Pipeline.ucRefs τ sig) (V3 m (outs m) c)
        ∗ (zero c (.reg barS) ∗ ∃ W, owes (c : Thread nD τ) (0 : CellTallies nD τ sig ℕ) W)) ⊢ _
    iintro ⟨Hh, Hb, HO⟩
    isplitr [HO]
    · isplitl [Hh] <;> iassumption
    iexact HO
  · unfold StableHlo.held zero
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨h, by simp at hb; exact hb⟩
    · iexact HSI

end Run

end Cert.KernelIdeal.Cube

end
-- ==== Proof.Frames.lean ====
/-
# What every run leaves: the arguments as they were, the semaphores at zero

`run_main` reads the program's run at its result and at its arguments. The three frames follow from it and from the
reference's own run.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.KernelIdeal.Cube

open Idealize.ShloMosaic Idealize.ShloMosaic.TcCoe
open Idealize.SL.Sem
open Cert.KernelIdeal Cert.KernelIdeal.Gen

variable {F : FTy → Type} [FloatOps F]
variable (m : (ℓ : Loc nD τ sig) → Buf (Elt F) ℓ) (ρ : Dev nD → PrngReg)

/-- Every device ends with the result the last host operation computes, its arguments as launched, and every semaphore
of the machine at zero. -/
theorem run_main :
    θ_run defs (onTc (τ := τ) (main (F := F))) ⟨m, fun _ => 0, ρ⟩ (fun r =>
      (∀ c : Dev nD, r.2.mem ((c : Thread nD τ).loc main_v19) = V3 m (outs m) c main_v19
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  (θ_run defs _ _).mono (fun _ h => ⟨fun c =>
    ⟨h.1 c (Proc.devRef .tc main_v19) (Finset.mem_filter.mpr ⟨StableHlo.devRef_mem_tcRefs main_v19, by decide⟩),
      (h.1 c (Proc.devRef .tc main_arg0) (Finset.mem_filter.mpr ⟨StableHlo.devRef_mem_tcRefs main_arg0, by decide⟩)).trans
        (V3_main_arg0 m (outs m) c),
      (h.1 c (Proc.devRef .tc main_arg1) (Finset.mem_filter.mpr ⟨StableHlo.devRef_mem_tcRefs main_arg1, by decide⟩)).trans
        (V3_main_arg1 m (outs m) c),
      (h.1 c (Proc.devRef .tc main_arg2) (Finset.mem_filter.mpr ⟨StableHlo.devRef_mem_tcRefs main_arg2, by decide⟩)).trans
        (V3_main_arg2 m (outs m) c),
      (h.1 c (Proc.devRef .tc main_arg3) (Finset.mem_filter.mpr ⟨StableHlo.devRef_mem_tcRefs main_arg3, by decide⟩)).trans
        (V3_main_arg3 m (outs m) c),
      (h.1 c (Proc.devRef .tc main_arg4) (Finset.mem_filter.mpr ⟨StableHlo.devRef_mem_tcRefs main_arg4, by decide⟩)).trans
        (V3_main_arg4 m (outs m) c)⟩, h.2⟩) (run_all m ρ)

/-! ## One text, two readings -/

set_option maxRecDepth 20000 in
/-- The two programs' bodies are the same functions. -/
theorem bodies_same : @Cert.Kernel.defs₀ F _ Cert.Kernel.Gen.facts = @Cert.KernelIdeal.defs₀ F _ Cert.KernelIdeal.Gen.facts :=
  congrArg (Defs.onTc (nD := nD) (τ := τ) (sig := sig) (Λ := Λ₀)) (funext fun l => funext fun p => by
    match l, p with
    | 0, (t, s) => rfl
    | ⟨_ + 1, h⟩, _ => exact absurd h (Nat.not_lt.2 (Nat.le_add_left _ _)))

set_option maxRecDepth 20000 in
/-- And so are all the functions each of them calls. -/
theorem defs_same : @Cert.Kernel.defs F _ Cert.Kernel.Gen.facts = @Cert.KernelIdeal.defs F _ Cert.KernelIdeal.Gen.facts :=
  congrArg (Pipeline.defs (Cert.KernelIdeal.pcfgs (F := F))) bodies_same

/-- A run depends on the functions called only through what they are. -/
theorem run_same {Val : EltTy → Type} {Λ : Labels} {D D' : Defs nD τ sig Val Λ} (hD : D = D') {p} {s} {Q} (h : θ_run D' p s Q) :
    θ_run D p s Q := by
  subst hD
  exact h

set_option maxRecDepth 20000 in
/-- The program read at the words the machine holds. -/
theorem frame_kernel : Cert.quiescent_Kernel := fun m ρ _ =>
  run_same defs_same (by
    refine (θ_run Cert.KernelIdeal.defs _ _).mono (fun _ h => ?_) (run_main (F := Bits) m ρ)
    exact ⟨fun c => (h.1 c).2, h.2⟩)

/-- The same program read at exact numbers. -/
theorem frame_ideal : Cert.quiescent_KernelIdeal := fun m ρ _ =>
  (θ_run Cert.KernelIdeal.defs _ _).mono (fun _ h => ⟨fun c => (h.1 c).2, h.2⟩) (run_main (F := Ideal) m ρ)

/-- The reference, which has no semaphore to leave. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Cube

end
-- ==== Proof.Att.lean ====
/-
# Block-causal attention, one head of one batch, over the extended reals

Rows are queries, columns keys; a query sees the keys of its own block of 64 and of the blocks before it. This module states the
arithmetic with no program in it, and reads the kernel's head as it.
-/
module

public import proofs.«01_k».proof.Proof.Heads
public import Idealize.ShloMosaic.Lib.Pointwise

@[expose] public section

noncomputable section

namespace Cert.KernelIdeal.Cube

open Idealize.ShloMosaic
open Cert.KernelIdeal Cert.KernelIdeal.Gen
open scoped BigOperators

/-- The scale of a score, an eighth. -/
def eighth : EReal := Ideal.ofBits .f32 0x3E000000#32
/-- The score of a key that is not seen. -/
def unseen : EReal := Ideal.ofBits .f32 0xCE6E6B28#32
/-- Where a row's maximum starts. -/
def lowest : EReal := Ideal.ofBits .f32 0xFF800000#32

/-- The largest entry of a row. -/
def top (s : Fin 512 → EReal) : EReal := Finset.univ.fold max lowest s

/-- The softmax of a row. -/
def soft (s : Fin 512 → EReal) (j : Fin 512) : EReal :=
  Ideal.div (Ideal.exp (s j - top s)) (∑ l : Fin 512, Ideal.exp (s l - top s))

/-- The scores of a query against all keys. -/
def score (q : Fin 64 → EReal) (k : Fin 512 → Fin 64 → EReal) (i j : Fin 512) : EReal :=
  if j.val / 64 ≤ i.val / 64 then (∑ d : Fin 64, q d * k j d) * eighth else unseen

/-- What the head gives a query: the values, each by its weight. -/
def att (q : Fin 64 → EReal) (k v : Fin 512 → Fin 64 → EReal) (i : Fin 512) (d : Fin 64) : EReal :=
  ∑ j : Fin 512, soft (score q k i) j * v j d

/-! ## The mask -/

/-- The block a position lies in, as the programs find it: a quotient rounded down. -/
def blockOf (x : BitVec 32) : BitVec 32 :=
  Scalar.select (IntOp.andi (IntOp.cmpi .ne (IntOp.subi ((IntOp.cmpi .sgt x 0#32).setWidth 32) ((IntOp.cmpi .slt x 0#32).setWidth 32))
      (IntOp.subi ((IntOp.cmpi .sgt (64#32) 0#32).setWidth 32) ((IntOp.cmpi .slt (64#32) 0#32).setWidth 32)))
    (IntOp.cmpi .ne (IntOp.remsi .vector x 64#32) 0#32)) (IntOp.subi (IntOp.divsi .vector x 64#32) 1#32) (IntOp.divsi .vector x 64#32)

set_option maxRecDepth 4000 in
theorem blockOf_eq : ∀ i : Fin 512, blockOf (BitVec.ofNat 32 i.val) = BitVec.ofNat 32 (i.val / 64) := by decide +kernel

theorem block_le : ∀ a b : Fin 8, IntOp.cmpi .sle (BitVec.ofNat 32 a.val) (BitVec.ofNat 32 b.val) = if a.val ≤ b.val then 1#1 else 0#1 := by
  decide +kernel

/-- Whether key `j` is seen by query `i`, as a bit. -/
theorem seen (i j : Fin 512) : IntOp.cmpi .sle (blockOf (BitVec.ofNat 32 j.val)) (blockOf (BitVec.ofNat 32 i.val))
    = if j.val / 64 ≤ i.val / 64 then 1#1 else 0#1 := by
  rw [blockOf_eq, blockOf_eq]
  exact block_le ⟨j.val / 64, by omega⟩ ⟨i.val / 64, by omega⟩

theorem mask_row (i j : Fin 512) : iota .tc S512x512 32 [0] iota_S512x512_d0_w32 (ix2 i j) = BitVec.ofNat 32 i.val := by pointwise
theorem mask_col (i j : Fin 512) : iota .tc S512x512 32 [1] iota_S512x512_d1_w32 (ix2 i j) = BitVec.ofNat 32 j.val := by pointwise

theorem mask_at (i j : Fin 512) : maskV (ix2 i j) = if j.val / 64 ≤ i.val / 64 then 1#1 else 0#1 := by
  refine Eq.trans ?_ (seen i j)
  rw [← mask_row i j, ← mask_col i j]
  rfl

/-! ## The kernel's head -/

section Head

variable (o : Fin 2 → ℕ) (ho : S1024x512.Slices o S512x64) (M : IVec S512x512 1) (Q : FVec Ideal S1024x512 .f32) (k v : Vec Ideal S1x1x512x64 .f32)

theorem pay10_at (s : FVec Ideal S512x512 .f32) (i : Fin 512) (d : Fin 64) :
    k0_pay10 s v (ix2 i d) = ∑ j : Fin 512, soft (fun j => s (ix2 i j)) j * v (ix4 0 0 j d) := by
  pointwise [k0_pay10]
  rfl

/-- The masked, scaled scores at one place. -/
theorem scores_at (hM : ∀ i j : Fin 512, M (ix2 i j) = if j.val / 64 ≤ i.val / 64 then 1#1 else 0#1) (i j : Fin 512) :
    (select M (mulf (matmul dot_S512x64_S512x64_S512x512_1_1_0_0_n_n none (extractStridedSlice S512x64 o Q ho : FVec Ideal S512x64 .f32)
        (shapeCast S512x64 k shapeCasts_S1x1x512x64_S512x64 : FVec Ideal S512x64 .f32) (constant S512x512 .f32 0x00000000#32))
      (broadcast S512x512 (Scalar.ofBits .f32 0x3E000000#32))) (broadcast S512x512 (Scalar.ofBits .f32 0xCE6E6B28#32)) : FVec Ideal S512x512 .f32) (ix2 i j)
      = score (fun d => extractStridedSlice S512x64 o Q ho (ix2 i d)) (fun j d => k (ix4 0 0 j d)) i j := by
  rw [show ∀ a b : FVec Ideal S512x512 .f32, select M a b (ix2 i j) = Scalar.select (M (ix2 i j)) (a (ix2 i j)) (b (ix2 i j)) from fun _ _ => rfl, hM]
  unfold score
  generalize extractStridedSlice S512x64 o Q ho = q
  split
  · refine (if_pos rfl).trans ?_
    pointwise
    rfl
  · exact (if_neg (by decide)).trans rfl

/-- One head, at one place. -/
theorem head_at (i : Fin 512) (d : Fin 64) :
    headAt (F := Ideal) o ho maskV Q k v (ix2 i d)
      = att (fun d => extractStridedSlice S512x64 o Q ho (ix2 i d)) (fun j d => k (ix4 0 0 j d)) (fun j d => v (ix4 0 0 j d)) i d := by
  unfold headAt att
  rw [pay10_at]
  refine Finset.sum_congr rfl fun j _ => ?_
  rw [show (fun j => _) = _ from funext fun j => scores_at o ho maskV Q k mask_at i j]

end Head

/-! ## The two products around it -/

/-- The queries of a device's heads, at one place. -/
theorem query_at (fx : S1024x768.Idx → Elt Ideal .f32) (fw : S768x512.Idx → Elt Ideal .f32) (r : Fin 1024) (n : Fin 512) :
    k0_pay5 (F := Ideal) fx fw (ix2 r n) = ∑ k : Fin 768, fx (ix2 r k) * fw (ix2 k n) := by
  pointwise [k0_pay5]

/-- The device's addend, at one place. -/
theorem addend_at (ctx : S1024x512.Idx → Elt Ideal .f32) (fo : S512x768.Idx → Elt Ideal .f32) (r : Fin 1024) (n : Fin 768) :
    k0_pay33 (F := Ideal) ctx fo (ix2 r n) = ∑ k : Fin 512, ctx (ix2 r k) * fo (ix2 k n) := by
  pointwise [k0_pay33]

/-- The context of a device, at one place: its head, its batch, its query and its column. -/
theorem ctx_at (fx : S1024x768.Idx → Elt Ideal .f32) (fw : S768x512.Idx → Elt Ideal .f32) (fk fv : S2x8x512x64.Idx → Elt Ideal .f32)
    (b : Fin 2) (h : Fin 8) (i : Fin 512) (d : Fin 64) :
    ctxV fx fw fk fv (ix2 ⟨512 * b.val + i.val, by omega⟩ ⟨64 * h.val + d.val, by omega⟩)
      = att (fun d => ∑ k : Fin 768, fx (ix2 ⟨512 * b.val + i.val, by omega⟩ k) * fw (ix2 k ⟨64 * h.val + d.val, by omega⟩))
          (fun j d => fk (ix4 b h j d)) (fun j d => fv (ix4 b h j d)) i d := by
  have hn : tileNo (ix2 ⟨512 * b.val + i.val, by omega⟩ ⟨64 * h.val + d.val, by omega⟩) = 8 * b.val + h.val := by
    show (512 * b.val + i.val) / 512 * 8 + (64 * h.val + d.val) / 64 = _
    omega
  have ht : inTile (ix2 ⟨512 * b.val + i.val, by omega⟩ ⟨64 * h.val + d.val, by omega⟩) = ix2 i d := by
    funext a
    apply Fin.ext
    match a with
    | ⟨0, _⟩ => show (512 * b.val + i.val) % 512 = i.val; omega
    | ⟨1, _⟩ => show (64 * h.val + d.val) % 64 = d.val; omega
  have key : ∀ f : S2x8x512x64.Idx → Elt Ideal .f32, ∀ t : Fin 16, t.val = 8 * b.val + h.val → ∀ j d,
      keyT f t (ix4 0 0 j d) = f (ix4 b h j d) := fun f t htt j d => congrArg f (funext fun a => Fin.ext (by
    match a with
    | ⟨0, _⟩ => show t.val / 8 + 1 * 0 = b.val; omega
    | ⟨1, _⟩ => show t.val % 8 + 1 * 0 = h.val; omega
    | ⟨2, _⟩ => show 0 + 1 * j.val = j.val; omega
    | ⟨3, _⟩ => show 0 + 1 * d.val = d.val; omega))
  unfold ctxV
  rw [ht]
  generalize htt : (⟨tileNo _, tileNo_lt _⟩ : Fin 16) = t
  have htv : t.val = 8 * b.val + h.val := by rw [← htt]; exact hn
  unfold headT
  rw [head_at]
  simp only [key _ t htv]
  congr 1
  funext d'
  rw [← query_at]
  refine congrArg (k0_pay5 fx fw) (funext fun a => Fin.ext ?_)
  match a with
  | ⟨0, _⟩ => show 512 * (t.val / 8) + i.val = _; show _ = 512 * b.val + i.val; omega
  | ⟨1, _⟩ => show 64 * (t.val % 8) + d'.val = _; show _ = 64 * h.val + d'.val; omega

end Cert.KernelIdeal.Cube

end
-- ==== Proof.Total.lean ====
/-
# What the halving leaves is the sum over the eight devices

Over the extended reals addition is commutative and associative, so the order in which the cube adds does not matter.
-/
module

public import proofs.«01_k».proof.Proof.Fill
public import Idealize.ShloMosaic.Lib.Pointwise

@[expose] public section

noncomputable section

namespace Cert.KernelIdeal.Cube

open Idealize.ShloMosaic
open Cert.KernelIdeal Cert.KernelIdeal.Gen
open scoped BigOperators

/-- The devices whose addends device `c` has after three rounds, in the order it adds them. -/
def path (p : Fin 3) (c : Dev nD) : List (Dev nD) :=
  let x := mate (dm 0 p); let y := mate (dm 1 p); let z := mate (dm 2 p)
  [c, x c, y c, x (y c), z c, x (z c), y (z c), x (y (z c))]

/-- They are all eight, each once. -/
theorem path_all : ∀ (p : Fin 3) (c : Dev nD), (path p c).Perm (List.finRange 8) := by decide

theorem A_three (A0 : Dev nD → Tab Ideal) (p : Fin 3) (c : Dev nD) (r j : ℕ) :
    A A0 3 p c r j = ((path p c).map fun d => A0 d r j).sum := by
  show ((A0 _ r j + A0 _ r j) + (A0 _ r j + A0 _ r j)) + ((A0 _ r j + A0 _ r j) + (A0 _ r j + A0 _ r j)) = _
  simp only [path, List.map_cons, List.map_nil, List.sum_cons, List.sum_nil, add_zero]
  ac_rfl

/-- The reduced table at one place: the sum of all devices' addends there. -/
theorem total (A0 : Dev nD → Tab Ideal) (p : Fin 3) (r j : ℕ) : Rp A0 p r j = ∑ d : Fin 8, A0 d r j := by
  unfold Rp
  rw [A_three, ((path_all p _).map _).sum_eq, ← Fin.sum_ofFn]
  exact congrArg List.sum (List.ofFn_eq_map ..).symm

end Cert.KernelIdeal.Cube

end
-- ==== Proof.Ends.lean ====
/-
# The arrays a device's kernel is given

What the host operations before the launch leave in the kernel's operands: the rows of the input, and the keys and values of the
device's own eight heads.
-/
module

public import proofs.«01_k».proof.Proof.Run
public import Idealize.ShloMosaic.Lib.StableHlo.RunRead
public import Idealize.ShloMosaic.Lib.DynamicIndex
public import Idealize.ShloMosaic.Lib.Pointwise
public import Idealize.ShloMosaic.Lib.Pipeline.ValueKit.Geometry

@[expose] public section

noncomputable section

namespace Cert.KernelIdeal.Cube

open Idealize.ShloMosaic Idealize.ShloMosaic.TcCoe
open Idealize.ShloMosaic.Pipeline (Dat)
open Cert.KernelIdeal Cert.KernelIdeal.Gen

variable {F : FTy → Type} [FloatOps F] (m : (ℓ : Loc nD τ sig) → Buf (Elt F) ℓ)

/-- A device's first head, as the host's word operations find it from the device's number. -/
def firstHead (x : BitVec 32) : BitVec 32 :=
  let y := IntOp.muli (IntOp.remui .host (IntOp.divui .host x 1#32) 8#32) 8#32
  Scalar.select (IntOp.cmpi .slt y 0#32) (IntOp.addi y 64#32) y

theorem firstHead_eq : ∀ c : Dev nD, (firstHead (Dev.word c)).toInt = ((8 * c.val : ℕ) : Int) := by decide +kernel

/-- The eight heads of device `c`, out of all the heads of an array. -/
def heads (c : Dev nD) (x : S2x512x64x64.Idx → Elt F .f32) : S2x8x512x64.Idx → Elt F .f32 :=
  transpose S2x8x512x64 [0, 2, 1, 3] (Host.dynamicSlice S2x512x8x64 x
    (fun k => ((![constantI S_ 32 0#32, constantI S_ 32 0#32, (fun _ => firstHead (Dev.word c)), constantI S_ 32 0#32] : Fin 4 → S_.Idx → BitVec 32) k
      (Shape.Idx.first h_S_)).toInt) sliceFits_S2x512x64x64_S2x512x8x64) transposes_S2x512x8x64_S2x8x512x64_0_2_1_3

theorem V1_keys (c : Dev nD) : V1 m c main_v15 = heads c (m ((c : Thread nD τ).loc main_arg2)) := by
  unfold heads
  after_reads_simp
  refine congrArg (fun e => transpose S2x8x512x64 [0, 2, 1, 3] (Host.dynamicSlice S2x512x8x64 _ e _) _) (funext fun k => ?_)
  fin_cases k
  all_goals
    dsimp only [Fin.zero_eta, Fin.mk_one, Fin.reduceFinMk, Matrix.cons_val]
    after_reads_simp
    rfl

theorem V1_values (c : Dev nD) : V1 m c main_v16 = heads c (m ((c : Thread nD τ).loc main_arg3)) := by
  unfold heads
  after_reads_simp
  refine congrArg (fun e => transpose S2x8x512x64 [0, 2, 1, 3] (Host.dynamicSlice S2x512x8x64 _ e _) _) (funext fun k => ?_)
  fin_cases k
  all_goals
    dsimp only [Fin.zero_eta, Fin.mk_one, Fin.reduceFinMk, Matrix.cons_val]
    after_reads_simp
    rfl

theorem V1_rows (c : Dev nD) : V1 m c main_v17 = shapeCast S1024x768 (m ((c : Thread nD τ).loc main_arg0)) shapeCasts_S2x512x768_S1024x768 := by
  after_reads_simp
  rfl

theorem heads_at (c : Dev nD) (x : S2x512x64x64.Idx → Elt F .f32) (b : Fin 2) (h : Fin 8) (j : Fin 512) (d : Fin 64) :
    heads c x (ix4 b h j d) = x (ix4 b j ⟨8 * c.val + h.val, by have := c.isLt; unfold nD at this; omega⟩ d) := by
  have hc : c.val < 8 := c.isLt
  unfold heads
  rw [Host.dynamicSlice_eq_extractStridedSlice (off := ![0, 0, 8 * c.val, 0]) (hoff := ?_) (hs := ?_)]
  · pointwise
  · refine ⟨rfl, fun a => ?_⟩
    fin_cases a
    · exact Nat.le_refl 2
    · exact Nat.le_refl 512
    · show 8 * c.val + 8 ≤ 64
      omega
    · exact Nat.le_refl 64
  · intro a
    fin_cases a
    · rfl
    · rfl
    · exact firstHead_eq c
    · rfl

/-! ## A block that is the whole array -/

theorem inX_eq (c : Dev nD) : inX m c = shapeCast S1024x768 (m ((c : Thread nD τ).loc main_arg0)) shapeCasts_S2x512x768_S1024x768 := by
  rw [← V1_rows]
  funext y
  refine congrArg (V1 m c main_v17) (funext fun a => Fin.ext ?_)
  fin_cases a
  · show 0 + 1 * (y 0).val = (y 0).val
    omega
  · show 0 + 1 * (y 1).val = (y 1).val
    omega

theorem inK_eq (c : Dev nD) : inK m c = heads c (m ((c : Thread nD τ).loc main_arg2)) := by
  rw [← V1_keys]
  funext y
  refine congrArg (V1 m c main_v15) (funext fun a => Fin.ext ?_)
  fin_cases a
  · show 0 + 1 * (y 0).val = (y 0).val
    omega
  · show 0 + 1 * (y 1).val = (y 1).val
    omega
  · show 0 + 1 * (y 2).val = (y 2).val
    omega
  · show 0 + 1 * (y 3).val = (y 3).val
    omega

theorem inV_eq (c : Dev nD) : inV m c = heads c (m ((c : Thread nD τ).loc main_arg3)) := by
  rw [← V1_values]
  funext y
  refine congrArg (V1 m c main_v16) (funext fun a => Fin.ext ?_)
  fin_cases a
  · show 0 + 1 * (y 0).val = (y 0).val
    omega
  · show 0 + 1 * (y 1).val = (y 1).val
    omega
  · show 0 + 1 * (y 2).val = (y 2).val
    omega
  · show 0 + 1 * (y 3).val = (y 3).val
    omega

theorem inW_eq (c : Dev nD) : inW m c = m ((c : Thread nD τ).loc main_arg1) := by
  rw [← show V1 m c main_arg1 = m ((c : Thread nD τ).loc main_arg1) from V1_of m c main_arg1 (by decide)]
  funext y
  refine congrArg (V1 m c main_arg1) (funext fun a => Fin.ext ?_)
  fin_cases a
  · show 0 + 1 * (y 0).val = (y 0).val
    omega
  · show 0 + 1 * (y 1).val = (y 1).val
    omega

theorem inO_eq (c : Dev nD) : inO m c = m ((c : Thread nD τ).loc main_arg4) := by
  rw [← show V1 m c main_arg4 = m ((c : Thread nD τ).loc main_arg4) from V1_of m c main_arg4 (by decide)]
  funext y
  refine congrArg (V1 m c main_arg4) (funext fun a => Fin.ext ?_)
  fin_cases a
  · show 0 + 1 * (y 0).val = (y 0).val
    omega
  · show 0 + 1 * (y 1).val = (y 1).val
    omega

/-! ## The array the kernel leaves -/

theorem res_eq (c : Dev nD) : res m c = sumV (AA m) := by
  unfold res
  refine Dat.arrAt_eq_of_covers _ 5 _ (by decide +kernel) fun t ht y => ?_
  obtain rfl : t = t0_0 := fin_N0 t
  refine congrArg (sumV (AA m)) (funext fun a => Fin.ext ?_)
  fin_cases a
  · show (y 0).val = 0 + 1 * (y 0).val
    omega
  · show (y 1).val = 0 + 1 * (y 1).val
    omega

theorem V3_out (c : Dev nD) : V3 m (outs m) c main_v19 = shapeCast S2x512x768 (sumV (AA m)) shapeCasts_S1024x768_S2x512x768 := by
  rw [← res_eq m c, ← V2_res]
  after_reads_simp
  rfl

end Cert.KernelIdeal.Cube

end
-- ==== Proof.RefVal.lean ====
/-
# What the reference computes, at one place

The reference's composed term is cut at its intermediate arrays, and each is read at an index. The row that is kept whenever some
key is seen is always kept: every query sees the first key.
-/
module

public import proofs.«01_k».proof.Proof.Gen.ReferenceIdeal.Run
public import proofs.«01_k».proof.Proof.Att

@[expose] public section

noncomputable section

namespace Cert.ReferenceIdeal.Rows

open Idealize.ShloMosaic Idealize.ShloMosaic.TcCoe
open Cert.ReferenceIdeal Cert.ReferenceIdeal.Gen
open Cert.KernelIdeal.Cube (eighth unseen lowest top soft score att)
open scoped BigOperators

/-! ## The intermediate arrays -/

/-- The block of each position. -/
def blocks : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

/-- The mask: a key's block is not after the query's. -/
def mask : IVec S512x512 1 :=
  cmpi .sle (broadcastInDim S512x512 ![0, 1] bcast_S1x512_S512x512_0_1 (broadcastInDim S1x512 ![1] bcast_S512_S1x512_1 blocks))
    (broadcastInDim S512x512 ![0, 1] bcast_S512x1_S512x512_0_1 (broadcastInDim S512x1 ![0] bcast_S512_S512x1_0 blocks))

/-- Whether a query sees any key. -/
def keep : IVec S512 1 := Host.reduce IntOp.ori mask (constantI S_ 1 0#1) reducesTo_S512x512_S512_d1 h_S_

section Values

variable (X : FVec Ideal S2x512x768 .f32) (Wq : FVec Ideal S768x4096 .f32) (K V : FVec Ideal S2x512x64x64 .f32) (Wo : FVec Ideal S4096x768 .f32)

/-- The queries, by head. -/
def queries : FVec Ideal S2x512x64x64 .f32 :=
  shapeCast _ (Host.dotGeneral dot_S2x512x768_S768x4096_S2x512x4096_2_0_01_1_n_n none X Wq) shapeCasts_S2x512x4096_S2x512x64x64

/-- The masked, scaled scores. -/
def scores : FVec Ideal S2x64x512x512 .f32 :=
  select (broadcastInDim S2x64x512x512 ![0, 1, 2, 3] bcast_S1x1x512x512_S2x64x512x512_0_1_2_3
      (broadcastInDim S1x1x512x512 ![2, 3] bcast_S512x512_S1x1x512x512_2_3 mask))
    (mulf (Host.dotGeneral dot_S2x512x64x64_S2x512x64x64_S2x64x512x512_3_3_1_1_02_02 none (queries X Wq) K)
      (broadcastInDim S2x64x512x512 ![] bcast_S_S2x64x512x512 (constant S_ .f32 0x3E000000#32)))
    (broadcastInDim S2x64x512x512 ![] bcast_S_S2x64x512x512 (id (constant S_ .f32 0xCE6E6B28#32)))

/-- The exponentials of scores less their row's maximum. -/
def powers (s : FVec Ideal S2x64x512x512 .f32) : FVec Ideal S2x64x512x512 .f32 :=
  Host.exp (subf s (broadcastInDim S2x64x512x512 ![0, 1, 2, 3] bcast_S2x64x512x1_S2x64x512x512_0_1_2_3
    (broadcastInDim S2x64x512x1 ![0, 1, 2] bcast_S2x64x512_S2x64x512x1_0_1_2
      (Host.reduce FloatOps.maximumf s (constant S_ .f32 0xFF800000#32) reducesTo_S2x64x512x512_S2x64x512_d3 h_S_))))

/-- The weights. -/
def weights (s : FVec Ideal S2x64x512x512 .f32) : FVec Ideal S2x64x512x512 .f32 :=
  select (broadcastInDim S2x64x512x512 ![0, 1, 2, 3] bcast_S1x1x512x1_S2x64x512x512_0_1_2_3 (broadcastInDim S1x1x512x1 ![2] bcast_S512_S1x1x512x1_2 keep))
    (Host.divf (powers s) (broadcastInDim S2x64x512x512 ![0, 1, 2, 3] bcast_S2x64x512x1_S2x64x512x512_0_1_2_3
      (select (broadcastInDim S2x64x512x1 ![0, 1, 2, 3] bcast_S1x1x512x1_S2x64x512x1_0_1_2_3 (broadcastInDim S1x1x512x1 ![2] bcast_S512_S1x1x512x1_2 keep))
        (broadcastInDim S2x64x512x1 ![0, 1, 2] bcast_S2x64x512_S2x64x512x1_0_1_2
          (Host.reduceAdd (powers s) (constant S_ .f32 0x00000000#32) reducesTo_S2x64x512x512_S2x64x512_d3 h_S_))
        (broadcastInDim S2x64x512x1 ![] bcast_S_S2x64x512x1 (id (constant S_ .f32 0x3F800000#32))))))
    (broadcastInDim S2x64x512x512 ![] bcast_S_S2x64x512x512 (id (constant S_ .f32 0x00000000#32)))

/-- The context, its heads side by side. -/
def context (w : FVec Ideal S2x64x512x512 .f32) : FVec Ideal S2x512x4096 .f32 :=
  shapeCast _ (transpose S2x512x64x64 [0, 3, 1, 2] (Host.dotGeneral dot_S2x512x64x64_S2x64x512x512_S2x64x64x512_1_3_3_2_02_01 none V w)
    transposes_S2x64x64x512_S2x512x64x64_0_3_1_2) shapeCasts_S2x512x64x64_S2x512x4096

/-- The result. -/
def result : FVec Ideal S2x512x768 .f32 :=
  Host.dotGeneral dot_S2x512x4096_S4096x768_S2x512x768_2_0_01_1_n_n none (context V (weights (scores X Wq K))) Wo

/-! ## Read at an index -/

/-- A word's sign. -/
def signWord (x : BitVec 32) : BitVec 32 := if x = 0 then 0 else if x.msb then -1 else 1

/-- The block of a position, as the reference's word operations find it. -/
def blockWord (x : BitVec 32) : BitVec 32 :=
  Scalar.select (IntOp.andi (IntOp.cmpi .ne (signWord x) (signWord 64#32)) (IntOp.cmpi .ne (IntOp.remsi .host x 64#32) 0#32))
    (IntOp.subi (IntOp.divsi .host x 64#32) 1#32) (IntOp.divsi .host x 64#32)

set_option maxRecDepth 4000 in
theorem blockWord_eq : ∀ i : Fin 512, blockWord (BitVec.ofNat 32 i.val) = BitVec.ofNat 32 (i.val / 64) := by decide +kernel

theorem blocks_at (i : Fin 512) : blocks (ix1 i) = BitVec.ofNat 32 (i.val / 64) :=
  Eq.trans rfl (blockWord_eq i)

theorem mask_at (i j : Fin 512) : mask (ix2 i j) = if j.val / 64 ≤ i.val / 64 then 1#1 else 0#1 := by
  refine Eq.trans ?_ (Cert.KernelIdeal.Cube.block_le ⟨j.val / 64, by omega⟩ ⟨i.val / 64, by omega⟩)
  show _ = IntOp.cmpi .sle (BitVec.ofNat 32 (j.val / 64)) (BitVec.ofNat 32 (i.val / 64))
  rw [← blocks_at i, ← blocks_at j]
  unfold mask
  pointwise

/-- A disjunction over positions one of which is set is set. -/
theorem fold_ori (f : Fin 512 → BitVec 1) (z : BitVec 1) (a : Fin 512) (h : f a = 1#1) :
    (Finset.univ : Finset (Fin 512)).fold IntOp.ori z f = 1#1 := by
  have h1 : ∀ x : BitVec 1, IntOp.ori 1#1 x = 1#1 := by decide
  rw [← Finset.insert_erase (Finset.mem_univ a), Finset.fold_insert (Finset.notMem_erase _ _), h]
  exact h1 _

theorem rows_last : S512x512.Reduces [1] S512 := by decide

theorem keep_at (i : Fin 512) : keep (ix1 i) = 1#1 := by
  unfold keep
  rw [Host.reduce_eq_fold_single _ _ _ _ rows_last]
  refine fold_ori _ _ (0 : Fin 512) ?_
  refine Eq.trans (congrArg mask (a₂ := ix2 i 0) (funext fun a => ?_)) ((mask_at i 0).trans (if_pos (Nat.zero_le _)))
  fin_cases a <;> rfl

theorem queries_at (b : Fin 2) (i : Fin 512) (h d : Fin 64) :
    queries X Wq (ix4 b i h d) = ∑ k : Fin 768, X (ix3 b i k) * Wq (ix2 k ⟨64 * h.val + d.val, by omega⟩) := by
  unfold queries
  pointwise
  simp only [Nat.mul_comm]

theorem scores_at (b : Fin 2) (h : Fin 64) (i j : Fin 512) :
    scores X Wq K (ix4 b h i j) = score (fun d => queries X Wq (ix4 b i h d)) (fun j d => K (ix4 b j h d)) i j := by
  have hm := mask_at i j
  unfold scores score
  pointwise
  rw [hm]
  by_cases hc : j.val / 64 ≤ i.val / 64
  · rw [if_pos hc, if_pos hc]; rfl
  · rw [if_neg hc, if_neg hc]; rfl

theorem powers_at (s : FVec Ideal S2x64x512x512 .f32) (b : Fin 2) (h : Fin 64) (i j : Fin 512) :
    powers s (ix4 b h i j) = Ideal.exp (s (ix4 b h i j) - top fun l => s (ix4 b h i l)) := by
  unfold powers top
  pointwise
  rfl

theorem weights_at (s : FVec Ideal S2x64x512x512 .f32) (b : Fin 2) (h : Fin 64) (i j : Fin 512) :
    weights s (ix4 b h i j) = soft (fun l => s (ix4 b h i l)) j := by
  have hk := keep_at i
  have hp := powers_at s b h i
  unfold weights soft
  pointwise
  rw [hk]
  simp only [hp]
  rfl

theorem context_at (w : FVec Ideal S2x64x512x512 .f32) (b : Fin 2) (i : Fin 512) (h d : Fin 64) :
    context V w (ix3 b i ⟨64 * h.val + d.val, by omega⟩) = ∑ j : Fin 512, w (ix4 b h i j) * V (ix4 b j h d) := by
  unfold context
  pointwise
  exact Finset.sum_congr rfl fun x _ => mul_comm _ _

theorem result_at (b : Fin 2) (i : Fin 512) (n : Fin 768) :
    result X Wq K V Wo (ix3 b i n) = ∑ k : Fin 4096, context V (weights (scores X Wq K)) (ix3 b i k) * Wo (ix2 k n) := by
  unfold result
  pointwise

/-- One head's context, as attention over its columns of the queries and its own keys and values. -/
theorem head_at (b : Fin 2) (i : Fin 512) (h d : Fin 64) :
    context V (weights (scores X Wq K)) (ix3 b i ⟨64 * h.val + d.val, by omega⟩)
      = att (fun d => ∑ k : Fin 768, X (ix3 b i k) * Wq (ix2 k ⟨64 * h.val + d.val, by omega⟩)) (fun j d => K (ix4 b j h d))
        (fun j d => V (ix4 b j h d)) i d := by
  rw [context_at]
  unfold att
  refine Finset.sum_congr rfl fun j _ => ?_
  rw [weights_at]
  simp only [scores_at, queries_at]

end Values

/-- The composed term is the chain of these arrays. -/
theorem res_eq (m : (ℓ : Loc nD τ sig) → Buf (Elt Ideal) ℓ) (c : Dev nD) :
    Cert.ReferenceIdeal.Value.res_main_v33 m c
      = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Cert.ReferenceIdeal.Value.res_main_v33
  rfl

end Cert.ReferenceIdeal.Rows

end
-- ==== Proof.Same.lean ====
/-
# The eight devices' result is the reference's

A device's addend is its eight heads' context times its rows of the output weights; the contraction over all 4096 columns is the sum
over devices of the contractions over 512, and the hypercube gives every device that sum.
-/
module

public import proofs.«01_k».proof.Proof.Att
public import proofs.«01_k».proof.Proof.Total
public import proofs.«01_k».proof.Proof.Ends
public import proofs.«01_k».proof.Proof.RefVal
public import proofs.«01_k».proof.Proof.Frames

@[expose] public section

noncomputable section

namespace Cert.KernelIdeal.Cube

open Idealize.ShloMosaic Idealize.ShloMosaic.TcCoe
open Cert.KernelIdeal Cert.KernelIdeal.Gen
open scoped BigOperators

/-- A sum over `a * b` places, by their quotients and remainders. -/
theorem sum_split {n : ℕ} (a b : ℕ) (h : a * b = n) (f : Fin n → EReal) :
    ∑ k : Fin n, f k = ∑ i : Fin a, ∑ j : Fin b, f ⟨b * i.val + j.val, by
      subst h
      calc b * i.val + j.val < b * i.val + b := Nat.add_lt_add_left j.isLt _
        _ = (i.val + 1) * b := by rw [Nat.add_mul, Nat.mul_comm, Nat.one_mul]
        _ ≤ a * b := Nat.mul_le_mul_right _ i.isLt⟩ := by
  subst h
  rw [← Fintype.sum_prod_type']
  refine (Fintype.sum_equiv finProdFinEquiv _ _ fun x => congrArg f (Fin.ext ?_)).symm
  exact Nat.add_comm _ _

/-- An array of rows by batch, read by row number. -/
theorem split_at (z : FVec Ideal S1024x768 .f32) (b : Fin 2) (i : Fin 512) (n : Fin 768) :
    shapeCast S2x512x768 z shapeCasts_S1024x768_S2x512x768 (ix3 b i n) = z (ix2 ⟨512 * b.val + i.val, by omega⟩ n) := by
  pointwise
  exact congrArg (fun r : Fin 1024 => z (ix2 r n)) (Fin.ext (by dsimp only; omega))

section Values

variable (m : (ℓ : Loc nD τ sig) → Buf (Elt Ideal) ℓ)
variable (X : FVec Ideal S2x512x768 .f32) (Wq : FVec Ideal Cert.ReferenceIdeal.S768x4096 .f32) (K V : FVec Ideal S2x512x64x64 .f32)
  (Wo : FVec Ideal Cert.ReferenceIdeal.S4096x768 .f32)

/-- What the devices hold of the reference's five arrays. -/
structure Held : Prop where
  rows : ∀ c : Dev nD, m ((c : Thread nD τ).loc main_arg0) = X
  query : ∀ c : Dev nD, m ((c : Thread nD τ).loc main_arg1) = Layout.block ⟨2, ![768, 512]⟩ ⟨2, ![768, 4096]⟩ 1 8 c Wq
  keys : ∀ c : Dev nD, m ((c : Thread nD τ).loc main_arg2) = K
  vals : ∀ c : Dev nD, m ((c : Thread nD τ).loc main_arg3) = V
  out : ∀ c : Dev nD, m ((c : Thread nD τ).loc main_arg4) = Layout.block ⟨2, ![512, 768]⟩ ⟨2, ![4096, 768]⟩ 0 8 c Wo

variable {m X Wq K V Wo} (H : Held m X Wq K V Wo)
include H

theorem inX_at (c : Dev nD) (b : Fin 2) (i : Fin 512) (k : Fin 768) : inX m c (ix2 ⟨512 * b.val + i.val, by omega⟩ k) = X (ix3 b i k) := by
  rw [inX_eq, H.rows]
  refine (split_at _ b i k).symm.trans ?_
  rw [shapeCast_shapeCast]

theorem inW_at (c : Fin 8) (e : Fin 768) (k : Fin 512) : inW m c (ix2 e k) = Wq (ix2 e ⟨512 * c.val + k.val, by omega⟩) := by
  rw [inW_eq, H.query]
  refine congrArg Wq (funext fun a => Fin.ext ?_)
  fin_cases a
  · rfl
  · show c.val * 512 + k.val = 512 * c.val + k.val
    omega

theorem inO_at (c : Fin 8) (k : Fin 512) (n : Fin 768) : inO m c (ix2 k n) = Wo (ix2 ⟨512 * c.val + k.val, by omega⟩ n) := by
  rw [inO_eq, H.out]
  refine congrArg Wo (funext fun a => Fin.ext ?_)
  fin_cases a
  · show c.val * 512 + k.val = 512 * c.val + k.val
    omega
  · rfl

/-- A device's context is its eight heads of the reference's. -/
theorem ctx_same (c : Fin 8) (b : Fin 2) (i : Fin 512) (k : Fin 512) :
    ctxV (inX m c) (inW m c) (inK m c) (inV m c) (ix2 ⟨512 * b.val + i.val, by omega⟩ k)
      = Cert.ReferenceIdeal.Rows.context V (Cert.ReferenceIdeal.Rows.weights (Cert.ReferenceIdeal.Rows.scores X Wq K))
        (ix3 b i ⟨512 * c.val + k.val, by omega⟩) := by
  have hk : k = ⟨64 * (⟨k.val / 64, by omega⟩ : Fin 8).val + (⟨k.val % 64, by omega⟩ : Fin 64).val, by dsimp only; omega⟩ :=
    Fin.ext (by dsimp only; omega)
  have hg : (⟨512 * c.val + k.val, by omega⟩ : Fin 4096)
      = ⟨64 * (⟨8 * c.val + k.val / 64, by omega⟩ : Fin 64).val + (⟨k.val % 64, by omega⟩ : Fin 64).val, by dsimp only; omega⟩ :=
    Fin.ext (by dsimp only; omega)
  rw [hg, Cert.ReferenceIdeal.Rows.head_at]
  conv_lhs => rw [hk]
  rw [ctx_at]
  have hq : ∀ d : Fin 64, (∑ e : Fin 768, inX m c (ix2 ⟨512 * b.val + i.val, by omega⟩ e) * inW m c (ix2 e ⟨64 * (k.val / 64) + d.val, by omega⟩))
      = ∑ e : Fin 768, X (ix3 b i e) * Wq (ix2 e ⟨64 * (8 * c.val + k.val / 64) + d.val, by omega⟩) := fun d =>
    Finset.sum_congr rfl fun e _ => by
      rw [inX_at H, inW_at H]
      exact congrArg (fun z : Fin 4096 => X (ix3 b i e) * Wq (ix2 e z)) (Fin.ext (by dsimp only; omega))
  have hK : ∀ (j : Fin 512) (d : Fin 64), inK m c (ix4 b ⟨k.val / 64, by omega⟩ j d) = K (ix4 b j ⟨8 * c.val + k.val / 64, by omega⟩ d) := fun j d => by
    rw [inK_eq, H.keys, heads_at]
  have hV : ∀ (j : Fin 512) (d : Fin 64), inV m c (ix4 b ⟨k.val / 64, by omega⟩ j d) = V (ix4 b j ⟨8 * c.val + k.val / 64, by omega⟩ d) := fun j d => by
    rw [inV_eq, H.vals, heads_at]
  simp only [hq, hK, hV]

/-- A device's addend at one place. -/
theorem addend_same (c : Fin 8) (b : Fin 2) (i : Fin 512) (n : Fin 768) :
    AA m c (512 * b.val + i.val) n.val
      = ∑ k : Fin 512, Cert.ReferenceIdeal.Rows.context V (Cert.ReferenceIdeal.Rows.weights (Cert.ReferenceIdeal.Rows.scores X Wq K))
          (ix3 b i ⟨512 * c.val + k.val, by omega⟩) * Wo (ix2 ⟨512 * c.val + k.val, by omega⟩ n) := by
  have h1 : AA m c (512 * b.val + i.val) n.val
      = prodV (inX m c) (inW m c) (inK m c) (inV m c) (inO m c) (ix2 ⟨512 * b.val + i.val, by omega⟩ n) :=
    congrFun (fill_tabOf outM c (prodV (inX m c) (inW m c) (inK m c) (inV m c) (inO m c))) (ix2 ⟨512 * b.val + i.val, by omega⟩ n)
  rw [h1]
  unfold prodV
  rw [addend_at]
  refine Finset.sum_congr rfl fun k _ => ?_
  rw [ctx_same H, inO_at H]

/-- Every device's result is the reference's. -/
theorem out_same (c : Dev nD) : V3 m (outs m) c main_v19 = Cert.ReferenceIdeal.Rows.result X Wq K V Wo := by
  rw [V3_out]
  funext y
  obtain ⟨b, i, n, rfl⟩ : ∃ (b : Fin 2) (i : Fin 512) (n : Fin 768), y = ix3 b i n := ⟨y 0, y 1, y 2, by
    funext a; fin_cases a <;> rfl⟩
  rw [Cert.ReferenceIdeal.Rows.result_at, sum_split 8 512 rfl]
  refine (split_at (sumV (AA m)) b i n).trans ?_
  refine (total (AA m) _ _ _).trans (Finset.sum_congr rfl fun d _ => ?_)
  exact addend_same H d b i n

end Values

/-- The kernel and the reference, run on the same inputs at exact numbers, end with the same result. -/
theorem same_result : Cert.algebraic_KernelIdeal_ReferenceIdeal := by
  intro m ρ m' ρ' _ h
  have H : Held m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (h c).1, fun c => (h c).2.1, fun c => (h c).2.2.1, fun c => (h c).2.2.2.1, fun c => (h c).2.2.2.2⟩
  refine ⟨Cert.ReferenceIdeal.Value.res_main_v33 m' 0, ?_, ?_⟩
  · refine (θ_run Cert.KernelIdeal.defs _ _).mono (fun _ r c => ⟨(r.1 c).1.trans ?_, (r.1 c).2⟩) (run_main (F := Ideal) m ρ)
    exact (out_same H c).trans (Cert.ReferenceIdeal.Rows.res_eq m' 0).symm
  · exact (θ_run Cert.ReferenceIdeal.defs _ _).mono (fun _ r => r 0) (Cert.ReferenceIdeal.Value.run (F := Ideal) m' ρ')

end Cert.KernelIdeal.Cube

end
-- ==== Proof.lean ====
/-
# The claims, gathered
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Same

@[expose] public section

noncomputable section

namespace Cert.Proof

theorem claim : Cert.Claim := ⟨Cert.Kernel.Gen.facts, Cert.KernelIdeal.Gen.facts, Cert.ReferenceIdeal.Gen.facts,
  Cert.KernelIdeal.Cube.frame_kernel, Cert.KernelIdeal.Cube.frame_ideal, Cert.KernelIdeal.Cube.frame_reference, trivial,
  Cert.KernelIdeal.Cube.same_result⟩

end Cert.Proof

end
